-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_EvenConv (m : (ℓ : Loc Cert.EvenConv.nD Cert.EvenConv.τ Cert.EvenConv.sig) → Buf (Elt Bits) ℓ) : Prop :=
  True

def Pre_EvenConvIdeal (m : (ℓ : Loc Cert.EvenConvIdeal.nD Cert.EvenConvIdeal.τ Cert.EvenConvIdeal.sig) → Buf (Elt Ideal) ℓ) : Prop :=
  True

def Pre_EvenConvRefIdeal (m : (ℓ : Loc Cert.EvenConvRefIdeal.nD Cert.EvenConvRefIdeal.τ Cert.EvenConvRefIdeal.sig) → Buf (Elt Ideal) ℓ) : Prop :=
  True

def Pre_OddConv (m : (ℓ : Loc Cert.OddConv.nD Cert.OddConv.τ Cert.OddConv.sig) → Buf (Elt Bits) ℓ) : Prop :=
  True

def Pre_OddConvIdeal (m : (ℓ : Loc Cert.OddConvIdeal.nD Cert.OddConvIdeal.τ Cert.OddConvIdeal.sig) → Buf (Elt Ideal) ℓ) : Prop :=
  True

def Pre_OddConvRefIdeal (m : (ℓ : Loc Cert.OddConvRefIdeal.nD Cert.OddConvRefIdeal.τ Cert.OddConvRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9)
      ∧ r.2.mem ((c.tc : Thread Cert.EvenOut.nD Cert.EvenOut.τ).loc Cert.EvenOut.main_arg10) = m ((c.tc : Thread Cert.EvenOut.nD Cert.EvenOut.τ).loc Cert.EvenOut.main_arg10)
      ∧ r.2.mem ((c.tc : Thread Cert.EvenOut.nD Cert.EvenOut.τ).loc Cert.EvenOut.main_arg11) = m ((c.tc : Thread Cert.EvenOut.nD Cert.EvenOut.τ).loc Cert.EvenOut.main_arg11)
      ∧ r.2.mem ((c.tc : Thread Cert.EvenOut.nD Cert.EvenOut.τ).loc Cert.EvenOut.main_arg12) = m ((c.tc : Thread Cert.EvenOut.nD Cert.EvenOut.τ).loc Cert.EvenOut.main_arg12))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
      ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
      ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
      ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8)
      ∧ r.2.mem ((c.tc : Thread Cert.EvenOutRefIdeal.nD Cert.EvenOutRefIdeal.τ).loc Cert.EvenOutRefIdeal.main_arg9) = m ((c.tc : Thread Cert.EvenOutRefIdeal.nD Cert.EvenOutRefIdeal.τ).loc Cert.EvenOutRefIdeal.main_arg9)
      ∧ r.2.mem ((c.tc : Thread Cert.EvenOutRefIdeal.nD Cert.EvenOutRefIdeal.τ).loc Cert.EvenOutRefIdeal.main_arg10) = m ((c.tc : Thread Cert.EvenOutRefIdeal.nD Cert.EvenOutRefIdeal.τ).loc Cert.EvenOutRefIdeal.main_arg10)
      ∧ r.2.mem ((c.tc : Thread Cert.EvenOutRefIdeal.nD Cert.EvenOutRefIdeal.τ).loc Cert.EvenOutRefIdeal.main_arg11) = m ((c.tc : Thread Cert.EvenOutRefIdeal.nD Cert.EvenOutRefIdeal.τ).loc Cert.EvenOutRefIdeal.main_arg11)
      ∧ r.2.mem ((c.tc : Thread Cert.EvenOutRefIdeal.nD Cert.EvenOutRefIdeal.τ).loc Cert.EvenOutRefIdeal.main_arg12) = m ((c.tc : Thread Cert.EvenOutRefIdeal.nD Cert.EvenOutRefIdeal.τ).loc Cert.EvenOutRefIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_EvenConv [hEvenConv : Cert.EvenConv.Facts] : Prop :=
  ∀ (m : (ℓ : Loc Cert.EvenConv.nD Cert.EvenConv.τ Cert.EvenConv.sig) → Buf (Elt Bits) ℓ) (g : Dev Cert.EvenConv.nD → PrngReg), Pre_EvenConv m →
    θ_run (Cert.EvenConv.defs (F := Bits)) (onTc (τ := Cert.EvenConv.τ) (Cert.EvenConv.main (F := Bits))) ⟨m, fun _ => 0, g⟩ (fun r => (∀ c : Dev Cert.EvenConv.nD,
      r.2.mem ((c.tc : Thread Cert.EvenConv.nD Cert.EvenConv.τ).loc Cert.EvenConv.main_arg0) = m ((c.tc : Thread Cert.EvenConv.nD Cert.EvenConv.τ).loc Cert.EvenConv.main_arg0)
      ∧ r.2.mem ((c.tc : Thread Cert.EvenConv.nD Cert.EvenConv.τ).loc Cert.EvenConv.main_arg1) = m ((c.tc : Thread Cert.EvenConv.nD Cert.EvenConv.τ).loc Cert.EvenConv.main_arg1)
      ∧ r.2.mem ((c.tc : Thread Cert.EvenConv.nD Cert.EvenConv.τ).loc Cert.EvenConv.main_arg2) = m ((c.tc : Thread Cert.EvenConv.nD Cert.EvenConv.τ).loc Cert.EvenConv.main_arg2))
      ∧ r.2.sem = fun _ => 0)

def quiescent_EvenConvIdeal [hEvenConvIdeal : Cert.EvenConvIdeal.Facts] : Prop :=
  ∀ (m : (ℓ : Loc Cert.EvenConvIdeal.nD Cert.EvenConvIdeal.τ Cert.EvenConvIdeal.sig) → Buf (Elt Ideal) ℓ) (g : Dev Cert.EvenConvIdeal.nD → PrngReg), Pre_EvenConvIdeal m →
    θ_run (Cert.EvenConvIdeal.defs (F := Ideal)) (onTc (τ := Cert.EvenConvIdeal.τ) (Cert.EvenConvIdeal.main (F := Ideal))) ⟨m, fun _ => 0, g⟩ (fun r => (∀ c : Dev Cert.EvenConvIdeal.nD,
      r.2.mem ((c.tc : Thread Cert.EvenConvIdeal.nD Cert.EvenConvIdeal.τ).loc Cert.EvenConvIdeal.main_arg0) = m ((c.tc : Thread Cert.EvenConvIdeal.nD Cert.EvenConvIdeal.τ).loc Cert.EvenConvIdeal.main_arg0)
      ∧ r.2.mem ((c.tc : Thread Cert.EvenConvIdeal.nD Cert.EvenConvIdeal.τ).loc Cert.EvenConvIdeal.main_arg1) = m ((c.tc : Thread Cert.EvenConvIdeal.nD Cert.EvenConvIdeal.τ).loc Cert.EvenConvIdeal.main_arg1)
      ∧ r.2.mem ((c.tc : Thread Cert.EvenConvIdeal.nD Cert.EvenConvIdeal.τ).loc Cert.EvenConvIdeal.main_arg2) = m ((c.tc : Thread Cert.EvenConvIdeal.nD Cert.EvenConvIdeal.τ).loc Cert.EvenConvIdeal.main_arg2))
      ∧ r.2.sem = fun _ => 0)

def quiescent_EvenConvRefIdeal [hEvenConvRefIdeal : Cert.EvenConvRefIdeal.Facts] : Prop :=
  ∀ (m : (ℓ : Loc Cert.EvenConvRefIdeal.nD Cert.EvenConvRefIdeal.τ Cert.EvenConvRefIdeal.sig) → Buf (Elt Ideal) ℓ) (g : Dev Cert.EvenConvRefIdeal.nD → PrngReg), Pre_EvenConvRefIdeal m →
    θ_run (Cert.EvenConvRefIdeal.defs (F := Ideal)) (onTc (τ := Cert.EvenConvRefIdeal.τ) (Cert.EvenConvRefIdeal.main (F := Ideal))) ⟨m, fun _ => 0, g⟩ (fun r => (∀ c : Dev Cert.EvenConvRefIdeal.nD,
      r.2.mem ((c.tc : Thread Cert.EvenConvRefIdeal.nD Cert.EvenConvRefIdeal.τ).loc Cert.EvenConvRefIdeal.main_arg0) = m ((c.tc : Thread Cert.EvenConvRefIdeal.nD Cert.EvenConvRefIdeal.τ).loc Cert.EvenConvRefIdeal.main_arg0)
      ∧ r.2.mem ((c.tc : Thread Cert.EvenConvRefIdeal.nD Cert.EvenConvRefIdeal.τ).loc Cert.EvenConvRefIdeal.main_arg1) = m ((c.tc : Thread Cert.EvenConvRefIdeal.nD Cert.EvenConvRefIdeal.τ).loc Cert.EvenConvRefIdeal.main_arg1)
      ∧ r.2.mem ((c.tc : Thread Cert.EvenConvRefIdeal.nD Cert.EvenConvRefIdeal.τ).loc Cert.EvenConvRefIdeal.main_arg2) = m ((c.tc : Thread Cert.EvenConvRefIdeal.nD Cert.EvenConvRefIdeal.τ).loc Cert.EvenConvRefIdeal.main_arg2))
      ∧ r.2.sem = fun _ => 0)

def quiescent_OddConv [hOddConv : Cert.OddConv.Facts] : Prop :=
  ∀ (m : (ℓ : Loc Cert.OddConv.nD Cert.OddConv.τ Cert.OddConv.sig) → Buf (Elt Bits) ℓ) (g : Dev Cert.OddConv.nD → PrngReg), Pre_OddConv m →
    θ_run (Cert.OddConv.defs (F := Bits)) (onTc (τ := Cert.OddConv.τ) (Cert.OddConv.main (F := Bits))) ⟨m, fun _ => 0, g⟩ (fun r => (∀ c : Dev Cert.OddConv.nD,
      r.2.mem ((c.tc : Thread Cert.OddConv.nD Cert.OddConv.τ).loc Cert.OddConv.main_arg0) = m ((c.tc : Thread Cert.OddConv.nD Cert.OddConv.τ).loc Cert.OddConv.main_arg0)
      ∧ r.2.mem ((c.tc : Thread Cert.OddConv.nD Cert.OddConv.τ).loc Cert.OddConv.main_arg1) = m ((c.tc : Thread Cert.OddConv.nD Cert.OddConv.τ).loc Cert.OddConv.main_arg1)
      ∧ r.2.mem ((c.tc : Thread Cert.OddConv.nD Cert.OddConv.τ).loc Cert.OddConv.main_arg2) = m ((c.tc : Thread Cert.OddConv.nD Cert.OddConv.τ).loc Cert.OddConv.main_arg2))
      ∧ r.2.sem = fun _ => 0)

def quiescent_OddConvIdeal [hOddConvIdeal : Cert.OddConvIdeal.Facts] : Prop :=
  ∀ (m : (ℓ : Loc Cert.OddConvIdeal.nD Cert.OddConvIdeal.τ Cert.OddConvIdeal.sig) → Buf (Elt Ideal) ℓ) (g : Dev Cert.OddConvIdeal.nD → PrngReg), Pre_OddConvIdeal m →
    θ_run (Cert.OddConvIdeal.defs (F := Ideal)) (onTc (τ := Cert.OddConvIdeal.τ) (Cert.OddConvIdeal.main (F := Ideal))) ⟨m, fun _ => 0, g⟩ (fun r => (∀ c : Dev Cert.OddConvIdeal.nD,
      r.2.mem ((c.tc : Thread Cert.OddConvIdeal.nD Cert.OddConvIdeal.τ).loc Cert.OddConvIdeal.main_arg0) = m ((c.tc : Thread Cert.OddConvIdeal.nD Cert.OddConvIdeal.τ).loc Cert.OddConvIdeal.main_arg0)
      ∧ r.2.mem ((c.tc : Thread Cert.OddConvIdeal.nD Cert.OddConvIdeal.τ).loc Cert.OddConvIdeal.main_arg1) = m ((c.tc : Thread Cert.OddConvIdeal.nD Cert.OddConvIdeal.τ).loc Cert.OddConvIdeal.main_arg1)
      ∧ r.2.mem ((c.tc : Thread Cert.OddConvIdeal.nD Cert.OddConvIdeal.τ).loc Cert.OddConvIdeal.main_arg2) = m ((c.tc : Thread Cert.OddConvIdeal.nD Cert.OddConvIdeal.τ).loc Cert.OddConvIdeal.main_arg2))
      ∧ r.2.sem = fun _ => 0)

def quiescent_OddConvRefIdeal [hOddConvRefIdeal : Cert.OddConvRefIdeal.Facts] : Prop :=
  ∀ (m : (ℓ : Loc Cert.OddConvRefIdeal.nD Cert.OddConvRefIdeal.τ Cert.OddConvRefIdeal.sig) → Buf (Elt Ideal) ℓ) (g : Dev Cert.OddConvRefIdeal.nD → PrngReg), Pre_OddConvRefIdeal m →
    θ_run (Cert.OddConvRefIdeal.defs (F := Ideal)) (onTc (τ := Cert.OddConvRefIdeal.τ) (Cert.OddConvRefIdeal.main (F := Ideal))) ⟨m, fun _ => 0, g⟩ (fun r => (∀ c : Dev Cert.OddConvRefIdeal.nD,
      r.2.mem ((c.tc : Thread Cert.OddConvRefIdeal.nD Cert.OddConvRefIdeal.τ).loc Cert.OddConvRefIdeal.main_arg0) = m ((c.tc : Thread Cert.OddConvRefIdeal.nD Cert.OddConvRefIdeal.τ).loc Cert.OddConvRefIdeal.main_arg0)
      ∧ r.2.mem ((c.tc : Thread Cert.OddConvRefIdeal.nD Cert.OddConvRefIdeal.τ).loc Cert.OddConvRefIdeal.main_arg1) = m ((c.tc : Thread Cert.OddConvRefIdeal.nD Cert.OddConvRefIdeal.τ).loc Cert.OddConvRefIdeal.main_arg1)
      ∧ r.2.mem ((c.tc : Thread Cert.OddConvRefIdeal.nD Cert.OddConvRefIdeal.τ).loc Cert.OddConvRefIdeal.main_arg2) = m ((c.tc : Thread Cert.OddConvRefIdeal.nD Cert.OddConvRefIdeal.τ).loc Cert.OddConvRefIdeal.main_arg2))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2)
      ∧ r.2.mem ((c.tc : Thread Cert.Values.nD Cert.Values.τ).loc Cert.Values.main_arg3) = m ((c.tc : Thread Cert.Values.nD Cert.Values.τ).loc Cert.Values.main_arg3)
      ∧ r.2.mem ((c.tc : Thread Cert.Values.nD Cert.Values.τ).loc Cert.Values.main_arg4) = m ((c.tc : Thread Cert.Values.nD Cert.Values.τ).loc Cert.Values.main_arg4))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v11)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v11) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v58) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v17_0)) (v1 : (c : Dev Cert.OddInIdeal.nD) → Buf (Elt Ideal) ((c.tc : Thread Cert.OddInIdeal.nD Cert.OddInIdeal.τ).loc Cert.OddInIdeal.main_v17_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v17_0) = v0 c
          ∧ r.2.mem ((c.tc : Thread Cert.OddInIdeal.nD Cert.OddInIdeal.τ).loc Cert.OddInIdeal.main_v17_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v80) = v0 c
          ∧ r.2.mem ((c.tc : Thread Cert.OddInRefIdeal.nD Cert.OddInRefIdeal.τ).loc Cert.OddInRefIdeal.main_v79) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)) →
    ∃ (v0 : (c : Dev Cert.OddOutIdeal.nD) → Buf (Elt Ideal) ((c.tc : Thread Cert.OddOutIdeal.nD Cert.OddOutIdeal.τ).loc Cert.OddOutIdeal.main_v19_0)) (v1 : (c : Dev Cert.OddOutIdeal.nD) → Buf (Elt Ideal) ((c.tc : Thread Cert.OddOutIdeal.nD Cert.OddOutIdeal.τ).loc Cert.OddOutIdeal.main_v19_1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v19_0) = v0 c
          ∧ r.2.mem ((c.tc : Thread Cert.OddOutIdeal.nD Cert.OddOutIdeal.τ).loc Cert.OddOutIdeal.main_v19_1) = v1 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v43) = v0 c
          ∧ r.2.mem ((c.tc : Thread Cert.OddOutRefIdeal.nD Cert.OddOutRefIdeal.τ).loc Cert.OddOutRefIdeal.main_v70) = v1 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v18) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)
      ∧ m' ((c.tc : Thread Cert.EvenOutRefIdeal.nD Cert.EvenOutRefIdeal.τ).loc Cert.EvenOutRefIdeal.main_arg10) = m ((c.tc : Thread Cert.EvenOutIdeal.nD Cert.EvenOutIdeal.τ).loc Cert.EvenOutIdeal.main_arg10)
      ∧ m' ((c.tc : Thread Cert.EvenOutRefIdeal.nD Cert.EvenOutRefIdeal.τ).loc Cert.EvenOutRefIdeal.main_arg11) = m ((c.tc : Thread Cert.EvenOutIdeal.nD Cert.EvenOutIdeal.τ).loc Cert.EvenOutIdeal.main_arg11)
      ∧ m' ((c.tc : Thread Cert.EvenOutRefIdeal.nD Cert.EvenOutRefIdeal.τ).loc Cert.EvenOutRefIdeal.main_arg12) = m ((c.tc : Thread Cert.EvenOutIdeal.nD Cert.EvenOutIdeal.τ).loc Cert.EvenOutIdeal.main_arg12)) →
    ∃ (v0 : (c : Dev Cert.EvenOutIdeal.nD) → Buf (Elt Ideal) ((c.tc : Thread Cert.EvenOutIdeal.nD Cert.EvenOutIdeal.τ).loc Cert.EvenOutIdeal.main_v50_0)) (v1 : (c : Dev Cert.EvenOutIdeal.nD) → Buf (Elt Ideal) ((c.tc : Thread Cert.EvenOutIdeal.nD Cert.EvenOutIdeal.τ).loc Cert.EvenOutIdeal.main_v50_1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v50_0) = v0 c
          ∧ r.2.mem ((c.tc : Thread Cert.EvenOutIdeal.nD Cert.EvenOutIdeal.τ).loc Cert.EvenOutIdeal.main_v50_1) = v1 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
          ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
          ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
          ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v148) = v0 c
          ∧ r.2.mem ((c.tc : Thread Cert.EvenOutRefIdeal.nD Cert.EvenOutRefIdeal.τ).loc Cert.EvenOutRefIdeal.main_v149) = v1 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8)
          ∧ r.2.mem ((c.tc : Thread Cert.EvenOutRefIdeal.nD Cert.EvenOutRefIdeal.τ).loc Cert.EvenOutRefIdeal.main_arg9) = m' ((c.tc : Thread Cert.EvenOutRefIdeal.nD Cert.EvenOutRefIdeal.τ).loc Cert.EvenOutRefIdeal.main_arg9)
          ∧ r.2.mem ((c.tc : Thread Cert.EvenOutRefIdeal.nD Cert.EvenOutRefIdeal.τ).loc Cert.EvenOutRefIdeal.main_arg10) = m' ((c.tc : Thread Cert.EvenOutRefIdeal.nD Cert.EvenOutRefIdeal.τ).loc Cert.EvenOutRefIdeal.main_arg10)
          ∧ r.2.mem ((c.tc : Thread Cert.EvenOutRefIdeal.nD Cert.EvenOutRefIdeal.τ).loc Cert.EvenOutRefIdeal.main_arg11) = m' ((c.tc : Thread Cert.EvenOutRefIdeal.nD Cert.EvenOutRefIdeal.τ).loc Cert.EvenOutRefIdeal.main_arg11)
          ∧ r.2.mem ((c.tc : Thread Cert.EvenOutRefIdeal.nD Cert.EvenOutRefIdeal.τ).loc Cert.EvenOutRefIdeal.main_arg12) = m' ((c.tc : Thread Cert.EvenOutRefIdeal.nD Cert.EvenOutRefIdeal.τ).loc Cert.EvenOutRefIdeal.main_arg12))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v42) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_EvenConv_EvenConvIdeal : Prop :=
  True

def algebraic_EvenConvIdeal_EvenConvRefIdeal [hEvenConvIdeal : Cert.EvenConvIdeal.Facts] [hEvenConvRefIdeal : Cert.EvenConvRefIdeal.Facts] : Prop :=
  ∀ (m : (ℓ : Loc Cert.EvenConvIdeal.nD Cert.EvenConvIdeal.τ Cert.EvenConvIdeal.sig) → Buf (Elt Ideal) ℓ) (g : Dev Cert.EvenConvIdeal.nD → PrngReg)
    (m' : (ℓ : Loc Cert.EvenConvRefIdeal.nD Cert.EvenConvRefIdeal.τ Cert.EvenConvRefIdeal.sig) → Buf (Elt Ideal) ℓ) (g' : Dev Cert.EvenConvRefIdeal.nD → PrngReg), Pre_EvenConvIdeal m →
    (∀ c : Dev Cert.EvenConvIdeal.nD,
      m' ((c.tc : Thread Cert.EvenConvRefIdeal.nD Cert.EvenConvRefIdeal.τ).loc Cert.EvenConvRefIdeal.main_arg0) = m ((c.tc : Thread Cert.EvenConvIdeal.nD Cert.EvenConvIdeal.τ).loc Cert.EvenConvIdeal.main_arg0)
      ∧ m' ((c.tc : Thread Cert.EvenConvRefIdeal.nD Cert.EvenConvRefIdeal.τ).loc Cert.EvenConvRefIdeal.main_arg1) = m ((c.tc : Thread Cert.EvenConvIdeal.nD Cert.EvenConvIdeal.τ).loc Cert.EvenConvIdeal.main_arg1)
      ∧ m' ((c.tc : Thread Cert.EvenConvRefIdeal.nD Cert.EvenConvRefIdeal.τ).loc Cert.EvenConvRefIdeal.main_arg2) = m ((c.tc : Thread Cert.EvenConvIdeal.nD Cert.EvenConvIdeal.τ).loc Cert.EvenConvIdeal.main_arg2)) →
    ∃ (v0 : (c : Dev Cert.EvenConvIdeal.nD) → Buf (Elt Ideal) ((c.tc : Thread Cert.EvenConvIdeal.nD Cert.EvenConvIdeal.τ).loc Cert.EvenConvIdeal.main_v3)),
      θ_run (Cert.EvenConvIdeal.defs (F := Ideal)) (onTc (τ := Cert.EvenConvIdeal.τ) (Cert.EvenConvIdeal.main (F := Ideal))) ⟨m, fun _ => 0, g⟩ (fun r => ∀ c : Dev Cert.EvenConvIdeal.nD,
          r.2.mem ((c.tc : Thread Cert.EvenConvIdeal.nD Cert.EvenConvIdeal.τ).loc Cert.EvenConvIdeal.main_v3) = v0 c
          ∧ r.2.mem ((c.tc : Thread Cert.EvenConvIdeal.nD Cert.EvenConvIdeal.τ).loc Cert.EvenConvIdeal.main_arg0) = m ((c.tc : Thread Cert.EvenConvIdeal.nD Cert.EvenConvIdeal.τ).loc Cert.EvenConvIdeal.main_arg0)
          ∧ r.2.mem ((c.tc : Thread Cert.EvenConvIdeal.nD Cert.EvenConvIdeal.τ).loc Cert.EvenConvIdeal.main_arg1) = m ((c.tc : Thread Cert.EvenConvIdeal.nD Cert.EvenConvIdeal.τ).loc Cert.EvenConvIdeal.main_arg1)
          ∧ r.2.mem ((c.tc : Thread Cert.EvenConvIdeal.nD Cert.EvenConvIdeal.τ).loc Cert.EvenConvIdeal.main_arg2) = m ((c.tc : Thread Cert.EvenConvIdeal.nD Cert.EvenConvIdeal.τ).loc Cert.EvenConvIdeal.main_arg2))
      ∧ θ_run (Cert.EvenConvRefIdeal.defs (F := Ideal)) (onTc (τ := Cert.EvenConvRefIdeal.τ) (Cert.EvenConvRefIdeal.main (F := Ideal))) ⟨m', fun _ => 0, g'⟩ (fun r => ∀ c : Dev Cert.EvenConvRefIdeal.nD,
          r.2.mem ((c.tc : Thread Cert.EvenConvRefIdeal.nD Cert.EvenConvRefIdeal.τ).loc Cert.EvenConvRefIdeal.main_v68) = v0 c
          ∧ r.2.mem ((c.tc : Thread Cert.EvenConvRefIdeal.nD Cert.EvenConvRefIdeal.τ).loc Cert.EvenConvRefIdeal.main_arg0) = m' ((c.tc : Thread Cert.EvenConvRefIdeal.nD Cert.EvenConvRefIdeal.τ).loc Cert.EvenConvRefIdeal.main_arg0)
          ∧ r.2.mem ((c.tc : Thread Cert.EvenConvRefIdeal.nD Cert.EvenConvRefIdeal.τ).loc Cert.EvenConvRefIdeal.main_arg1) = m' ((c.tc : Thread Cert.EvenConvRefIdeal.nD Cert.EvenConvRefIdeal.τ).loc Cert.EvenConvRefIdeal.main_arg1)
          ∧ r.2.mem ((c.tc : Thread Cert.EvenConvRefIdeal.nD Cert.EvenConvRefIdeal.τ).loc Cert.EvenConvRefIdeal.main_arg2) = m' ((c.tc : Thread Cert.EvenConvRefIdeal.nD Cert.EvenConvRefIdeal.τ).loc Cert.EvenConvRefIdeal.main_arg2))

def preserves_OddConv_OddConvIdeal : Prop :=
  True

def algebraic_OddConvIdeal_OddConvRefIdeal [hOddConvIdeal : Cert.OddConvIdeal.Facts] [hOddConvRefIdeal : Cert.OddConvRefIdeal.Facts] : Prop :=
  ∀ (m : (ℓ : Loc Cert.OddConvIdeal.nD Cert.OddConvIdeal.τ Cert.OddConvIdeal.sig) → Buf (Elt Ideal) ℓ) (g : Dev Cert.OddConvIdeal.nD → PrngReg)
    (m' : (ℓ : Loc Cert.OddConvRefIdeal.nD Cert.OddConvRefIdeal.τ Cert.OddConvRefIdeal.sig) → Buf (Elt Ideal) ℓ) (g' : Dev Cert.OddConvRefIdeal.nD → PrngReg), Pre_OddConvIdeal m →
    (∀ c : Dev Cert.OddConvIdeal.nD,
      m' ((c.tc : Thread Cert.OddConvRefIdeal.nD Cert.OddConvRefIdeal.τ).loc Cert.OddConvRefIdeal.main_arg0) = m ((c.tc : Thread Cert.OddConvIdeal.nD Cert.OddConvIdeal.τ).loc Cert.OddConvIdeal.main_arg0)
      ∧ m' ((c.tc : Thread Cert.OddConvRefIdeal.nD Cert.OddConvRefIdeal.τ).loc Cert.OddConvRefIdeal.main_arg1) = m ((c.tc : Thread Cert.OddConvIdeal.nD Cert.OddConvIdeal.τ).loc Cert.OddConvIdeal.main_arg1)
      ∧ m' ((c.tc : Thread Cert.OddConvRefIdeal.nD Cert.OddConvRefIdeal.τ).loc Cert.OddConvRefIdeal.main_arg2) = m ((c.tc : Thread Cert.OddConvIdeal.nD Cert.OddConvIdeal.τ).loc Cert.OddConvIdeal.main_arg2)) →
    ∃ (v0 : (c : Dev Cert.OddConvIdeal.nD) → Buf (Elt Ideal) ((c.tc : Thread Cert.OddConvIdeal.nD Cert.OddConvIdeal.τ).loc Cert.OddConvIdeal.main_v3)),
      θ_run (Cert.OddConvIdeal.defs (F := Ideal)) (onTc (τ := Cert.OddConvIdeal.τ) (Cert.OddConvIdeal.main (F := Ideal))) ⟨m, fun _ => 0, g⟩ (fun r => ∀ c : Dev Cert.OddConvIdeal.nD,
          r.2.mem ((c.tc : Thread Cert.OddConvIdeal.nD Cert.OddConvIdeal.τ).loc Cert.OddConvIdeal.main_v3) = v0 c
          ∧ r.2.mem ((c.tc : Thread Cert.OddConvIdeal.nD Cert.OddConvIdeal.τ).loc Cert.OddConvIdeal.main_arg0) = m ((c.tc : Thread Cert.OddConvIdeal.nD Cert.OddConvIdeal.τ).loc Cert.OddConvIdeal.main_arg0)
          ∧ r.2.mem ((c.tc : Thread Cert.OddConvIdeal.nD Cert.OddConvIdeal.τ).loc Cert.OddConvIdeal.main_arg1) = m ((c.tc : Thread Cert.OddConvIdeal.nD Cert.OddConvIdeal.τ).loc Cert.OddConvIdeal.main_arg1)
          ∧ r.2.mem ((c.tc : Thread Cert.OddConvIdeal.nD Cert.OddConvIdeal.τ).loc Cert.OddConvIdeal.main_arg2) = m ((c.tc : Thread Cert.OddConvIdeal.nD Cert.OddConvIdeal.τ).loc Cert.OddConvIdeal.main_arg2))
      ∧ θ_run (Cert.OddConvRefIdeal.defs (F := Ideal)) (onTc (τ := Cert.OddConvRefIdeal.τ) (Cert.OddConvRefIdeal.main (F := Ideal))) ⟨m', fun _ => 0, g'⟩ (fun r => ∀ c : Dev Cert.OddConvRefIdeal.nD,
          r.2.mem ((c.tc : Thread Cert.OddConvRefIdeal.nD Cert.OddConvRefIdeal.τ).loc Cert.OddConvRefIdeal.main_v70) = v0 c
          ∧ r.2.mem ((c.tc : Thread Cert.OddConvRefIdeal.nD Cert.OddConvRefIdeal.τ).loc Cert.OddConvRefIdeal.main_arg0) = m' ((c.tc : Thread Cert.OddConvRefIdeal.nD Cert.OddConvRefIdeal.τ).loc Cert.OddConvRefIdeal.main_arg0)
          ∧ r.2.mem ((c.tc : Thread Cert.OddConvRefIdeal.nD Cert.OddConvRefIdeal.τ).loc Cert.OddConvRefIdeal.main_arg1) = m' ((c.tc : Thread Cert.OddConvRefIdeal.nD Cert.OddConvRefIdeal.τ).loc Cert.OddConvRefIdeal.main_arg1)
          ∧ r.2.mem ((c.tc : Thread Cert.OddConvRefIdeal.nD Cert.OddConvRefIdeal.τ).loc Cert.OddConvRefIdeal.main_arg2) = m' ((c.tc : Thread Cert.OddConvRefIdeal.nD Cert.OddConvRefIdeal.τ).loc Cert.OddConvRefIdeal.main_arg2))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)
      ∧ m' ((c.tc : Thread Cert.ValuesRefIdeal.nD Cert.ValuesRefIdeal.τ).loc Cert.ValuesRefIdeal.main_arg3) = m ((c.tc : Thread Cert.ValuesIdeal.nD Cert.ValuesIdeal.τ).loc Cert.ValuesIdeal.main_arg3)
      ∧ m' ((c.tc : Thread Cert.ValuesRefIdeal.nD Cert.ValuesRefIdeal.τ).loc Cert.ValuesRefIdeal.main_arg4) = m ((c.tc : Thread Cert.ValuesIdeal.nD Cert.ValuesIdeal.τ).loc Cert.ValuesIdeal.main_arg4)) →
    ∃ (v0 : (c : Dev Cert.ValuesIdeal.nD) → Buf (Elt Ideal) ((c.tc : Thread Cert.ValuesIdeal.nD Cert.ValuesIdeal.τ).loc Cert.ValuesIdeal.main_v64_2)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v64_2) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
          ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
          ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v21) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2)
          ∧ r.2.mem ((c.tc : Thread Cert.ValuesRefIdeal.nD Cert.ValuesRefIdeal.τ).loc Cert.ValuesRefIdeal.main_arg3) = m' ((c.tc : Thread Cert.ValuesRefIdeal.nD Cert.ValuesRefIdeal.τ).loc Cert.ValuesRefIdeal.main_arg3)
          ∧ r.2.mem ((c.tc : Thread Cert.ValuesRefIdeal.nD Cert.ValuesRefIdeal.τ).loc Cert.ValuesRefIdeal.main_arg4) = m' ((c.tc : Thread Cert.ValuesRefIdeal.nD Cert.ValuesRefIdeal.τ).loc Cert.ValuesRefIdeal.main_arg4))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hLast : Cert.Last.Facts) (hLastIdeal : Cert.LastIdeal.Facts) (hLastRefIdeal : Cert.LastRefIdeal.Facts) (hEvenOut : Cert.EvenOut.Facts) (hEvenOutIdeal : Cert.EvenOutIdeal.Facts) (hEvenOutRefIdeal : Cert.EvenOutRefIdeal.Facts) (hMod : Cert.Mod.Facts) (hModIdeal : Cert.ModIdeal.Facts) (hModRefIdeal : Cert.ModRefIdeal.Facts) (hEvenConv : Cert.EvenConv.Facts) (hEvenConvIdeal : Cert.EvenConvIdeal.Facts) (hEvenConvRefIdeal : Cert.EvenConvRefIdeal.Facts) (hOddConv : Cert.OddConv.Facts) (hOddConvIdeal : Cert.OddConvIdeal.Facts) (hOddConvRefIdeal : Cert.OddConvRefIdeal.Facts) (hValues : Cert.Values.Facts) (hValuesIdeal : Cert.ValuesIdeal.Facts) (hValuesRefIdeal : Cert.ValuesRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Last (hLast := hLast)
    ∧ quiescent_LastIdeal (hLastIdeal := hLastIdeal)
    ∧ quiescent_LastRefIdeal (hLastRefIdeal := hLastRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Mod (hMod := hMod)
    ∧ quiescent_ModIdeal (hModIdeal := hModIdeal)
    ∧ quiescent_ModRefIdeal (hModRefIdeal := hModRefIdeal)
    ∧ quiescent_EvenConv (hEvenConv := hEvenConv)
    ∧ quiescent_EvenConvIdeal (hEvenConvIdeal := hEvenConvIdeal)
    ∧ quiescent_EvenConvRefIdeal (hEvenConvRefIdeal := hEvenConvRefIdeal)
    ∧ quiescent_OddConv (hOddConv := hOddConv)
    ∧ quiescent_OddConvIdeal (hOddConvIdeal := hOddConvIdeal)
    ∧ quiescent_OddConvRefIdeal (hOddConvRefIdeal := hOddConvRefIdeal)
    ∧ quiescent_Values (hValues := hValues)
    ∧ quiescent_ValuesIdeal (hValuesIdeal := hValuesIdeal)
    ∧ quiescent_ValuesRefIdeal (hValuesRefIdeal := hValuesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_Last_LastIdeal
    ∧ algebraic_LastIdeal_LastRefIdeal (hLastIdeal := hLastIdeal) (hLastRefIdeal := hLastRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Mod_ModIdeal
    ∧ algebraic_ModIdeal_ModRefIdeal (hModIdeal := hModIdeal) (hModRefIdeal := hModRefIdeal)
    ∧ preserves_EvenConv_EvenConvIdeal
    ∧ algebraic_EvenConvIdeal_EvenConvRefIdeal (hEvenConvIdeal := hEvenConvIdeal) (hEvenConvRefIdeal := hEvenConvRefIdeal)
    ∧ preserves_OddConv_OddConvIdeal
    ∧ algebraic_OddConvIdeal_OddConvRefIdeal (hOddConvIdeal := hOddConvIdeal) (hOddConvRefIdeal := hOddConvRefIdeal)
    ∧ preserves_Values_ValuesIdeal
    ∧ algebraic_ValuesIdeal_ValuesRefIdeal (hValuesIdeal := hValuesIdeal) (hValuesRefIdeal := hValuesRefIdeal)
-- ==== Pre_finite.lean ====
abbrev S2x8448x1024 : Shape := ⟨3, ![2, 8448, 1024]⟩
abbrev S_ : Shape := ⟨0, ![]⟩

class Facts : Prop where
  bitsLt_bf16_f32 : FTy.bits .bf16 < FTy.bits .f32
  bcast_S_S2x8448x1024 : S_.BroadcastsInDim S2x8448x1024 (![] : Fin 0 → Fin S2x8448x1024.rank)

variable [Facts]

def fn {F : FTy → Type} [FloatOps F] (main_arg0 : FVec F S2x8448x1024 .bf16) (main_arg1 : FVec F S2x8448x1024 .bf16) (main_arg2 : FVec F S2x8448x1024 .bf16) : IVec S2x8448x1024 1 :=
  let main_v0 : FVec F S2x8448x1024 .f32 := (extf .f32 · bitsLt_bf16_f32) main_arg0
  let main_v1 : FVec F S2x8448x1024 .f32 := Host.absf main_v0
  let main_cst : FVec F S_ .f32 := constant S_ .f32 0x7F800000#32
  let main_v2 : FVec F S2x8448x1024 .f32 := broadcastInDim S2x8448x1024 ![] bcast_S_S2x8448x1024 main_cst
  let main_v3 : IVec S2x8448x1024 1 := cmpf .olt main_v1 main_v2
  let main_v4 : FVec F S2x8448x1024 .f32 := (extf .f32 · bitsLt_bf16_f32) main_arg1
  let main_v5 : FVec F S2x8448x1024 .f32 := Host.absf main_v4
  let main_cst_0 : FVec F S_ .f32 := constant S_ .f32 0x7F800000#32
  let main_v6 : FVec F S2x8448x1024 .f32 := broadcastInDim S2x8448x1024 ![] bcast_S_S2x8448x1024 main_cst_0
  let main_v7 : IVec S2x8448x1024 1 := cmpf .olt main_v5 main_v6
  let main_v8 : IVec S2x8448x1024 1 := andi main_v3 main_v7
  main_v8
-- ==== Kernel.lean ====
abbrev S2x8448x1024 : Shape := ⟨3, ![2, 8448, 1024]⟩
abbrev S2x8192x1024 : Shape := ⟨3, ![2, 8192, 1024]⟩
abbrev S1x256x128 : Shape := ⟨3, ![1, 256, 128]⟩
abbrev S1x8448x128 : Shape := ⟨3, ![1, 8448, 128]⟩
abbrev S1x128x128 : Shape := ⟨3, ![1, 128, 128]⟩
abbrev S128x128 : Shape := ⟨2, ![128, 128]⟩
abbrev S8448x128 : Shape := ⟨2, ![8448, 128]⟩
abbrev S128x8448 : Shape := ⟨2, ![128, 8448]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8192x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x128, .f32⟩
  | .local _ .vmem, ⟨7, _⟩ => ⟨S1x256x128, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8448x1024 : Shape := ⟨3, ![2, 8448, 1024]⟩
abbrev S2x8448x8x128 : Shape := ⟨4, ![2, 8448, 8, 128]⟩
abbrev S2x8192x8x128 : Shape := ⟨4, ![2, 8192, 8, 128]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x1024, .f32⟩
  | .hbm, ⟨4, _⟩ => ⟨S2x8448x8x128, .f32⟩
  | .hbm, ⟨5, _⟩ => ⟨S2x8192x8x128, .f32⟩
  | .hbm, ⟨6, _⟩ => ⟨S2x8448x1024, .f32⟩
  | .hbm, ⟨7, _⟩ => ⟨S2x8448x8x128, .f32⟩
  | .hbm, ⟨8, _⟩ => ⟨S2x8448x1024, .f32⟩
  | .hbm, ⟨9, _⟩ => ⟨S2x8448x8x128, .f32⟩
  | .hbm, ⟨10, _⟩ => ⟨S2x8x8192x8448, .f32⟩
  | .hbm, ⟨11, _⟩ => ⟨S_, .f32⟩
  | .hbm, ⟨12, _⟩ => ⟨S2x8x8192, .f32⟩
  | .hbm, ⟨13, _⟩ => ⟨S_, .f32⟩
  | .hbm, ⟨14, _⟩ => ⟨S2x8x8192, .f32⟩
  | .hbm, ⟨15, _⟩ => ⟨S2x8x8192, .f32⟩
  | .hbm, ⟨16, _⟩ => ⟨S2x8x8192x1, .f32⟩
  | .hbm, ⟨17, _⟩ => ⟨S2x8x8192x8448, .f32⟩
  | .hbm, ⟨18, _⟩ => ⟨S2x8x8192x8448, .f32⟩
  | .hbm, ⟨19, _⟩ => ⟨S2x8x8192x8448, .f32⟩
  | .hbm, ⟨20, _⟩ => ⟨S_, .f32⟩
  | .hbm, ⟨21, _⟩ => ⟨S2x8x8192, .f32⟩
  | .hbm, ⟨22, _⟩ => ⟨S2x8x8192x1, .f32⟩
  | .hbm, ⟨23, _⟩ => ⟨S2x8x8192x8448, .f32⟩
  | .hbm, ⟨24, _⟩ => ⟨S2x8x8192x8448, .f32⟩
  | .hbm, ⟨25, _⟩ => ⟨S2x8x128x8192, .f32⟩
  | .hbm, ⟨26, _⟩ => ⟨S2x8192x8x128, .f32⟩
  | .hbm, ⟨27, _⟩ => ⟨S2x8192x1024, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== EvenIn.lean ====
abbrev S2x256x1024 : Shape := ⟨3, ![2, 256, 1024]⟩
abbrev S2x8192x1024 : Shape := ⟨3, ![2, 8192, 1024]⟩
abbrev S2x8x6144 : Shape := ⟨3, ![2, 8, 6144]⟩
abbrev S2x1024 : Shape := ⟨2, ![2, 1024]⟩
abbrev S1x1024x1792 : Shape := ⟨3, ![1, 1024, 1792]⟩
abbrev S2x8x6x1024 : Shape := ⟨4, ![2, 8, 6, 1024]⟩
abbrev S2x3x6x1024 : Shape := ⟨4, ![2, 3, 6, 1024]⟩
abbrev S_ : Shape := ⟨0, ![]⟩
abbrev S2x3x8x1024 : Shape := ⟨4, ![2, 3, 8, 1024]⟩
abbrev S2x8448x1024 : Shape := ⟨3, ![2, 8448, 1024]⟩
abbrev S1x3x8x1024 : Shape := ⟨4, ![1, 3, 8, 1024]⟩
abbrev S3x8x1024 : Shape := ⟨3, ![3, 8, 1024]⟩
abbrev S1x1024 : Shape := ⟨2, ![1, 1024]⟩
abbrev S1024 : Shape := ⟨1, ![1024]⟩
abbrev S1024x1792 : Shape := ⟨2, ![1024, 1792]⟩
abbrev S2x8448x1792 : Shape := ⟨3, ![2, 8448, 1792]⟩
abbrev S1x256x1024 : Shape := ⟨3, ![1, 256, 1024]⟩
abbrev S1x8x1024 : Shape := ⟨3, ![1, 8, 1024]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x1792 : Shape := ⟨2, ![256, 1792]⟩

abbrev nBuf : Space → Nat
  | .hbm => 19
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x8x6144, .f32⟩
  | .hbm, ⟨3, _⟩ => ⟨S2x1024, .f32⟩
  | .hbm, ⟨4, _⟩ => ⟨S1x1024x1792, .f32⟩
  | .hbm, ⟨5, _⟩ => ⟨S2x8x6x1024, .f32⟩
  | .hbm, ⟨6, _⟩ => ⟨S2x3x6x1024, .f32⟩
  | .hbm, ⟨7, _⟩ => ⟨S_, .i32⟩
  | .hbm, ⟨8, _⟩ => ⟨S_, .f32⟩
  | .hbm, ⟨9, _⟩ => ⟨S2x3x8x1024, .f32⟩
  | .hbm, ⟨10, _⟩ => ⟨S2x8448x1024, .f32⟩
  | .hbm, ⟨11, _⟩ => ⟨S1x3x8x1024, .f32⟩
  | .hbm, ⟨12, _⟩ => ⟨S3x8x1024, .f32⟩
  | .hbm, ⟨13, _⟩ => ⟨S1x1024, .f32⟩
  | .hbm, ⟨14, _⟩ => ⟨S1024, .f32⟩
  | .hbm, ⟨15, _⟩ => ⟨S1024x1792, .f32⟩
  | .hbm, ⟨16, _⟩ => ⟨S1024x1792, .bf16⟩
  | .hbm, ⟨17, _⟩ => ⟨S1x1024, .f32⟩
  | .hbm, ⟨18, _⟩ => ⟨S2x8448x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x1792, .bf16⟩
  | .local _ .vmem, ⟨6, _⟩ => ⟨S1x256x1792, .f32⟩
  | .local _ .vmem, ⟨7, _⟩ => ⟨S1x256x1792, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EvenInRefIdeal.lean ====
abbrev S2x256x1024 : Shape := ⟨3, ![2, 256, 1024]⟩
abbrev S2x8192x1024 : Shape := ⟨3, ![2, 8192, 1024]⟩
abbrev S2x8x6144 : Shape := ⟨3, ![2, 8, 6144]⟩
abbrev S2x1024 : Shape := ⟨2, ![2, 1024]⟩
abbrev S1x1024x1792 : Shape := ⟨3, ![1, 1024, 1792]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x2x1024 : Shape := ⟨3, ![1, 2, 1024]⟩
abbrev S2x1x1024 : Shape := ⟨3, ![2, 1, 1024]⟩
abbrev S2x256 : Shape := ⟨2, ![2, 256]⟩
abbrev S2x256x1 : Shape := ⟨3, ![2, 256, 1]⟩
abbrev S1024x1792 : Shape := ⟨2, ![1024, 1792]⟩
abbrev S2x256x1792 : Shape := ⟨3, ![2, 256, 1792]⟩
abbrev S2x8192x1792 : Shape := ⟨3, ![2, 8192, 1792]⟩
abbrev S2x8448x1792 : Shape := ⟨3, ![2, 8448, 1792]⟩

abbrev nBuf : Space → Nat
  | .hbm => 72
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x8x6144, .f32⟩
  | .hbm, ⟨3, _⟩ => ⟨S2x1024, .f32⟩
  | .hbm, ⟨4, _⟩ => ⟨S1x1024x1792, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x2x1024, .f32⟩
  | .hbm, ⟨24, _⟩ => ⟨S2x1024, .f32⟩
  | .hbm, ⟨25, _⟩ => ⟨S2x1x1024, .f32⟩
  | .hbm, ⟨26, _⟩ => ⟨S1x2x1024, .f32⟩
  | .hbm, ⟨27, _⟩ => ⟨S2x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S1x1024, .f32⟩
  | .hbm, ⟨37, _⟩ => ⟨S1024, .f32⟩
  | .hbm, ⟨38, _⟩ => ⟨S2x256x1024, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x1, .f32⟩
  | .hbm, ⟨49, _⟩ => ⟨S2x256x1024, .f32⟩
  | .hbm, ⟨50, _⟩ => ⟨S2x256x1024, .f32⟩
  | .hbm, ⟨51, _⟩ => ⟨S1x1x1024, .f32⟩
  | .hbm, ⟨52, _⟩ => ⟨S2x256x1024, .f32⟩
  | .hbm, ⟨53, _⟩ => ⟨S2x256x1024, .f32⟩
  | .hbm, ⟨54, _⟩ => ⟨S1x1x1024, .f32⟩
  | .hbm, ⟨55, _⟩ => ⟨S1024, .f32⟩
  | .hbm, ⟨56, _⟩ => ⟨S1x1x1024, .f32⟩
  | .hbm, ⟨57, _⟩ => ⟨S1x1x1024, .f32⟩
  | .hbm, ⟨58, _⟩ => ⟨S1024, .f32⟩
  | .hbm, ⟨59, _⟩ => ⟨S1x1x1024, .f32⟩
  | .hbm, ⟨60, _⟩ => ⟨S_, .f32⟩
  | .hbm, ⟨61, _⟩ => ⟨S1x1x1024, .f32⟩
  | .hbm, ⟨62, _⟩ => ⟨S1x1x1024, .f32⟩
  | .hbm, ⟨63, _⟩ => ⟨S2x256x1024, .f32⟩
  | .hbm, ⟨64, _⟩ => ⟨S2x256x1024, .f32⟩
  | .hbm, ⟨65, _⟩ => ⟨S2x256x1024, .f32⟩
  | .hbm, ⟨66, _⟩ => ⟨S2x256x1024, .f32⟩
  | .hbm, ⟨67, _⟩ => ⟨S1024x1792, .f32⟩
  | .hbm, ⟨68, _⟩ => ⟨S2x256x1792, .f32⟩
  | .hbm, ⟨69, _⟩ => ⟨S1024x1792, .f32⟩
  | .hbm, ⟨70, _⟩ => ⟨S2x8192x1792, .f32⟩
  | .hbm, ⟨71, _⟩ => ⟨S2x8448x1792, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== OddIn.lean ====
abbrev S2x8448x1024 : Shape := ⟨3, ![2, 8448, 1024]⟩
abbrev S2x8x6144 : Shape := ⟨3, ![2, 8, 6144]⟩
abbrev S2x1024 : Shape := ⟨2, ![2, 1024]⟩
abbrev S1x1024x2736 : Shape := ⟨3, ![1, 1024, 2736]⟩
abbrev S2x8x6x1024 : Shape := ⟨4, ![2, 8, 6, 1024]⟩
abbrev S2x3x6x1024 : Shape := ⟨4, ![2, 3, 6, 1024]⟩
abbrev S_ : Shape := ⟨0, ![]⟩
abbrev S2x3x8x1024 : Shape := ⟨4, ![2, 3, 8, 1024]⟩
abbrev S1024x2736 : Shape := ⟨2, ![1024, 2736]⟩
abbrev S1024x2064 : Shape := ⟨2, ![1024, 2064]⟩
abbrev S1024x112 : Shape := ⟨2, ![1024, 112]⟩
abbrev S1024x672 : Shape := ⟨2, ![1024, 672]⟩
abbrev S1024x96 : Shape := ⟨2, ![1024, 96]⟩
abbrev S1024x2944 : Shape := ⟨2, ![1024, 2944]⟩
abbrev S1x3x8x1024 : Shape := ⟨4, ![1, 3, 8, 1024]⟩
abbrev S3x8x1024 : Shape := ⟨3, ![3, 8, 1024]⟩
abbrev S1x1024 : Shape := ⟨2, ![1, 1024]⟩
abbrev S1024 : Shape := ⟨1, ![1024]⟩
abbrev S2x8448x2944 : Shape := ⟨3, ![2, 8448, 2944]⟩
abbrev S1x256x1024 : Shape := ⟨3, ![1, 256, 1024]⟩
abbrev S1x8x1024 : Shape := ⟨3, ![1, 8, 1024]⟩
abbrev S1x256x2944 : Shape := ⟨3, ![1, 256, 2944]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2944 : Shape := ⟨2, ![256, 2944]⟩

abbrev nBuf : Space → Nat
  | .hbm => 28
  | .vmem => 14
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8x6144, .f32⟩
  | .hbm, ⟨3, _⟩ => ⟨S2x1024, .f32⟩
  | .hbm, ⟨4, _⟩ => ⟨S1x1024x2736, .f32⟩
  | .hbm, ⟨5, _⟩ => ⟨S2x8x6x1024, .f32⟩
  | .hbm, ⟨6, _⟩ => ⟨S2x3x6x1024, .f32⟩
  | .hbm, ⟨7, _⟩ => ⟨S_, .i32⟩
  | .hbm, ⟨8, _⟩ => ⟨S_, .f32⟩
  | .hbm, ⟨9, _⟩ => ⟨S2x3x8x1024, .f32⟩
  | .hbm, ⟨10, _⟩ => ⟨S1024x2736, .f32⟩
  | .hbm, ⟨11, _⟩ => ⟨S1024x2064, .f32⟩
  | .hbm, ⟨12, _⟩ => ⟨S_, .f32⟩
  | .hbm, ⟨13, _⟩ => ⟨S1024x112, .f32⟩
  | .hbm, ⟨14, _⟩ => ⟨S1024x672, .f32⟩
  | .hbm, ⟨15, _⟩ => ⟨S_, .f32⟩
  | .hbm, ⟨16, _⟩ => ⟨S1024x96, .f32⟩
  | .hbm, ⟨17, _⟩ => ⟨S1024x2944, .f32⟩
  | .hbm, ⟨18, _⟩ => ⟨S1024x2944, .bf16⟩
  | .hbm, ⟨19, _⟩ => ⟨S1x3x8x1024, .f32⟩
  | .hbm, ⟨20, _⟩ => ⟨S3x8x1024, .f32⟩
  | .hbm, ⟨21, _⟩ => ⟨S1x1024, .f32⟩
  | .hbm, ⟨22, _⟩ => ⟨S1024, .f32⟩
  | .hbm, ⟨23, _⟩ => ⟨S1x3x8x1024, .f32⟩
  | .hbm, ⟨24, _⟩ => ⟨S3x8x1024, .f32⟩
  | .hbm, ⟨25, _⟩ => ⟨S1x1024, .f32⟩
  | .hbm, ⟨26, _⟩ => ⟨S2x8448x1024, .f32⟩
  | .hbm, ⟨27, _⟩ => ⟨S2x8448x2944, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S1024x2944, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x2944, .f32⟩
  | .local _ .vmem, ⟨13, _⟩ => ⟨S1x256x2944, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddInRefIdeal.lean ====
abbrev S2x8448x1024 : Shape := ⟨3, ![2, 8448, 1024]⟩
abbrev S2x8x6144 : Shape := ⟨3, ![2, 8, 6144]⟩
abbrev S2x1024 : Shape := ⟨2, ![2, 1024]⟩
abbrev S1x1024x2736 : Shape := ⟨3, ![1, 1024, 2736]⟩
abbrev S2x256x1024 : Shape := ⟨3, ![2, 256, 1024]⟩
abbrev S1x1x1024 : Shape := ⟨3, ![1, 1, 1024]⟩
abbrev S1024 : Shape := ⟨1, ![1024]⟩
abbrev S2x8192x1024 : Shape := ⟨3, ![2, 8192, 1024]⟩
abbrev S1x2x1024 : Shape := ⟨3, ![1, 2, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S2x256 : Shape := ⟨2, ![2, 256]⟩
abbrev S2x256x1 : Shape := ⟨3, ![2, 256, 1]⟩
abbrev S1024x2736 : Shape := ⟨2, ![1024, 2736]⟩
abbrev S2x256x2736 : Shape := ⟨3, ![2, 256, 2736]⟩
abbrev S2x8192x2736 : Shape := ⟨3, ![2, 8192, 2736]⟩
abbrev S2x8448x2736 : Shape := ⟨3, ![2, 8448, 2736]⟩
abbrev S2x8448x2064 : Shape := ⟨3, ![2, 8448, 2064]⟩
abbrev S2x8448x112 : Shape := ⟨3, ![2, 8448, 112]⟩
abbrev S2x8448x672 : Shape := ⟨3, ![2, 8448, 672]⟩
abbrev S2x8448x96 : Shape := ⟨3, ![2, 8448, 96]⟩
abbrev S2x8448x2944 : Shape := ⟨3, ![2, 8448, 2944]⟩

abbrev nBuf : Space → Nat
  | .hbm => 96
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8x6144, .f32⟩
  | .hbm, ⟨3, _⟩ => ⟨S2x1024, .f32⟩
  | .hbm, ⟨4, _⟩ => ⟨S1x1024x2736, .f32⟩
  | .hbm, ⟨5, _⟩ => ⟨S2x256x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x8192x1024, .f32⟩
  | .hbm, ⟨14, _⟩ => ⟨S1x2x1024, .f32⟩
  | .hbm, ⟨15, _⟩ => ⟨S2x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S1x1024, .f32⟩
  | .hbm, ⟨22, _⟩ => ⟨S1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S1x2x1024, .f32⟩
  | .hbm, ⟨40, _⟩ => ⟨S2x1024, .f32⟩
  | .hbm, ⟨41, _⟩ => ⟨S2x1x1024, .f32⟩
  | .hbm, ⟨42, _⟩ => ⟨S1x2x1024, .f32⟩
  | .hbm, ⟨43, _⟩ => ⟨S2x1024, .f32⟩
  | .hbm, ⟨44, _⟩ => ⟨S2x1x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S1x1024, .f32⟩
  | .hbm, ⟨53, _⟩ => ⟨S1024, .f32⟩
  | .hbm, ⟨54, _⟩ => ⟨S2x256x1024, .f32⟩
  | .hbm, ⟨55, _⟩ => ⟨S_, .f32⟩
  | .hbm, ⟨56, _⟩ => ⟨S2x256, .f32⟩
  | .hbm, ⟨57, _⟩ => ⟨S2x256x1, .f32⟩
  | .hbm, ⟨58, _⟩ => ⟨S_, .f32⟩
  | .hbm, ⟨59, _⟩ => ⟨S2x256x1, .f32⟩
  | .hbm, ⟨60, _⟩ => ⟨S2x256x1, .f32⟩
  | .hbm, ⟨61, _⟩ => ⟨S_, .f32⟩
  | .hbm, ⟨62, _⟩ => ⟨S2x256x1, .f32⟩
  | .hbm, ⟨63, _⟩ => ⟨S2x256x1, .f32⟩
  | .hbm, ⟨64, _⟩ => ⟨S2x256x1, .f32⟩
  | .hbm, ⟨65, _⟩ => ⟨S2x256x1024, .f32⟩
  | .hbm, ⟨66, _⟩ => ⟨S2x256x1024, .f32⟩
  | .hbm, ⟨67, _⟩ => ⟨S1x1x1024, .f32⟩
  | .hbm, ⟨68, _⟩ => ⟨S2x256x1024, .f32⟩
  | .hbm, ⟨69, _⟩ => ⟨S2x256x1024, .f32⟩
  | .hbm, ⟨70, _⟩ => ⟨S1x1x1024, .f32⟩
  | .hbm, ⟨71, _⟩ => ⟨S1024, .f32⟩
  | .hbm, ⟨72, _⟩ => ⟨S1x1x1024, .f32⟩
  | .hbm, ⟨73, _⟩ => ⟨S1x1x1024, .f32⟩
  | .hbm, ⟨74, _⟩ => ⟨S1024, .f32⟩
  | .hbm, ⟨75, _⟩ => ⟨S1x1x1024, .f32⟩
  | .hbm, ⟨76, _⟩ => ⟨S_, .f32⟩
  | .hbm, ⟨77, _⟩ => ⟨S1x1x1024, .f32⟩
  | .hbm, ⟨78, _⟩ => ⟨S1x1x1024, .f32⟩
  | .hbm, ⟨79, _⟩ => ⟨S2x256x1024, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S1024x2736, .f32⟩
  | .hbm, ⟨84, _⟩ => ⟨S2x256x2736, .f32⟩
  | .hbm, ⟨85, _⟩ => ⟨S1024x2736, .f32⟩
  | .hbm, ⟨86, _⟩ => ⟨S2x8192x2736, .f32⟩
  | .hbm, ⟨87, _⟩ => ⟨S2x8448x2736, .f32⟩
  | .hbm, ⟨88, _⟩ => ⟨S2x8448x2064, .f32⟩
  | .hbm, ⟨89, _⟩ => ⟨S_, .f32⟩
  | .hbm, ⟨90, _⟩ => ⟨S2x8448x112, .f32⟩
  | .hbm, ⟨91, _⟩ => ⟨S2x8448x672, .f32⟩
  | .hbm, ⟨92, _⟩ => ⟨S_, .f32⟩
  | .hbm, ⟨93, _⟩ => ⟨S2x8448x96, .f32⟩
  | .hbm, ⟨94, _⟩ => ⟨S2x8448x2944, .f32⟩
  | .hbm, ⟨95, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩

abbrev nD : Nat := 1
abbrev τ : Topo := Topo.v7x

variable {F : FTy → Type} [FloatOps F]
-- ==== OddOut.lean ====
abbrev S2x2x8448x512 : Shape := ⟨4, ![2, 2, 8448, 512]⟩
abbrev S2x8448x2944 : Shape := ⟨3, ![2, 8448, 2944]⟩
abbrev S2x8192x1024 : Shape := ⟨3, ![2, 8192, 1024]⟩
abbrev S2x8448x1024 : Shape := ⟨3, ![2, 8448, 1024]⟩
abbrev S2x8x6144 : Shape := ⟨3, ![2, 8, 6144]⟩
abbrev S1x512 : Shape := ⟨2, ![1, 512]⟩
abbrev S1x1024x1024 : Shape := ⟨3, ![1, 1024, 1024]⟩
abbrev S2x1024 : Shape := ⟨2, ![2, 1024]⟩
abbrev S2x8x6x1024 : Shape := ⟨4, ![2, 8, 6, 1024]⟩
abbrev S2x3x6x1024 : Shape := ⟨4, ![2, 3, 6, 1024]⟩
abbrev S_ : Shape := ⟨0, ![]⟩
abbrev S2x3x8x1024 : Shape := ⟨4, ![2, 3, 8, 1024]⟩
abbrev S1024x1024 : Shape := ⟨2, ![1024, 1024]⟩
abbrev S512x1024 : Shape := ⟨2, ![512, 1024]⟩
abbrev S8x64x1024 : Shape := ⟨3, ![8, 64, 1024]⟩
abbrev S8x128x1024 : Shape := ⟨3, ![8, 128, 1024]⟩
abbrev S1x2x8x1024 : Shape := ⟨4, ![1, 2, 8, 1024]⟩
abbrev S2x8x1024 : Shape := ⟨3, ![2, 8, 1024]⟩
abbrev S512 : Shape := ⟨1, ![512]⟩
abbrev S1x1024 : Shape := ⟨2, ![1, 1024]⟩
abbrev S1024 : Shape := ⟨1, ![1024]⟩
abbrev S1x1x256x512 : Shape := ⟨4, ![1, 1, 256, 512]⟩
abbrev S1x256x512 : Shape := ⟨3, ![1, 256, 512]⟩
abbrev S1x256x1024 : Shape := ⟨3, ![1, 256, 1024]⟩
abbrev S1x8x1024 : Shape := ⟨3, ![1, 8, 1024]⟩
abbrev S256x512 : Shape := ⟨2, ![256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x1024 : Shape := ⟨2, ![256, 1024]⟩
abbrev S1x1x1024 : Shape := ⟨3, ![1, 1, 1024]⟩

abbrev nBuf : Space → Nat
  | .hbm => 32
  | .vmem => 20
  | .smem => 0
  | _ => 0

abbrev bufTy : (tb : Table) → Fin (tcTables nBuf tb) → BufTy
  | .hbm, ⟨0, _⟩ => ⟨S2x2x8448x512, .f32⟩
  | .hbm, ⟨1, _⟩ => ⟨S2x8448x2944, .f32⟩
  | .hbm, ⟨2, _⟩ => ⟨S2x8192x1024, .f32⟩
  | .hbm, ⟨3, _⟩ => ⟨S2x8448x1024, .f32⟩
  | .hbm, ⟨4, _⟩ => ⟨S2x8x6144, .f32⟩
  | .hbm, ⟨5, _⟩ => ⟨S1x512, .f32⟩
  | .hbm, ⟨6, _⟩ => ⟨S1x1024x1024, .f32⟩
  | .hbm, ⟨7, _⟩ => ⟨S2x1024, .f32⟩
  | .hbm, ⟨8, _⟩ => ⟨S2x8x6x1024, .f32⟩
  | .hbm, ⟨9, _⟩ => ⟨S2x3x6x1024, .f32⟩
  | .hbm, ⟨10, _⟩ => ⟨S_, .i32⟩
  | .hbm, ⟨11, _⟩ => ⟨S_, .f32⟩
  | .hbm, ⟨12, _⟩ => ⟨S2x3x8x1024, .f32⟩
  | .hbm, ⟨13, _⟩ => ⟨S1024x1024, .f32⟩
  | .hbm, ⟨14, _⟩ => ⟨S512x1024, .f32⟩
  | .hbm, ⟨15, _⟩ => ⟨S8x64x1024, .f32⟩
  | .hbm, ⟨16, _⟩ => ⟨S_, .f32⟩
  | .hbm, ⟨17, _⟩ => ⟨S8x64x1024, .f32⟩
  | .hbm, ⟨18, _⟩ => ⟨S8x128x1024, .f32⟩
  | .hbm, ⟨19, _⟩ => ⟨S1024x1024, .f32⟩
  | .hbm, ⟨20, _⟩ => ⟨S1024x1024, .bf16⟩
  | .hbm, ⟨21, _⟩ => ⟨S1x2x8x1024, .f32⟩
  | .hbm, ⟨22, _⟩ => ⟨S2x8x1024, .f32⟩
  | .hbm, ⟨23, _⟩ => ⟨S512, .f32⟩
  | .hbm, ⟨24, _⟩ => ⟨S512x1024, .f32⟩
  | .hbm, ⟨25, _⟩ => ⟨S512x1024, .bf16⟩
  | .hbm, ⟨26, _⟩ => ⟨S1x1024, .f32⟩
  | .hbm, ⟨27, _⟩ => ⟨S1024, .f32⟩
  | .hbm, ⟨28, _⟩ => ⟨S1x512, .f32⟩
  | .hbm, ⟨29, _⟩ => ⟨S1x1024, .f32⟩
  | .hbm, ⟨30, _⟩ => ⟨S2x8192x1024, .f32⟩
  | .hbm, ⟨31, _⟩ => ⟨S2x8192x1024, .f32⟩
  | .local _ .vmem, ⟨0, _⟩ => ⟨S1x1x256x512, .f32⟩
  | .local _ .vmem, ⟨1, _⟩ => ⟨S1x1x256x512, .f32⟩
  | .local _ .vmem, ⟨2, _⟩ => ⟨S1x1x256x512, .f32⟩
  | .local _ .vmem, ⟨3, _⟩ => ⟨S1x1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x512, .f32⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | _, _ => ⟨S2x2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![c1_i32_0.toNat, arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let c0_i32 : BitVec 32 := 0#32
  ![arg0.toNat, v0.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OddOutRefIdeal.lean ====
abbrev S2x2x8448x512 : Shape := ⟨4, ![2, 2, 8448, 512]⟩
abbrev S2x8448x2944 : Shape := ⟨3, ![2, 8448, 2944]⟩
abbrev S2x8192x1024 : Shape := ⟨3, ![2, 8192, 1024]⟩
abbrev S2x8448x1024 : Shape := ⟨3, ![2, 8448, 1024]⟩
abbrev S2x8x6144 : Shape := ⟨3, ![2, 8, 6144]⟩
abbrev S1x512 : Shape := ⟨2, ![1, 512]⟩
abbrev S1x1024x1024 : Shape := ⟨3, ![1, 1024, 1024]⟩
abbrev S2x1024 : Shape := ⟨2, ![2, 1024]⟩
abbrev S1x2x8448x512 : Shape := ⟨4, ![1, 2, 8448, 512]⟩
abbrev S2x8448x512 : Shape := ⟨3, ![2, 8448, 512]⟩
abbrev S2x8192x512 : Shape := ⟨3, ![2, 8192, 512]⟩
abbrev S2x8192x4x128 : Shape := ⟨4, ![2, 8192, 4, 128]⟩
abbrev S512 : Shape := ⟨1, ![512]⟩
abbrev S4x128 : Shape := ⟨2, ![4, 128]⟩
abbrev S_ : Shape := ⟨0, ![]⟩
abbrev S2x8192x4 : Shape := ⟨3, ![2, 8192, 4]⟩
abbrev S2x8192x4x1 : Shape := ⟨4, ![2, 8192, 4, 1]⟩
abbrev S1x1x4x128 : Shape := ⟨4, ![1, 1, 4, 128]⟩
abbrev S2x8192x8x128 : Shape := ⟨4, ![2, 8192, 8, 128]⟩
abbrev S2x8192x8x64 : Shape := ⟨4, ![2, 8192, 8, 64]⟩
abbrev S1024x1024 : Shape := ⟨2, ![1024, 1024]⟩
abbrev S1x2x1024 : Shape := ⟨3, ![1, 2, 1024]⟩
abbrev S2x1x1024 : Shape := ⟨3, ![2, 1, 1024]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2x8448x512, .f32⟩
  | .hbm, ⟨1, _⟩ => ⟨S2x8448x2944, .f32⟩
  | .hbm, ⟨2, _⟩ => ⟨S2x8192x1024, .f32⟩
  | .hbm, ⟨3, _⟩ => ⟨S2x8448x1024, .f32⟩
  | .hbm, ⟨4, _⟩ => ⟨S2x8x6144, .f32⟩
  | .hbm, ⟨5, _⟩ => ⟨S1x512, .f32⟩
  | .hbm, ⟨6, _⟩ => ⟨S1x1024x1024, .f32⟩
  | .hbm, ⟨7, _⟩ => ⟨S2x1024, .f32⟩
  | .hbm, ⟨8, _⟩ => ⟨S1x2x8448x512, .f32⟩
  | .hbm, ⟨9, _⟩ => ⟨S2x8448x512, .f32⟩
  | .hbm, ⟨10, _⟩ => ⟨S1x2x8448x512, .f32⟩
  | .hbm, ⟨11, _⟩ => ⟨S2x8448x512, .f32⟩
  | .hbm, ⟨12, _⟩ => ⟨S2x8448x512, .f32⟩
  | .hbm, ⟨13, _⟩ => ⟨S2x8192x512, .f32⟩
  | .hbm, ⟨14, _⟩ => ⟨S2x8192x4x128, .f32⟩
  | .hbm, ⟨15, _⟩ => ⟨S512, .f32⟩
  | .hbm, ⟨16, _⟩ => ⟨S4x128, .f32⟩
  | .hbm, ⟨17, _⟩ => ⟨S2x8192x4x128, .f32⟩
  | .hbm, ⟨18, _⟩ => ⟨S_, .f32⟩
  | .hbm, ⟨19, _⟩ => ⟨S2x8192x4, .f32⟩
  | .hbm, ⟨20, _⟩ => ⟨S2x8192x4x1, .f32⟩
  | .hbm, ⟨21, _⟩ => ⟨S_, .f32⟩
  | .hbm, ⟨22, _⟩ => ⟨S2x8192x4x1, .f32⟩
  | .hbm, ⟨23, _⟩ => ⟨S2x8192x4x1, .f32⟩
  | .hbm, ⟨24, _⟩ => ⟨S_, .f32⟩
  | .hbm, ⟨25, _⟩ => ⟨S2x8192x4x1, .f32⟩
  | .hbm, ⟨26, _⟩ => ⟨S2x8192x4x1, .f32⟩
  | .hbm, ⟨27, _⟩ => ⟨S2x8192x4x1, .f32⟩
  | .hbm, ⟨28, _⟩ => ⟨S2x8192x4x128, .f32⟩
  | .hbm, ⟨29, _⟩ => ⟨S2x8192x4x128, .f32⟩
  | .hbm, ⟨30, _⟩ => ⟨S1x1x4x128, .f32⟩
  | .hbm, ⟨31, _⟩ => ⟨S2x8192x4x128, .f32⟩
  | .hbm, ⟨32, _⟩ => ⟨S2x8192x4x128, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S_, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S2x8192x8x128, .f32⟩
  | .hbm, ⟨45, _⟩ => ⟨S2x8192x8x64, .f32⟩
  | .hbm, ⟨46, _⟩ => ⟨S2x8192x512, .f32⟩
  | .hbm, ⟨47, _⟩ => ⟨S2x8192x1024, .f32⟩
  | .hbm, ⟨48, _⟩ => ⟨S1024x1024, .f32⟩
  | .hbm, ⟨49, _⟩ => ⟨S2x8192x1024, .f32⟩
  | .hbm, ⟨50, _⟩ => ⟨S2x8192x1024, .f32⟩
  | .hbm, ⟨51, _⟩ => ⟨S1x2x1024, .f32⟩
  | .hbm, ⟨52, _⟩ => ⟨S2x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S1x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S1x2x1024, .f32⟩
  | .hbm, ⟨76, _⟩ => ⟨S2x1024, .f32⟩
  | .hbm, ⟨77, _⟩ => ⟨S2x1x1024, .f32⟩
  | .hbm, ⟨78, _⟩ => ⟨S1x2x1024, .f32⟩
  | .hbm, ⟨79, _⟩ => ⟨S2x1024, .f32⟩
  | .hbm, ⟨80, _⟩ => ⟨S2x1x1024, .f32⟩
  | .hbm, ⟨81, _⟩ => ⟨S_, .f32⟩
  | .hbm, ⟨82, _⟩ => ⟨S2x1x1024, .f32⟩
  | .hbm, ⟨83, _⟩ => ⟨S2x1x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | _, _ => ⟨S2x2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Last.lean ====
abbrev S2x8192x1024 : Shape := ⟨3, ![2, 8192, 1024]⟩
abbrev S2x8x6144 : Shape := ⟨3, ![2, 8, 6144]⟩
abbrev S1024 : Shape := ⟨1, ![1024]⟩
abbrev S2x8x6x1024 : Shape := ⟨4, ![2, 8, 6, 1024]⟩
abbrev S2x3x6x1024 : Shape := ⟨4, ![2, 3, 6, 1024]⟩
abbrev S_ : Shape := ⟨0, ![]⟩
abbrev S2x3x8x1024 : Shape := ⟨4, ![2, 3, 8, 1024]⟩
abbrev S1x2x8x1024 : Shape := ⟨4, ![1, 2, 8, 1024]⟩
abbrev S2x8x1024 : Shape := ⟨3, ![2, 8, 1024]⟩
abbrev S1x1024 : Shape := ⟨2, ![1, 1024]⟩
abbrev S1x256x1024 : Shape := ⟨3, ![1, 256, 1024]⟩
abbrev S1x8x1024 : Shape := ⟨3, ![1, 8, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8x6144, .f32⟩
  | .hbm, ⟨3, _⟩ => ⟨S1024, .f32⟩
  | .hbm, ⟨4, _⟩ => ⟨S2x8x6x1024, .f32⟩
  | .hbm, ⟨5, _⟩ => ⟨S2x3x6x1024, .f32⟩
  | .hbm, ⟨6, _⟩ => ⟨S_, .i32⟩
  | .hbm, ⟨7, _⟩ => ⟨S_, .f32⟩
  | .hbm, ⟨8, _⟩ => ⟨S2x3x8x1024, .f32⟩
  | .hbm, ⟨9, _⟩ => ⟨S1x2x8x1024, .f32⟩
  | .hbm, ⟨10, _⟩ => ⟨S2x8x1024, .f32⟩
  | .hbm, ⟨11, _⟩ => ⟨S1x1024, .f32⟩
  | .hbm, ⟨12, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LastRefIdeal.lean ====
abbrev S2x8192x1024 : Shape := ⟨3, ![2, 8192, 1024]⟩
abbrev S2x8x6144 : Shape := ⟨3, ![2, 8, 6144]⟩
abbrev S1024 : Shape := ⟨1, ![1024]⟩
abbrev S1x2x1024 : Shape := ⟨3, ![1, 2, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8x6144, .f32⟩
  | .hbm, ⟨3, _⟩ => ⟨S1024, .f32⟩
  | .hbm, ⟨4, _⟩ => ⟨S1x2x1024, .f32⟩
  | .hbm, ⟨5, _⟩ => ⟨S2x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== EvenOut.lean ====
abbrev S2x8448x768 : Shape := ⟨3, ![2, 8448, 768]⟩
abbrev S2x8448x1792 : Shape := ⟨3, ![2, 8448, 1792]⟩
abbrev S2x8448x512 : Shape := ⟨3, ![2, 8448, 512]⟩
abbrev S2x256x1024 : Shape := ⟨3, ![2, 256, 1024]⟩
abbrev S2x8192x1024 : Shape := ⟨3, ![2, 8192, 1024]⟩
abbrev S2x8x6144 : Shape := ⟨3, ![2, 8, 6144]⟩
abbrev S1x4x64x64 : Shape := ⟨4, ![1, 4, 64, 64]⟩
abbrev S1x256 : Shape := ⟨2, ![1, 256]⟩
abbrev S1x1024x1024 : Shape := ⟨3, ![1, 1024, 1024]⟩
abbrev S2x1024 : Shape := ⟨2, ![2, 1024]⟩
abbrev S64x64 : Shape := ⟨2, ![64, 64]⟩
abbrev S2x8x6x1024 : Shape := ⟨4, ![2, 8, 6, 1024]⟩
abbrev S2x3x6x1024 : Shape := ⟨4, ![2, 3, 6, 1024]⟩
abbrev S_ : Shape := ⟨0, ![]⟩
abbrev S2x3x8x1024 : Shape := ⟨4, ![2, 3, 8, 1024]⟩
abbrev S2x8448x1024 : Shape := ⟨3, ![2, 8448, 1024]⟩
abbrev S1x3x8x1024 : Shape := ⟨4, ![1, 3, 8, 1024]⟩
abbrev S3x8x1024 : Shape := ⟨3, ![3, 8, 1024]⟩
abbrev S4x64x64 : Shape := ⟨3, ![4, 64, 64]⟩
abbrev S256x256 : Shape := ⟨2, ![256, 256]⟩
abbrev S1x64x64 : Shape := ⟨3, ![1, 64, 64]⟩
abbrev S1 : Shape := ⟨1, ![1]⟩
abbrev S2 : Shape := ⟨1, ![2]⟩
abbrev S256 : Shape := ⟨1, ![256]⟩
abbrev S1024x1024 : Shape := ⟨2, ![1024, 1024]⟩
abbrev S1x1024 : Shape := ⟨2, ![1, 1024]⟩
abbrev S1024 : Shape := ⟨1, ![1024]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S768x1024 : Shape := ⟨2, ![768, 1024]⟩
abbrev S256x1024 : Shape := ⟨2, ![256, 1024]⟩
abbrev S1x256x768 : Shape := ⟨3, ![1, 256, 768]⟩
abbrev S1x256x512 : Shape := ⟨3, ![1, 256, 512]⟩
abbrev S1x256x1024 : Shape := ⟨3, ![1, 256, 1024]⟩
abbrev S1x8x1024 : Shape := ⟨3, ![1, 8, 1024]⟩
abbrev S256x768 : Shape := ⟨2, ![256, 768]⟩
abbrev S256x512 : Shape := ⟨2, ![256, 512]⟩
abbrev S1x1x1024 : Shape := ⟨3, ![1, 1, 1024]⟩
abbrev S256x1 : Shape := ⟨2, ![256, 1]⟩

abbrev nBuf : Space → Nat
  | .hbm => 87
  | .vmem => 23
  | .smem => 0
  | _ => 0

abbrev bufTy : (tb : Table) → Fin (tcTables nBuf tb) → BufTy
  | .hbm, ⟨0, _⟩ => ⟨S2x8448x768, .f32⟩
  | .hbm, ⟨1, _⟩ => ⟨S2x8448x768, .f32⟩
  | .hbm, ⟨2, _⟩ => ⟨S2x8448x1792, .f32⟩
  | .hbm, ⟨3, _⟩ => ⟨S2x8448x512, .f32⟩
  | .hbm, ⟨4, _⟩ => ⟨S2x256x1024, .f32⟩
  | .hbm, ⟨5, _⟩ => ⟨S2x8192x1024, .f32⟩
  | .hbm, ⟨6, _⟩ => ⟨S2x8x6144, .f32⟩
  | .hbm, ⟨7, _⟩ => ⟨S1x4x64x64, .f32⟩
  | .hbm, ⟨8, _⟩ => ⟨S1x256, .f32⟩
  | .hbm, ⟨9, _⟩ => ⟨S1x1024x1024, .f32⟩
  | .hbm, ⟨10, _⟩ => ⟨S2x1024, .f32⟩
  | .hbm, ⟨11, _⟩ => ⟨S64x64, .f32⟩
  | .hbm, ⟨12, _⟩ => ⟨S64x64, .f32⟩
  | .hbm, ⟨13, _⟩ => ⟨S2x8x6x1024, .f32⟩
  | .hbm, ⟨14, _⟩ => ⟨S2x3x6x1024, .f32⟩
  | .hbm, ⟨15, _⟩ => ⟨S_, .i32⟩
  | .hbm, ⟨16, _⟩ => ⟨S_, .f32⟩
  | .hbm, ⟨17, _⟩ => ⟨S2x3x8x1024, .f32⟩
  | .hbm, ⟨18, _⟩ => ⟨S2x8448x1024, .f32⟩
  | .hbm, ⟨19, _⟩ => ⟨S1x3x8x1024, .f32⟩
  | .hbm, ⟨20, _⟩ => ⟨S3x8x1024, .f32⟩
  | .hbm, ⟨21, _⟩ => ⟨S4x64x64, .f32⟩
  | .hbm, ⟨22, _⟩ => ⟨S_, .f32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S256x256, .f32⟩
  | .hbm, ⟨32, _⟩ => ⟨S1x64x64, .f32⟩
  | .hbm, ⟨33, _⟩ => ⟨S64x64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S256x256, .f32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S256x256, .f32⟩
  | .hbm, ⟨48, _⟩ => ⟨S1x64x64, .f32⟩
  | .hbm, ⟨49, _⟩ => ⟨S64x64, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S256x256, .f32⟩
  | .hbm, ⟨56, _⟩ => ⟨S256, .f32⟩
  | .hbm, ⟨57, _⟩ => ⟨S1024x1024, .f32⟩
  | .hbm, ⟨58, _⟩ => ⟨S1x1024, .f32⟩
  | .hbm, ⟨59, _⟩ => ⟨S1024, .f32⟩
  | .hbm, ⟨60, _⟩ => ⟨S4x4, .i32⟩
  | .hbm, ⟨61, _⟩ => ⟨S4x4, .i32⟩
  | .hbm, ⟨62, _⟩ => ⟨S_, .i32⟩
  | .hbm, ⟨63, _⟩ => ⟨S4x4, .i32⟩
  | .hbm, ⟨64, _⟩ => ⟨S4x4, .i32⟩
  | .hbm, ⟨65, _⟩ => ⟨S4x4, .i1⟩
  | .hbm, ⟨66, _⟩ => ⟨S4x4, .f32⟩
  | .hbm, ⟨67, _⟩ => ⟨S4x1x4x1, .f32⟩
  | .hbm, ⟨68, _⟩ => ⟨S1x64x1x64, .f32⟩
  | .hbm, ⟨69, _⟩ => ⟨S4x64x4x64, .f32⟩
  | .hbm, ⟨70, _⟩ => ⟨S4x64x4x64, .f32⟩
  | .hbm, ⟨71, _⟩ => ⟨S4x64x4x64, .f32⟩
  | .hbm, ⟨72, _⟩ => ⟨S256x256, .f32⟩
  | .hbm, ⟨73, _⟩ => ⟨S4x1x4x1, .f32⟩
  | .hbm, ⟨74, _⟩ => ⟨S1x64x1x64, .f32⟩
  | .hbm, ⟨75, _⟩ => ⟨S4x64x4x64, .f32⟩
  | .hbm, ⟨76, _⟩ => ⟨S4x64x4x64, .f32⟩
  | .hbm, ⟨77, _⟩ => ⟨S4x64x4x64, .f32⟩
  | .hbm, ⟨78, _⟩ => ⟨S256x256, .f32⟩
  | .hbm, ⟨79, _⟩ => ⟨S1x256, .f32⟩
  | .hbm, ⟨80, _⟩ => ⟨S768x1024, .f32⟩
  | .hbm, ⟨81, _⟩ => ⟨S768x1024, .bf16⟩
  | .hbm, ⟨82, _⟩ => ⟨S256x1024, .f32⟩
  | .hbm, ⟨83, _⟩ => ⟨S256x1024, .bf16⟩
  | .hbm, ⟨84, _⟩ => ⟨S1x1024, .f32⟩
  | .hbm, ⟨85, _⟩ => ⟨S2x8448x1024, .f32⟩
  | .hbm, ⟨86, _⟩ => ⟨S2x8448x1024, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S768x1024, .bf16⟩
  | .local _ .vmem, ⟨17, _⟩ => ⟨S256x1024, .bf16⟩
  | .local _ .vmem, ⟨18, _⟩ => ⟨S1x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | _, _ => ⟨S2x8448x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v42 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50_0 : Ref sig .tc := ⟨.hbm, 85, rfl⟩
abbrev main_v50_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== EvenOutRefIdeal.lean ====
abbrev S2x8448x768 : Shape := ⟨3, ![2, 8448, 768]⟩
abbrev S2x8448x1792 : Shape := ⟨3, ![2, 8448, 1792]⟩
abbrev S2x8448x512 : Shape := ⟨3, ![2, 8448, 512]⟩
abbrev S2x256x1024 : Shape := ⟨3, ![2, 256, 1024]⟩
abbrev S2x8192x1024 : Shape := ⟨3, ![2, 8192, 1024]⟩
abbrev S2x8x6144 : Shape := ⟨3, ![2, 8, 6144]⟩
abbrev S1x4x64x64 : Shape := ⟨4, ![1, 4, 64, 64]⟩
abbrev S1x256 : Shape := ⟨2, ![1, 256]⟩
abbrev S1x1024x1024 : Shape := ⟨3, ![1, 1024, 1024]⟩
abbrev S2x1024 : Shape := ⟨2, ![2, 1024]⟩
abbrev S64x64 : Shape := ⟨2, ![64, 64]⟩
abbrev S2x256x768 : Shape := ⟨3, ![2, 256, 768]⟩
abbrev S2x256x1792 : Shape := ⟨3, ![2, 256, 1792]⟩
abbrev S2x256x512 : Shape := ⟨3, ![2, 256, 512]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩
abbrev S2x256x2x4x64 : Shape := ⟨5, ![2, 256, 2, 4, 64]⟩
abbrev S2x256x1x4x64 : Shape := ⟨5, ![2, 256, 1, 4, 64]⟩
abbrev S2x256x4x64 : Shape := ⟨4, ![2, 256, 4, 64]⟩
abbrev S4x64x2x256 : Shape := ⟨4, ![4, 64, 2, 256]⟩
abbrev S2x256x256 : Shape := ⟨3, ![2, 256, 256]⟩
abbrev S1x1x256 : Shape := ⟨3, ![1, 1, 256]⟩
abbrev S2x8192x768 : Shape := ⟨3, ![2, 8192, 768]⟩
abbrev S2x8192x1792 : Shape := ⟨3, ![2, 8192, 1792]⟩
abbrev S2x8192x512 : Shape := ⟨3, ![2, 8192, 512]⟩
abbrev S2x8192x2x4x64 : Shape := ⟨5, ![2, 8192, 2, 4, 64]⟩
abbrev S2x8192x1x4x64 : Shape := ⟨5, ![2, 8192, 1, 4, 64]⟩
abbrev S2x8192x4x64 : Shape := ⟨4, ![2, 8192, 4, 64]⟩
abbrev S4x64x2x8192 : Shape := ⟨4, ![4, 64, 2, 8192]⟩
abbrev S2x8192x256 : Shape := ⟨3, ![2, 8192, 256]⟩
abbrev S1x2x1024 : Shape := ⟨3, ![1, 2, 1024]⟩
abbrev S2x1x1024 : Shape := ⟨3, ![2, 1, 1024]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩
abbrev S2x8448x1024 : Shape := ⟨3, ![2, 8448, 1024]⟩

abbrev nBuf : Space → Nat
  | .hbm => 181
  | .vmem => 0
  | .smem => 0
  | _ => 0

abbrev hbmTy0_0 (i : Nat) : BufTy := match i % 128 with
  | 0 => ⟨S2x8448x768, .f32⟩
  | 1 => ⟨S2x8448x768, .f32⟩
  | 2 => ⟨S2x8448x1792, .f32⟩
  | 3 => ⟨S2x8448x512, .f32⟩
  | 4 => ⟨S2x256x1024, .f32⟩
  | 5 => ⟨S2x8192x1024, .f32⟩
  | 6 => ⟨S2x8x6144, .f32⟩
  | 7 => ⟨S1x4x64x64, .f32⟩
  | 8 => ⟨S1x256, .f32⟩
  | 9 => ⟨S1x1024x1024, .f32⟩
  | 10 => ⟨S2x1024, .f32⟩
  | 11 => ⟨S64x64, .f32⟩
  | 12 => ⟨S64x64, .f32⟩
  | 13 => ⟨S2x256x768, .f32⟩
  | 14 => ⟨S2x256x768, .f32⟩
  | 15 => ⟨S2x256x1792, .f32⟩
  | 16 => ⟨S2x256x512, .f32⟩
  | 17 => ⟨S4x64x64, .f32⟩
  | 18 => ⟨S256, .f32⟩
  | 19 => ⟨S1024x1024, .f32⟩
  | 20 => ⟨S2x256x768, .f32⟩
  | 21 => ⟨S2x256x768, .f32⟩
  | 22 => ⟨S2x256x768, .f32⟩
  | 23 => ⟨S2x256x768, .f32⟩
  | 24 => ⟨S_, .f32⟩
  | 25 => ⟨S2x256x768, .f32⟩
  | 26 => ⟨S2x256x768, .f32⟩
  | 27 => ⟨S2x256x768, .f32⟩
  | 28 => ⟨S_, .f32⟩
  | 29 => ⟨S2x256x768, .f32⟩
  | 30 => ⟨S2x256x768, .f32⟩
  | 31 => ⟨S2x256x768, .f32⟩
  | 32 => ⟨S_, .f32⟩
  | 33 => ⟨S2x256x768, .f32⟩
  | 34 => ⟨S2x256x768, .f32⟩
  | 35 => ⟨S_, .f32⟩
  | 36 => ⟨S2x256x768, .f32⟩
  | 37 => ⟨S2x256x768, .f32⟩
  | 38 => ⟨S2x256x768, .f32⟩
  | 39 => ⟨S2x256x768, .f32⟩
  | 40 => ⟨S2x256x2x4x64, .f32⟩
  | 41 => ⟨S2x256x1x4x64, .f32⟩
  | 42 => ⟨S2x256x4x64, .f32⟩
  | 43 => ⟨S2x256x4x64, .f32⟩
  | 44 => ⟨S2x256x1x4x64, .f32⟩
  | 45 => ⟨S2x256x4x64, .f32⟩
  | 46 => ⟨S2x256x4x64, .f32⟩
  | 47 => ⟨S2x256x4x64, .f32⟩
  | 48 => ⟨S_, .f32⟩
  | 49 => ⟨S2x256x4x64, .f32⟩
  | 50 => ⟨S2x256x4x64, .f32⟩
  | 51 => ⟨S4x64x2x256, .f32⟩
  | 52 => ⟨S2x256x4x64, .f32⟩
  | 53 => ⟨S2x256x256, .f32⟩
  | 54 => ⟨S1x1x256, .f32⟩
  | 55 => ⟨S2x256x256, .f32⟩
  | 56 => ⟨S2x256x256, .f32⟩
  | 57 => ⟨S2x256x1024, .f32⟩
  | 58 => ⟨S2x256x1024, .f32⟩
  | 59 => ⟨S2x8192x768, .f32⟩
  | 60 => ⟨S2x8192x768, .f32⟩
  | 61 => ⟨S2x8192x1792, .f32⟩
  | 62 => ⟨S2x8192x512, .f32⟩
  | 63 => ⟨S4x64x64, .f32⟩
  | 64 => ⟨S256, .f32⟩
  | 65 => ⟨S1024x1024, .f32⟩
  | 66 => ⟨S2x8192x768, .f32⟩
  | 67 => ⟨S2x8192x768, .f32⟩
  | 68 => ⟨S2x8192x768, .f32⟩
  | 69 => ⟨S2x8192x768, .f32⟩
  | 70 => ⟨S_, .f32⟩
  | 71 => ⟨S2x8192x768, .f32⟩
  | 72 => ⟨S2x8192x768, .f32⟩
  | 73 => ⟨S2x8192x768, .f32⟩
  | 74 => ⟨S_, .f32⟩
  | 75 => ⟨S2x8192x768, .f32⟩
  | 76 => ⟨S2x8192x768, .f32⟩
  | 77 => ⟨S2x8192x768, .f32⟩
  | 78 => ⟨S_, .f32⟩
  | 79 => ⟨S2x8192x768, .f32⟩
  | 80 => ⟨S2x8192x768, .f32⟩
  | 81 => ⟨S_, .f32⟩
  | 82 => ⟨S2x8192x768, .f32⟩
  | 83 => ⟨S2x8192x768, .f32⟩
  | 84 => ⟨S2x8192x768, .f32⟩
  | 85 => ⟨S2x8192x768, .f32⟩
  | 86 => ⟨S2x8192x2x4x64, .f32⟩
  | 87 => ⟨S2x8192x1x4x64, .f32⟩
  | 88 => ⟨S2x8192x4x64, .f32⟩
  | 89 => ⟨S2x8192x4x64, .f32⟩
  | 90 => ⟨S2x8192x1x4x64, .f32⟩
  | 91 => ⟨S2x8192x4x64, .f32⟩
  | 92 => ⟨S2x8192x4x64, .f32⟩
  | 93 => ⟨S2x8192x4x64, .f32⟩
  | 94 => ⟨S_, .f32⟩
  | 95 => ⟨S2x8192x4x64, .f32⟩
  | 96 => ⟨S2x8192x4x64, .f32⟩
  | 97 => ⟨S4x64x2x8192, .f32⟩
  | 98 => ⟨S2x8192x4x64, .f32⟩
  | 99 => ⟨S2x8192x256, .f32⟩
  | 100 => ⟨S1x1x256, .f32⟩
  | 101 => ⟨S2x8192x256, .f32⟩
  | 102 => ⟨S2x8192x256, .f32⟩
  | 103 => ⟨S2x8192x1024, .f32⟩
  | 104 => ⟨S2x8192x1024, .f32⟩
  | 105 => ⟨S1x2x1024, .f32⟩
  | 106 => ⟨S2x1024, .f32⟩
  | 107 => ⟨S2x1x1024, .f32⟩
  | 108 => ⟨S2x8192x1024, .f32⟩
  | 109 => ⟨S2x8192x1024, .f32⟩
  | 110 => ⟨S2x8192x1024, .f32⟩
  | 111 => ⟨S1x1024, .f32⟩
  | 112 => ⟨S1024, .f32⟩
  | 113 => ⟨S2x8192x1024, .f32⟩
  | 114 => ⟨S_, .f32⟩
  | 115 => ⟨S2x8192, .f32⟩
  | 116 => ⟨S2x8192x1, .f32⟩
  | 117 => ⟨S_, .f32⟩
  | 118 => ⟨S2x8192x1, .f32⟩
  | 119 => ⟨S2x8192x1, .f32⟩
  | 120 => ⟨S_, .f32⟩
  | 121 => ⟨S2x8192x1, .f32⟩
  | 122 => ⟨S2x8192x1, .f32⟩
  | 123 => ⟨S2x8192x1, .f32⟩
  | 124 => ⟨S2x8192x1024, .f32⟩
  | 125 => ⟨S2x8192x1024, .f32⟩
  | 126 => ⟨S1x1x1024, .f32⟩
  | 127 => ⟨S2x8192x1024, .f32⟩
  | _ => ⟨S2x8448x768, .f32⟩

abbrev hbmTy0_1 (i : Nat) : BufTy := match i % 128 with
  | 0 => ⟨S2x8192x1024, .f32⟩
  | 1 => ⟨S1x2x1024, .f32⟩
  | 2 => ⟨S2x1024, .f32⟩
  | 3 => ⟨S2x1x1024, .f32⟩
  | 4 => ⟨S1x2x1024, .f32⟩
  | 5 => ⟨S2x1024, .f32⟩
  | 6 => ⟨S2x1x1024, .f32⟩
  | 7 => ⟨S_, .f32⟩
  | 8 => ⟨S2x1x1024, .f32⟩
  | 9 => ⟨S2x1x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S1x1x1024, .f32⟩
  | 15 => ⟨S1024, .f32⟩
  | 16 => ⟨S1x1x1024, .f32⟩
  | 17 => ⟨S2x256x1024, .f32⟩
  | 18 => ⟨S2x256x1024, .f32⟩
  | 19 => ⟨S2x256x1024, .f32⟩
  | 20 => ⟨S1x1024, .f32⟩
  | 21 => ⟨S1024, .f32⟩
  | 22 => ⟨S2x256x1024, .f32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S_, .f32⟩
  | 30 => ⟨S2x256x1, .f32⟩
  | 31 => ⟨S2x256x1, .f32⟩
  | 32 => ⟨S2x256x1, .f32⟩
  | 33 => ⟨S2x256x1024, .f32⟩
  | 34 => ⟨S2x256x1024, .f32⟩
  | 35 => ⟨S1x1x1024, .f32⟩
  | 36 => ⟨S2x256x1024, .f32⟩
  | 37 => ⟨S2x256x1024, .f32⟩
  | 38 => ⟨S1x1x1024, .f32⟩
  | 39 => ⟨S1024, .f32⟩
  | 40 => ⟨S1x1x1024, .f32⟩
  | 41 => ⟨S1x1x1024, .f32⟩
  | 42 => ⟨S1024, .f32⟩
  | 43 => ⟨S1x1x1024, .f32⟩
  | 44 => ⟨S_, .f32⟩
  | 45 => ⟨S1x1x1024, .f32⟩
  | 46 => ⟨S1x1x1024, .f32⟩
  | 47 => ⟨S2x256x1024, .f32⟩
  | 48 => ⟨S2x256x1024, .f32⟩
  | 49 => ⟨S2x256x1024, .f32⟩
  | 50 => ⟨S2x256x1024, .f32⟩
  | 51 => ⟨S2x8448x1024, .f32⟩
  | 52 => ⟨S2x8448x1024, .f32⟩
  | _ => ⟨S2x8448x768, .f32⟩

abbrev hbmTy (i : Nat) : BufTy := match i / 128 with
  | 0 => hbmTy0_0 i
  | 1 => hbmTy0_1 i
  | _ => ⟨S2x8448x768, .f32⟩

abbrev bufTy : (tb : Table) → Fin (tcTables nBuf tb) → BufTy
  | .hbm, ⟨i, _⟩ => hbmTy i
  | _, _ => ⟨S2x8448x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_9 : Ref sig .tc := ⟨.hbm, 114, rfl⟩
abbrev main_v91 : Ref sig .tc := ⟨.hbm, 115, rfl⟩
abbrev main_v92 : Ref sig .tc := ⟨.hbm, 116, rfl⟩
abbrev main_cst_10 : Ref sig .tc := ⟨.hbm, 117, rfl⟩
abbrev main_v93 : Ref sig .tc := ⟨.hbm, 118, rfl⟩
abbrev main_v94 : Ref sig .tc := ⟨.hbm, 119, rfl⟩
abbrev main_cst_11 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_12 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_13 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_cst_15 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_16 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩

abbrev nD : Nat := 1
abbrev τ : Topo := Topo.v7x

variable {F : FTy → Type} [FloatOps F]
-- ==== Mod.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S5x6144 : Shape := ⟨2, ![5, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 63
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S2x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S2x6144, .f32⟩
  | .hbm, ⟨29, _⟩ => ⟨S2x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S1x6144, .f32⟩
  | .hbm, ⟨38, _⟩ => ⟨S6144, .f32⟩
  | .hbm, ⟨39, _⟩ => ⟨S5x6144, .f32⟩
  | .hbm, ⟨40, _⟩ => ⟨S8x6144, .f32⟩
  | .hbm, ⟨41, _⟩ => ⟨S1x1024x6144, .f32⟩
  | .hbm, ⟨42, _⟩ => ⟨S1024x6144, .f32⟩
  | .hbm, ⟨43, _⟩ => ⟨S2x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S2x6144, .f32⟩
  | .hbm, ⟨48, _⟩ => ⟨S2x6144, .f32⟩
  | .hbm, ⟨49, _⟩ => ⟨S1x1024x6144, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S1x6144, .f32⟩
  | .hbm, ⟨57, _⟩ => ⟨S6144, .f32⟩
  | .hbm, ⟨58, _⟩ => ⟨S5x6144, .f32⟩
  | .hbm, ⟨59, _⟩ => ⟨S8x6144, .f32⟩
  | .hbm, ⟨60, _⟩ => ⟨S1x8x6144, .f32⟩
  | .hbm, ⟨61, _⟩ => ⟨S1x8x6144, .f32⟩
  | .hbm, ⟨62, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== EvenConv.lean ====
abbrev S2x8448x1792 : Shape := ⟨3, ![2, 8448, 1792]⟩
abbrev S1x4x768 : Shape := ⟨3, ![1, 4, 768]⟩
abbrev S1x768 : Shape := ⟨2, ![1, 768]⟩
abbrev S4x768 : Shape := ⟨2, ![4, 768]⟩
abbrev S768 : Shape := ⟨1, ![768]⟩
abbrev S2x8448x768 : Shape := ⟨3, ![2, 8448, 768]⟩
abbrev S1x8x768 : Shape := ⟨3, ![1, 8, 768]⟩
abbrev S1x256x768 : Shape := ⟨3, ![1, 256, 768]⟩
abbrev S272x768 : Shape := ⟨2, ![272, 768]⟩
abbrev S8x768 : Shape := ⟨2, ![8, 768]⟩
abbrev S256x768 : Shape := ⟨2, ![256, 768]⟩

abbrev nBuf : Space → Nat
  | .hbm => 7
  | .vmem => 11
  | .smem => 0
  | _ => 0

abbrev bufTy : (tb : Table) → Fin (tcTables nBuf tb) → BufTy
  | .hbm, ⟨0, _⟩ => ⟨S2x8448x1792, .f32⟩
  | .hbm, ⟨1, _⟩ => ⟨S1x4x768, .f32⟩
  | .hbm, ⟨2, _⟩ => ⟨S1x768, .f32⟩
  | .hbm, ⟨3, _⟩ => ⟨S4x768, .f32⟩
  | .hbm, ⟨4, _⟩ => ⟨S768, .f32⟩
  | .hbm, ⟨5, _⟩ => ⟨S1x768, .f32⟩
  | .hbm, ⟨6, _⟩ => ⟨S2x8448x768, .f32⟩
  | .local _ .vmem, ⟨0, _⟩ => ⟨S1x8x768, .f32⟩
  | .local _ .vmem, ⟨1, _⟩ => ⟨S1x8x768, .f32⟩
  | .local _ .vmem, ⟨2, _⟩ => ⟨S1x256x768, .f32⟩
  | .local _ .vmem, ⟨3, _⟩ => ⟨S1x256x768, .f32⟩
  | .local _ .vmem, ⟨4, _⟩ => ⟨S1x8x768, .f32⟩
  | .local _ .vmem, ⟨5, _⟩ => ⟨S1x8x768, .f32⟩
  | .local _ .vmem, ⟨6, _⟩ => ⟨S4x768, .f32⟩
  | .local _ .vmem, ⟨7, _⟩ => ⟨S1x768, .f32⟩
  | .local _ .vmem, ⟨8, _⟩ => ⟨S1x256x768, .f32⟩
  | .local _ .vmem, ⟨9, _⟩ => ⟨S1x256x768, .f32⟩
  | .local _ .vmem, ⟨10, _⟩ => ⟨S272x768, .f32⟩
  | _, _ => ⟨S2x8448x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenConvRefIdeal.lean ====
abbrev S2x8448x1792 : Shape := ⟨3, ![2, 8448, 1792]⟩
abbrev S1x4x768 : Shape := ⟨3, ![1, 4, 768]⟩
abbrev S1x768 : Shape := ⟨2, ![1, 768]⟩
abbrev S2x256x768 : Shape := ⟨3, ![2, 256, 768]⟩
abbrev S4x768 : Shape := ⟨2, ![4, 768]⟩
abbrev S768 : Shape := ⟨1, ![768]⟩
abbrev S_ : Shape := ⟨0, ![]⟩
abbrev S2x259x768 : Shape := ⟨3, ![2, 259, 768]⟩
abbrev S1x1x768 : Shape := ⟨3, ![1, 1, 768]⟩
abbrev S2x8192x768 : Shape := ⟨3, ![2, 8192, 768]⟩
abbrev S2x8195x768 : Shape := ⟨3, ![2, 8195, 768]⟩
abbrev S2x8448x768 : Shape := ⟨3, ![2, 8448, 768]⟩

abbrev nBuf : Space → Nat
  | .hbm => 76
  | .vmem => 0
  | .smem => 0
  | _ => 0

abbrev bufTy : (tb : Table) → Fin (tcTables nBuf tb) → BufTy
  | .hbm, ⟨0, _⟩ => ⟨S2x8448x1792, .f32⟩
  | .hbm, ⟨1, _⟩ => ⟨S1x4x768, .f32⟩
  | .hbm, ⟨2, _⟩ => ⟨S1x768, .f32⟩
  | .hbm, ⟨3, _⟩ => ⟨S2x256x768, .f32⟩
  | .hbm, ⟨4, _⟩ => ⟨S4x768, .f32⟩
  | .hbm, ⟨5, _⟩ => ⟨S768, .f32⟩
  | .hbm, ⟨6, _⟩ => ⟨S_, .i32⟩
  | .hbm, ⟨7, _⟩ => ⟨S_, .f32⟩
  | .hbm, ⟨8, _⟩ => ⟨S2x259x768, .f32⟩
  | .hbm, ⟨9, _⟩ => ⟨S2x256x768, .f32⟩
  | .hbm, ⟨10, _⟩ => ⟨S1x768, .f32⟩
  | .hbm, ⟨11, _⟩ => ⟨S768, .f32⟩
  | .hbm, ⟨12, _⟩ => ⟨S1x1x768, .f32⟩
  | .hbm, ⟨13, _⟩ => ⟨S2x256x768, .f32⟩
  | .hbm, ⟨14, _⟩ => ⟨S2x256x768, .f32⟩
  | .hbm, ⟨15, _⟩ => ⟨S2x256x768, .f32⟩
  | .hbm, ⟨16, _⟩ => ⟨S1x768, .f32⟩
  | .hbm, ⟨17, _⟩ => ⟨S768, .f32⟩
  | .hbm, ⟨18, _⟩ => ⟨S1x1x768, .f32⟩
  | .hbm, ⟨19, _⟩ => ⟨S2x256x768, .f32⟩
  | .hbm, ⟨20, _⟩ => ⟨S2x256x768, .f32⟩
  | .hbm, ⟨21, _⟩ => ⟨S2x256x768, .f32⟩
  | .hbm, ⟨22, _⟩ => ⟨S2x256x768, .f32⟩
  | .hbm, ⟨23, _⟩ => ⟨S1x768, .f32⟩
  | .hbm, ⟨24, _⟩ => ⟨S768, .f32⟩
  | .hbm, ⟨25, _⟩ => ⟨S1x1x768, .f32⟩
  | .hbm, ⟨26, _⟩ => ⟨S2x256x768, .f32⟩
  | .hbm, ⟨27, _⟩ => ⟨S2x256x768, .f32⟩
  | .hbm, ⟨28, _⟩ => ⟨S2x256x768, .f32⟩
  | .hbm, ⟨29, _⟩ => ⟨S2x256x768, .f32⟩
  | .hbm, ⟨30, _⟩ => ⟨S1x768, .f32⟩
  | .hbm, ⟨31, _⟩ => ⟨S768, .f32⟩
  | .hbm, ⟨32, _⟩ => ⟨S1x1x768, .f32⟩
  | .hbm, ⟨33, _⟩ => ⟨S2x256x768, .f32⟩
  | .hbm, ⟨34, _⟩ => ⟨S2x256x768, .f32⟩
  | .hbm, ⟨35, _⟩ => ⟨S2x256x768, .f32⟩
  | .hbm, ⟨36, _⟩ => ⟨S1x1x768, .f32⟩
  | .hbm, ⟨37, _⟩ => ⟨S2x256x768, .f32⟩
  | .hbm, ⟨38, _⟩ => ⟨S2x256x768, .f32⟩
  | .hbm, ⟨39, _⟩ => ⟨S2x8192x768, .f32⟩
  | .hbm, ⟨40, _⟩ => ⟨S4x768, .f32⟩
  | .hbm, ⟨41, _⟩ => ⟨S768, .f32⟩
  | .hbm, ⟨42, _⟩ => ⟨S_, .i32⟩
  | .hbm, ⟨43, _⟩ => ⟨S_, .f32⟩
  | .hbm, ⟨44, _⟩ => ⟨S2x8195x768, .f32⟩
  | .hbm, ⟨45, _⟩ => ⟨S2x8192x768, .f32⟩
  | .hbm, ⟨46, _⟩ => ⟨S1x768, .f32⟩
  | .hbm, ⟨47, _⟩ => ⟨S768, .f32⟩
  | .hbm, ⟨48, _⟩ => ⟨S1x1x768, .f32⟩
  | .hbm, ⟨49, _⟩ => ⟨S2x8192x768, .f32⟩
  | .hbm, ⟨50, _⟩ => ⟨S2x8192x768, .f32⟩
  | .hbm, ⟨51, _⟩ => ⟨S2x8192x768, .f32⟩
  | .hbm, ⟨52, _⟩ => ⟨S1x768, .f32⟩
  | .hbm, ⟨53, _⟩ => ⟨S768, .f32⟩
  | .hbm, ⟨54, _⟩ => ⟨S1x1x768, .f32⟩
  | .hbm, ⟨55, _⟩ => ⟨S2x8192x768, .f32⟩
  | .hbm, ⟨56, _⟩ => ⟨S2x8192x768, .f32⟩
  | .hbm, ⟨57, _⟩ => ⟨S2x8192x768, .f32⟩
  | .hbm, ⟨58, _⟩ => ⟨S2x8192x768, .f32⟩
  | .hbm, ⟨59, _⟩ => ⟨S1x768, .f32⟩
  | .hbm, ⟨60, _⟩ => ⟨S768, .f32⟩
  | .hbm, ⟨61, _⟩ => ⟨S1x1x768, .f32⟩
  | .hbm, ⟨62, _⟩ => ⟨S2x8192x768, .f32⟩
  | .hbm, ⟨63, _⟩ => ⟨S2x8192x768, .f32⟩
  | .hbm, ⟨64, _⟩ => ⟨S2x8192x768, .f32⟩
  | .hbm, ⟨65, _⟩ => ⟨S2x8192x768, .f32⟩
  | .hbm, ⟨66, _⟩ => ⟨S1x768, .f32⟩
  | .hbm, ⟨67, _⟩ => ⟨S768, .f32⟩
  | .hbm, ⟨68, _⟩ => ⟨S1x1x768, .f32⟩
  | .hbm, ⟨69, _⟩ => ⟨S2x8192x768, .f32⟩
  | .hbm, ⟨70, _⟩ => ⟨S2x8192x768, .f32⟩
  | .hbm, ⟨71, _⟩ => ⟨S2x8192x768, .f32⟩
  | .hbm, ⟨72, _⟩ => ⟨S1x1x768, .f32⟩
  | .hbm, ⟨73, _⟩ => ⟨S2x8192x768, .f32⟩
  | .hbm, ⟨74, _⟩ => ⟨S2x8192x768, .f32⟩
  | .hbm, ⟨75, _⟩ => ⟨S2x8448x768, .f32⟩
  | _, _ => ⟨S2x8448x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c_0 : Ref sig .tc := ⟨.hbm, 42, rfl⟩
abbrev main_call1_v0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩

abbrev nD : Nat := 1
abbrev τ : Topo := Topo.v7x

variable {F : FTy → Type} [FloatOps F]
-- ==== OddConv.lean ====
abbrev S2x8448x2944 : Shape := ⟨3, ![2, 8448, 2944]⟩
abbrev S1x4x1024 : Shape := ⟨3, ![1, 4, 1024]⟩
abbrev S1x1024 : Shape := ⟨2, ![1, 1024]⟩
abbrev S4x1024 : Shape := ⟨2, ![4, 1024]⟩
abbrev S1024 : Shape := ⟨1, ![1024]⟩
abbrev S2x8448x1024 : Shape := ⟨3, ![2, 8448, 1024]⟩
abbrev S1x8x1024 : Shape := ⟨3, ![1, 8, 1024]⟩
abbrev S1x256x1024 : Shape := ⟨3, ![1, 256, 1024]⟩
abbrev S272x1024 : Shape := ⟨2, ![272, 1024]⟩
abbrev S8x1024 : Shape := ⟨2, ![8, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S2x8448x2944, .f32⟩
  | .hbm, ⟨1, _⟩ => ⟨S1x4x1024, .f32⟩
  | .hbm, ⟨2, _⟩ => ⟨S1x1024, .f32⟩
  | .hbm, ⟨3, _⟩ => ⟨S4x1024, .f32⟩
  | .hbm, ⟨4, _⟩ => ⟨S1024, .f32⟩
  | .hbm, ⟨5, _⟩ => ⟨S1x1024, .f32⟩
  | .hbm, ⟨6, _⟩ => ⟨S2x8448x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S272x1024, .f32⟩
  | _, _ => ⟨S2x8448x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddConvRefIdeal.lean ====
abbrev S2x8448x2944 : Shape := ⟨3, ![2, 8448, 2944]⟩
abbrev S1x4x1024 : Shape := ⟨3, ![1, 4, 1024]⟩
abbrev S1x1024 : Shape := ⟨2, ![1, 1024]⟩
abbrev S2x256x1024 : Shape := ⟨3, ![2, 256, 1024]⟩
abbrev S4x1024 : Shape := ⟨2, ![4, 1024]⟩
abbrev S1024 : Shape := ⟨1, ![1024]⟩
abbrev S_ : Shape := ⟨0, ![]⟩
abbrev S2x259x1024 : Shape := ⟨3, ![2, 259, 1024]⟩
abbrev S1x1x1024 : Shape := ⟨3, ![1, 1, 1024]⟩
abbrev S2x8192x1024 : Shape := ⟨3, ![2, 8192, 1024]⟩
abbrev S2x8195x1024 : Shape := ⟨3, ![2, 8195, 1024]⟩
abbrev S2x8448x1024 : Shape := ⟨3, ![2, 8448, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x8448x2944, .f32⟩
  | .hbm, ⟨1, _⟩ => ⟨S1x4x1024, .f32⟩
  | .hbm, ⟨2, _⟩ => ⟨S1x1024, .f32⟩
  | .hbm, ⟨3, _⟩ => ⟨S2x256x1024, .f32⟩
  | .hbm, ⟨4, _⟩ => ⟨S4x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S2x259x1024, .f32⟩
  | .hbm, ⟨9, _⟩ => ⟨S2x256x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S1x1x1024, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S_, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S2x8192x1024, .f32⟩
  | .hbm, ⟨49, _⟩ => ⟨S4x1024, .f32⟩
  | .hbm, ⟨50, _⟩ => ⟨S1024, .f32⟩
  | .hbm, ⟨51, _⟩ => ⟨S_, .i32⟩
  | .hbm, ⟨52, _⟩ => ⟨S_, .f32⟩
  | .hbm, ⟨53, _⟩ => ⟨S2x8195x1024, .f32⟩
  | .hbm, ⟨54, _⟩ => ⟨S2x8192x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S1x1024, .f32⟩
  | .hbm, ⟨69, _⟩ => ⟨S1024, .f32⟩
  | .hbm, ⟨70, _⟩ => ⟨S1x1x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S1x1024, .f32⟩
  | .hbm, ⟨76, _⟩ => ⟨S1024, .f32⟩
  | .hbm, ⟨77, _⟩ => ⟨S1x1x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8448x1024, .f32⟩
  | _, _ => ⟨S2x8448x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_0 : Ref sig .tc := ⟨.hbm, 51, rfl⟩
abbrev main_call2_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call3_v0 : Ref sig .tc := ⟨.hbm, 84, rfl⟩
abbrev main_call3_v1 : Ref sig .tc := ⟨.hbm, 85, rfl⟩
abbrev main_call3_cst : Ref sig .tc := ⟨.hbm, 86, rfl⟩
abbrev main_call3_v2 : Ref sig .tc := ⟨.hbm, 87, rfl⟩
abbrev main_call3_v3 : Ref sig .tc := ⟨.hbm, 88, rfl⟩
abbrev main_call3_cst_0 : Ref sig .tc := ⟨.hbm, 89, rfl⟩
abbrev main_call3_v4 : Ref sig .tc := ⟨.hbm, 90, rfl⟩
abbrev main_call3_v5 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Values.lean ====
abbrev S2x8448x2944 : Shape := ⟨3, ![2, 8448, 2944]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S384x8x96 : Shape := ⟨3, ![384, 8, 96]⟩
abbrev S384x8x64 : Shape := ⟨3, ![384, 8, 64]⟩
abbrev S384x8x16 : Shape := ⟨3, ![384, 8, 16]⟩
abbrev S_ : Shape := ⟨0, ![]⟩
abbrev S384x8x32 : Shape := ⟨3, ![384, 8, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S128x8x128 : Shape := ⟨3, ![128, 8, 128]⟩
abbrev S128x1024 : Shape := ⟨2, ![128, 1024]⟩
abbrev S2x8448x1024 : Shape := ⟨3, ![2, 8448, 1024]⟩
abbrev S1x256x2944 : Shape := ⟨3, ![1, 256, 2944]⟩
abbrev S1x256x384 : Shape := ⟨3, ![1, 256, 384]⟩
abbrev S256x384 : Shape := ⟨2, ![256, 384]⟩
abbrev S256x1 : Shape := ⟨2, ![256, 1]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x128 : Shape := ⟨2, ![1, 128]⟩

abbrev nBuf : Space → Nat
  | .hbm => 87
  | .vmem => 16
  | .smem => 0
  | _ => 0

abbrev bufTy : (tb : Table) → Fin (tcTables nBuf tb) → BufTy
  | .hbm, ⟨0, _⟩ => ⟨S2x8448x2944, .f32⟩
  | .hbm, ⟨1, _⟩ => ⟨S1x384, .f32⟩
  | .hbm, ⟨2, _⟩ => ⟨S1x256, .f32⟩
  | .hbm, ⟨3, _⟩ => ⟨S1x384x768, .f32⟩
  | .hbm, ⟨4, _⟩ => ⟨S1x256x1024, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S384x8x96, .f32⟩
  | .hbm, ⟨10, _⟩ => ⟨S384x8x64, .f32⟩
  | .hbm, ⟨11, _⟩ => ⟨S384x8x16, .f32⟩
  | .hbm, ⟨12, _⟩ => ⟨S384x8x16, .f32⟩
  | .hbm, ⟨13, _⟩ => ⟨S_, .f32⟩
  | .hbm, ⟨14, _⟩ => ⟨S384x8x32, .f32⟩
  | .hbm, ⟨15, _⟩ => ⟨S384x8x128, .f32⟩
  | .hbm, ⟨16, _⟩ => ⟨S384x1024, .f32⟩
  | .hbm, ⟨17, _⟩ => ⟨S_, .f32⟩
  | .hbm, ⟨18, _⟩ => ⟨S384x8x64, .f32⟩
  | .hbm, ⟨19, _⟩ => ⟨S384x8x16, .f32⟩
  | .hbm, ⟨20, _⟩ => ⟨S384x8x128, .f32⟩
  | .hbm, ⟨21, _⟩ => ⟨S384x1024, .f32⟩
  | .hbm, ⟨22, _⟩ => ⟨S256x8x128, .f32⟩
  | .hbm, ⟨23, _⟩ => ⟨S_, .f32⟩
  | .hbm, ⟨24, _⟩ => ⟨S256x8x64, .f32⟩
  | .hbm, ⟨25, _⟩ => ⟨S256x8x64, .f32⟩
  | .hbm, ⟨26, _⟩ => ⟨S256x8x128, .f32⟩
  | .hbm, ⟨27, _⟩ => ⟨S256x1024, .f32⟩
  | .hbm, ⟨28, _⟩ => ⟨S256x8x64, .f32⟩
  | .hbm, ⟨29, _⟩ => ⟨S_, .f32⟩
  | .hbm, ⟨30, _⟩ => ⟨S256x8x64, .f32⟩
  | .hbm, ⟨31, _⟩ => ⟨S256x8x128, .f32⟩
  | .hbm, ⟨32, _⟩ => ⟨S256x1024, .f32⟩
  | .hbm, ⟨33, _⟩ => ⟨S128x8x128, .i32⟩
  | .hbm, ⟨34, _⟩ => ⟨S128x8x128, .i32⟩
  | .hbm, ⟨35, _⟩ => ⟨S_, .i32⟩
  | .hbm, ⟨36, _⟩ => ⟨S128x8x128, .i32⟩
  | .hbm, ⟨37, _⟩ => ⟨S128x8x128, .i32⟩
  | .hbm, ⟨38, _⟩ => ⟨S_, .i32⟩
  | .hbm, ⟨39, _⟩ => ⟨S128x8x128, .i32⟩
  | .hbm, ⟨40, _⟩ => ⟨S128x8x128, .i32⟩
  | .hbm, ⟨41, _⟩ => ⟨S_, .i32⟩
  | .hbm, ⟨42, _⟩ => ⟨S128x8x128, .i32⟩
  | .hbm, ⟨43, _⟩ => ⟨S128x8x128, .i1⟩
  | .hbm, ⟨44, _⟩ => ⟨S_, .f32⟩
  | .hbm, ⟨45, _⟩ => ⟨S128x8x128, .f32⟩
  | .hbm, ⟨46, _⟩ => ⟨S_, .f32⟩
  | .hbm, ⟨47, _⟩ => ⟨S128x8x128, .f32⟩
  | .hbm, ⟨48, _⟩ => ⟨S_, .i32⟩
  | .hbm, ⟨49, _⟩ => ⟨S128x8x128, .i32⟩
  | .hbm, ⟨50, _⟩ => ⟨S128x8x128, .i32⟩
  | .hbm, ⟨51, _⟩ => ⟨S_, .i32⟩
  | .hbm, ⟨52, _⟩ => ⟨S128x8x128, .i32⟩
  | .hbm, ⟨53, _⟩ => ⟨S128x8x128, .i32⟩
  | .hbm, ⟨54, _⟩ => ⟨S128x8x128, .i32⟩
  | .hbm, ⟨55, _⟩ => ⟨S128x8x128, .i1⟩
  | .hbm, ⟨56, _⟩ => ⟨S128x8x128, .i1⟩
  | .hbm, ⟨57, _⟩ => ⟨S128x8x128, .f32⟩
  | .hbm, ⟨58, _⟩ => ⟨S_, .i32⟩
  | .hbm, ⟨59, _⟩ => ⟨S128x8x128, .i32⟩
  | .hbm, ⟨60, _⟩ => ⟨S128x8x128, .i32⟩
  | .hbm, ⟨61, _⟩ => ⟨S_, .i32⟩
  | .hbm, ⟨62, _⟩ => ⟨S128x8x128, .i32⟩
  | .hbm, ⟨63, _⟩ => ⟨S128x8x128, .i32⟩
  | .hbm, ⟨64, _⟩ => ⟨S_, .i32⟩
  | .hbm, ⟨65, _⟩ => ⟨S128x8x128, .i32⟩
  | .hbm, ⟨66, _⟩ => ⟨S128x8x128, .i32⟩
  | .hbm, ⟨67, _⟩ => ⟨S128x8x128, .i32⟩
  | .hbm, ⟨68, _⟩ => ⟨S128x8x128, .i1⟩
  | .hbm, ⟨69, _⟩ => ⟨S128x8x128, .i1⟩
  | .hbm, ⟨70, _⟩ => ⟨S_, .i32⟩
  | .hbm, ⟨71, _⟩ => ⟨S128x8x128, .i32⟩
  | .hbm, ⟨72, _⟩ => ⟨S128x8x128, .i1⟩
  | .hbm, ⟨73, _⟩ => ⟨S128x8x128, .f32⟩
  | .hbm, ⟨74, _⟩ => ⟨S128x8x128, .f32⟩
  | .hbm, ⟨75, _⟩ => ⟨S128x8x128, .f32⟩
  | .hbm, ⟨76, _⟩ => ⟨S128x1024, .f32⟩
  | .hbm, ⟨77, _⟩ => ⟨S128x1024, .f32⟩
  | .hbm, ⟨78, _⟩ => ⟨S384x1024, .bf16⟩
  | .hbm, ⟨79, _⟩ => ⟨S384x1024, .bf16⟩
  | .hbm, ⟨80, _⟩ => ⟨S256x1024, .bf16⟩
  | .hbm, ⟨81, _⟩ => ⟨S256x1024, .bf16⟩
  | .hbm, ⟨82, _⟩ => ⟨S1x384, .f32⟩
  | .hbm, ⟨83, _⟩ => ⟨S1x256, .f32⟩
  | .hbm, ⟨84, _⟩ => ⟨S2x8448x1024, .bf16⟩
  | .hbm, ⟨85, _⟩ => ⟨S2x8448x1024, .bf16⟩
  | .hbm, ⟨86, _⟩ => ⟨S2x8448x1024, .bf16⟩
  | .local _ .vmem, ⟨0, _⟩ => ⟨S1x256x2944, .f32⟩
  | .local _ .vmem, ⟨1, _⟩ => ⟨S1x256x2944, .f32⟩
  | .local _ .vmem, ⟨2, _⟩ => ⟨S1x384, .f32⟩
  | .local _ .vmem, ⟨3, _⟩ => ⟨S1x256, .f32⟩
  | .local _ .vmem, ⟨4, _⟩ => ⟨S384x1024, .bf16⟩
  | .local _ .vmem, ⟨5, _⟩ => ⟨S384x1024, .bf16⟩
  | .local _ .vmem, ⟨6, _⟩ => ⟨S256x1024, .bf16⟩
  | .local _ .vmem, ⟨7, _⟩ => ⟨S256x1024, .bf16⟩
  | .local _ .vmem, ⟨8, _⟩ => ⟨S128x1024, .f32⟩
  | .local _ .vmem, ⟨9, _⟩ => ⟨S128x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | _, _ => ⟨S2x8448x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64_0 : Ref sig .tc := ⟨.hbm, 84, rfl⟩
abbrev main_v64_1 : Ref sig .tc := ⟨.hbm, 85, rfl⟩
abbrev main_v64_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ValuesRefIdeal.lean ====
abbrev S2x8448x2944 : Shape := ⟨3, ![2, 8448, 2944]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S2x8448x256 : Shape := ⟨3, ![2, 8448, 256]⟩
abbrev S256 : Shape := ⟨1, ![256]⟩
abbrev S_ : Shape := ⟨0, ![]⟩
abbrev S2x8448 : Shape := ⟨2, ![2, 8448]⟩
abbrev S2x8448x1 : Shape := ⟨3, ![2, 8448, 1]⟩
abbrev S1x1x256 : Shape := ⟨3, ![1, 1, 256]⟩
abbrev S256x1024 : Shape := ⟨2, ![256, 1024]⟩
abbrev S2x8448x1024 : Shape := ⟨3, ![2, 8448, 1024]⟩
abbrev S2x8448x8x128 : Shape := ⟨4, ![2, 8448, 8, 128]⟩
abbrev S2x8448x8x64 : Shape := ⟨4, ![2, 8448, 8, 64]⟩

abbrev nBuf : Space → Nat
  | .hbm => 32
  | .vmem => 0
  | .smem => 0
  | _ => 0

abbrev bufTy : (tb : Table) → Fin (tcTables nBuf tb) → BufTy
  | .hbm, ⟨0, _⟩ => ⟨S2x8448x2944, .f32⟩
  | .hbm, ⟨1, _⟩ => ⟨S1x384, .f32⟩
  | .hbm, ⟨2, _⟩ => ⟨S1x256, .f32⟩
  | .hbm, ⟨3, _⟩ => ⟨S1x384x768, .f32⟩
  | .hbm, ⟨4, _⟩ => ⟨S1x256x1024, .f32⟩
  | .hbm, ⟨5, _⟩ => ⟨S2x8448x256, .f32⟩
  | .hbm, ⟨6, _⟩ => ⟨S256, .f32⟩
  | .hbm, ⟨7, _⟩ => ⟨S2x8448x256, .f32⟩
  | .hbm, ⟨8, _⟩ => ⟨S_, .f32⟩
  | .hbm, ⟨9, _⟩ => ⟨S2x8448, .f32⟩
  | .hbm, ⟨10, _⟩ => ⟨S2x8448x1, .f32⟩
  | .hbm, ⟨11, _⟩ => ⟨S_, .f32⟩
  | .hbm, ⟨12, _⟩ => ⟨S2x8448x1, .f32⟩
  | .hbm, ⟨13, _⟩ => ⟨S2x8448x1, .f32⟩
  | .hbm, ⟨14, _⟩ => ⟨S_, .f32⟩
  | .hbm, ⟨15, _⟩ => ⟨S2x8448x1, .f32⟩
  | .hbm, ⟨16, _⟩ => ⟨S2x8448x1, .f32⟩
  | .hbm, ⟨17, _⟩ => ⟨S2x8448x1, .f32⟩
  | .hbm, ⟨18, _⟩ => ⟨S2x8448x256, .f32⟩
  | .hbm, ⟨19, _⟩ => ⟨S2x8448x256, .f32⟩
  | .hbm, ⟨20, _⟩ => ⟨S1x1x256, .f32⟩
  | .hbm, ⟨21, _⟩ => ⟨S2x8448x256, .f32⟩
  | .hbm, ⟨22, _⟩ => ⟨S2x8448x256, .f32⟩
  | .hbm, ⟨23, _⟩ => ⟨S256x1024, .f32⟩
  | .hbm, ⟨24, _⟩ => ⟨S2x8448x1024, .f32⟩
  | .hbm, ⟨25, _⟩ => ⟨S2x8448x8x128, .f32⟩
  | .hbm, ⟨26, _⟩ => ⟨S2x8448x8x64, .f32⟩
  | .hbm, ⟨27, _⟩ => ⟨S_, .i32⟩
  | .hbm, ⟨28, _⟩ => ⟨S_, .f32⟩
  | .hbm, ⟨29, _⟩ => ⟨S2x8448x8x128, .f32⟩
  | .hbm, ⟨30, _⟩ => ⟨S2x8448x1024, .f32⟩
  | .hbm, ⟨31, _⟩ => ⟨S2x8448x1024, .bf16⟩
  | _, _ => ⟨S2x8448x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.SoftmaxRow.lean ====
/-
  One row of softmax attention over the extended reals, in the two forms that programs write: the weighted sum of the
  values divided once by the sum of the weights, and the sum of the values each weighted by its own quotient.
-/
module

public import Idealize.ShloMosaic.PureOps.Ideal
public import Idealize.ShloMosaic.Lib.Pointwise

@[expose] public section

noncomputable section

namespace Cert.SoftmaxRow

open Idealize.ShloMosaic

/-- Multiplication by a nonnegative real distributes over any finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite sum of reals, summed as extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum of products of reals is a real. -/
theorem sum_mul_real {n : Nat} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [← coe_sum]
  exact Finset.sum_congr rfl fun k _ => by rw [ha, hb, EReal.coe_mul]

/-- The largest of finitely many reals, taken from `-∞`, is one of them. -/
theorem fold_max_mem {n : Nat} (k0 : Fin n) (s : Fin n → EReal) :
    ∃ k, (Finset.univ : Finset (Fin n)).fold max ⊥ s = s k := by
  obtain ⟨k, _, h⟩ := Finset.exists_mem_eq_sup (Finset.univ : Finset (Fin n)) ⟨k0, Finset.mem_univ _⟩ s
  exact ⟨k, h⟩

/-- With real scores, dividing the weighted sum of the values by the sum of the weights is weighting each value by its
    own quotient: the sum of the weights is a positive real. The values are any extended reals. -/
theorem quotient_of_sum {n : Nat} (k0 : Fin n) (s v : Fin n → EReal) (hs : ∀ k, ∃ r : ℝ, s k = r) (M : EReal)
    (hM : M = (Finset.univ : Finset (Fin n)).fold max ⊥ s) :
    Ideal.div (∑ k, Ideal.exp (s k - M) * v k) (∑ k, Ideal.exp (s k - M))
      = ∑ k, v k * Ideal.div (Ideal.exp (s k - M)) (∑ k, Ideal.exp (s k - M)) := by
  obtain ⟨k1, h1⟩ := fold_max_mem k0 s
  choose a ha using hs
  have he : ∀ k, Ideal.exp (s k - M) = ((Real.exp (a k - a k1) : ℝ) : EReal) := fun k => by
    rw [hM, h1, ha, ha, ← EReal.coe_sub]; rfl
  have hL : (∑ k, Ideal.exp (s k - M)) = ((∑ k, Real.exp (a k - a k1) : ℝ) : EReal) := by
    rw [← coe_sum]; exact Finset.sum_congr rfl fun k _ => he k
  have hpos : 0 < ∑ k, Real.exp (a k - a k1) :=
    Finset.sum_pos (fun k _ => Real.exp_pos _) ⟨k0, Finset.mem_univ _⟩
  have hdiv : ∀ x : EReal, Ideal.div x (∑ k, Ideal.exp (s k - M))
      = x * (((∑ k, Real.exp (a k - a k1))⁻¹ : ℝ) : EReal) := fun x => by
    rw [hL]
    unfold Ideal.div
    rw [if_neg (by exact_mod_cast hpos.ne'), EReal.coe_inv]
  rw [hdiv, sum_mul_coe _ _ (inv_nonneg.mpr hpos.le)]
  refine Finset.sum_congr rfl fun k _ => ?_
  rw [hdiv, mul_comm (Ideal.exp _) (v k), mul_assoc]

end Cert.SoftmaxRow
-- ==== Proof.Attend.lean ====
/-
  Attention over the whole context. The reference read at an index, in stages: the scores, their row's maximum, the
  exponentials, the result; the precondition read at an index.
-/
module

public import proofs.«01_k».proof.Proof.Gen.Pre_finite
public import proofs.«01_k».proof.Proof.Gen.ReferenceIdeal.Run
public import proofs.«01_k».proof.Proof.SoftmaxRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attend

theorem ofBits_neg_inf : Ideal.ofBits .f32 0xFF800000#32 = ⊥ := by
  first | rfl | simp | decide
theorem ofBits_inf : Ideal.ofBits .f32 0x7F800000#32 = ⊤ := by
  first | rfl | simp | decide

/-- A magnitude below `+∞` is a real's. -/
theorem real_of_abs_lt {x : EReal} (h : FloatOps.absf (F := Ideal) (φ := .f32) x < (⊤ : EReal)) : ∃ r : ℝ, x = r := by
  induction x with
  | bot => exact absurd h (by simp [FloatOps.absf])
  | top => exact absurd h (by simp [FloatOps.absf])
  | coe r => exact ⟨r, rfl⟩

namespace Finite
open Cert.Pre_finite Cert.Pre_finite.Gen

/-- The precondition at an index: the query and the key there are reals. -/
theorem real_at (Q K V : FVec Ideal S2x8448x1024 .bf16) (h : Cert.Pre_finite.fn Q K V = fun _ => 1#1) (i : S2x8448x1024.Idx) :
    (∃ r : ℝ, Q i = (r : EReal)) ∧ (∃ r : ℝ, K i = (r : EReal)) := by
  have h := congrFun h i
  pointwise [Cert.Pre_finite.fn] at h
  rw [ofBits_inf] at h
  have key : ∀ a b : Bool, IntOp.andi (BitVec.ofBool a) (BitVec.ofBool b) = 1#1 → a = true ∧ b = true := by decide
  obtain ⟨h1, h2⟩ := key _ _ h
  exact ⟨real_of_abs_lt (of_decide_eq_true h1), real_of_abs_lt (of_decide_eq_true h2)⟩

end Finite

namespace Ref
open Cert.ReferenceIdeal Cert.ReferenceIdeal.Gen

/-- The reference's scores: every query after the context against every key, head by head. -/
def scores (Q K : FVec Ideal S2x8448x1024 .bf16) : FVec Ideal S2x8x8192x8448 .f32 :=
  Host.dotGeneral dot_S2x8192x8x128_S2x8448x8x128_S2x8x8192x8448_3_3_1_1_02_02 none (extractStridedSlice S2x8192x8x128 ![0, 256, 0, 0] (shapeCast _ (extf .f32 Q bitsLt_bf16_f32) shapeCasts_S2x8448x1024_S2x8448x8x128) slices_S2x8448x8x128_S2x8192x8x128_0_256_0_0) (shapeCast _ (extf .f32 K bitsLt_bf16_f32) shapeCasts_S2x8448x1024_S2x8448x8x128)

/-- The largest score of each row. -/
def rowmax (S : FVec Ideal S2x8x8192x8448 .f32) : FVec Ideal S2x8x8192 .f32 :=
  Host.reduce FloatOps.maximumf S (constant S_ .f32 0xFF800000#32) reducesTo_S2x8x8192x8448_S2x8x8192_d3 h_S_

/-- The exponentials of the scores after a row's number is subtracted. -/
def weights (S : FVec Ideal S2x8x8192x8448 .f32) (M : FVec Ideal S2x8x8192 .f32) : FVec Ideal S2x8x8192x8448 .f32 :=
  Host.exp (subf S (broadcastInDim S2x8x8192x8448 ![0, 1, 2, 3] bcast_S2x8x8192x1_S2x8x8192x8448_0_1_2_3 (broadcastInDim S2x8x8192x1 ![0, 1, 2] bcast_S2x8x8192_S2x8x8192x1_0_1_2 (maximumf (broadcastInDim S2x8x8192 ![] bcast_S_S2x8x8192 (constant S_ .f32 0xFF800000#32)) M))))

/-- The reference's result from its values and the exponentials. -/
def mix (V : FVec Ideal S2x8448x1024 .bf16) (E : FVec Ideal S2x8x8192x8448 .f32) : FVec Ideal S2x8192x1024 .f32 :=
  shapeCast _ (transpose S2x8192x8x128 [0, 3, 1, 2] (Host.dotGeneral dot_S2x8448x8x128_S2x8x8192x8448_S2x8x128x8192_1_3_3_2_02_01 none (shapeCast _ (extf .f32 V bitsLt_bf16_f32) shapeCasts_S2x8448x1024_S2x8448x8x128) (Host.divf E (broadcastInDim S2x8x8192x8448 ![0, 1, 2, 3] bcast_S2x8x8192x1_S2x8x8192x8448_0_1_2_3 (broadcastInDim S2x8x8192x1 ![0, 1, 2] bcast_S2x8x8192_S2x8x8192x1_0_1_2 (Host.reduceAdd E (constant S_ .f32 0x00000000#32) reducesTo_S2x8x8192x8448_S2x8x8192_d3 h_S_))))) transposes_S2x8x128x8192_S2x8192x8x128_0_3_1_2) shapeCasts_S2x8192x8x128_S2x8192x1024

/-- The reference's result from its three arguments. -/
abbrev out (Q K V : FVec Ideal S2x8448x1024 .bf16) : FVec Ideal S2x8192x1024 .f32 :=
  mix V (weights (scores Q K) (rowmax (scores Q K)))

theorem scores_at (Q K : FVec Ideal S2x8448x1024 .bf16) (b : Fin 2) (h : Fin 8) (r : Fin 8192) (k : Fin 8448) :
    scores Q K (ix4 b h r k) = ∑ x : Fin 128, Q (ix3 b ⟨256 + r.val, by omega⟩ ⟨h.val * 128 + x.val, by omega⟩)
      * K (ix3 b k ⟨h.val * 128 + x.val, by omega⟩) := by
  pointwise [scores]

theorem rowmax_at (S : FVec Ideal S2x8x8192x8448 .f32) (b : Fin 2) (h : Fin 8) (r : Fin 8192) :
    rowmax S (ix3 b h r) = (Finset.univ : Finset (Fin 8448)).fold max ⊥ fun k => S (ix4 b h r k) := by
  have hr : S2x8x8192x8448.Reduces [3] S2x8x8192 := by decide
  unfold rowmax
  refine (Host.reduce_eq_fold_single (FloatOps.maximumf (F := Ideal) (φ := .f32)) S _ _ hr h_S_ _).trans ?_
  have e : ∀ k : Fin 8448, hr.lift (ix3 b h r) k = ix4 b h r k := fun k => by
    funext a
    apply Fin.ext
    fin_cases a <;> rfl
  have e1 : constant (F := Ideal) S_ FTy.f32 (4286578688#32) (Shape.Idx.first h_S_) = (⊥ : EReal) := ofBits_neg_inf
  rw [e1]
  exact Finset.fold_congr fun k _ => congrArg S (e k)

theorem weights_at (S : FVec Ideal S2x8x8192x8448 .f32) (M : FVec Ideal S2x8x8192 .f32) (b : Fin 2) (h : Fin 8) (r : Fin 8192) (k : Fin 8448) :
    weights S M (ix4 b h r k) = Ideal.exp (S (ix4 b h r k) - M (ix3 b h r)) := by
  have : weights S M (ix4 b h r k) = Ideal.exp (S (ix4 b h r k) - max (Ideal.ofBits FTy.f32 4286578688#32) (M (ix3 b h r))) := by
    pointwise [weights]
  rw [this, ofBits_neg_inf, max_bot_left]

theorem mix_at (V : FVec Ideal S2x8448x1024 .bf16) (E : FVec Ideal S2x8x8192x8448 .f32) (b : Fin 2) (r : Fin 8192) (j : Fin 1024) :
    mix V E (ix3 b r j) = ∑ k : Fin 8448, V (ix3 b k j) * Ideal.div (E (ix4 b ⟨j.val / 128, by omega⟩ r k))
      (∑ k : Fin 8448, E (ix4 b ⟨j.val / 128, by omega⟩ r k)) := by
  pointwise [mix]

/-- THE REFERENCE AT AN INDEX, where queries and keys are real: one weighted sum of the values, divided once. -/
theorem out_at (Q K V : FVec Ideal S2x8448x1024 .bf16) (hQ : ∀ i, ∃ r : ℝ, Q i = (r : EReal)) (hK : ∀ i, ∃ r : ℝ, K i = (r : EReal))
    (b : Fin 2) (r : Fin 8192) (j : Fin 1024) (s : Fin 8448 → EReal)
    (hs : s = fun k => ∑ x : Fin 128, Q (ix3 b ⟨256 + r.val, by omega⟩ ⟨j.val / 128 * 128 + x.val, by omega⟩)
      * K (ix3 b k ⟨j.val / 128 * 128 + x.val, by omega⟩)) :
    out Q K V (ix3 b r j)
      = Ideal.div (∑ k, Ideal.exp (s k - (Finset.univ : Finset (Fin 8448)).fold max ⊥ s) * V (ix3 b k j))
          (∑ k, Ideal.exp (s k - (Finset.univ : Finset (Fin 8448)).fold max ⊥ s)) := by
  have hS : ∀ k, scores Q K (ix4 b ⟨j.val / 128, by omega⟩ r k) = s k := fun k => by rw [scores_at, hs]
  have hreal : ∀ k, ∃ x : ℝ, s k = x := fun k => by
    rw [hs]; exact SoftmaxRow.sum_mul_real _ _ (fun _ => hQ _) (fun _ => hK _)
  rw [SoftmaxRow.quotient_of_sum ⟨0, by omega⟩ s (fun k => V (ix3 b k j)) hreal _ rfl, out, mix_at]
  have hw : ∀ k, weights (scores Q K) (rowmax (scores Q K)) (ix4 b ⟨j.val / 128, by omega⟩ r k)
      = Ideal.exp (s k - (Finset.univ : Finset (Fin 8448)).fold max ⊥ s) := fun k => by
    rw [weights_at, rowmax_at, hS]
    simp only [hS]
  simp only [hw]

end Ref

end Cert.Attend
-- ==== Proof.Block.lean ====
/-
  Attention over the whole context. What the kernel stores in a block of 128 rows, read at an index, and the whole result
  array after the run: the reference's.
-/
module

public import proofs.«01_k».proof.Proof.Gen.KernelIdeal.Value
public import proofs.«01_k».proof.Proof.Attend

@[expose] public section

set_option maxRecDepth 16384

noncomputable section

open Idealize.ShloMosaic Idealize.ShloMosaic.TcCoe Idealize.SL.Sem
open Idealize.ShloMosaic.Pipeline (Dat)

namespace Cert.Attend.Ker
open Cert.KernelIdeal Cert.KernelIdeal.Gen

variable (m : (ℓ : Loc nD τ sig) → Buf (Elt Ideal) ℓ)

/-- One row of attention: the weighted sum of the values, divided once by the sum of the weights. -/
def row (s v : Fin 8448 → EReal) : EReal :=
  Ideal.div (∑ k, Ideal.exp (s k - (Finset.univ : Finset (Fin 8448)).fold max ⊥ s) * v k)
    (∑ k, Ideal.exp (s k - (Finset.univ : Finset (Fin 8448)).fold max ⊥ s))

/-- The first store's payload at an index. -/
theorem pay_at (q : Vec Ideal S1x128x128 .bf16) (k v : Vec Ideal S1x8448x128 .bf16) (i : S1x128x128.Idx) :
    k0_pay2 q k v i = row (fun y => ∑ x : Fin 128, q (ix3 0 (i 1) x) * k (ix3 0 y x)) (fun y => v (ix3 0 y (i 2))) := by
  pointwise [k0_pay2]
  rw [ofBits_neg_inf]
  rfl

/-- The second store's payload is the first's of its own operands. -/
theorem pay_second (q : Vec Ideal S1x128x128 .bf16) (k v : Vec Ideal S1x8448x128 .bf16) :
    k0_pay1 (k0_pay3 q k) v = k0_pay2 q k v := rfl

/-- Every window's block at every grid point. -/
theorem idx : ∀ t : Fin cfg0.N, win0_0.index t = ![t.val / 256, t.val % 32 + 1, t.val / 32 % 8]
    ∧ win0_1.index t = ![t.val / 256, 0, t.val / 32 % 8] ∧ win0_2.index t = ![t.val / 256, 0, t.val / 32 % 8]
    ∧ win0_3.index t = ![t.val / 256, t.val % 32, t.val / 32 % 8] ∧ t.val / 256 < 2 :=
  (by decide +kernel : ∀ t : Fin grid0.N, _)

/-- What the body leaves in the output's staging buffer, at an index: one row of attention over the blocks. -/
theorem out_at (x0 : Vec Ideal S1x256x128 .bf16) (x1 x2 : Vec Ideal S1x8448x128 .bf16) (a : Fin 256) (d : Fin 128) :
    out0_3 x0 x1 x2 (ix3 0 a d)
      = row (fun y => ∑ x : Fin 128, x0 (ix3 0 a x) * x1 (ix3 0 y x)) (fun y => x2 (ix3 0 y d)) := by
  have hk : ∀ X : Vec Ideal S1x8448x128 .bf16, View.ld X r0_1 = X :=
    fun X => View.ld_unit_zero (by funext b; fin_cases b <;> rfl) _ X
  unfold out0_3
  canon_tiles x h
  · rw [pay_second, pay_at]
    have hq : ∀ z : Fin 128, View.ld x0 r0_2 (ix3 0 (x 1) z) = x0 (ix3 0 a z) :=
      fun z => View.ld_unit_apply_of _ _ _ _ _ _ fun b => by fin_cases b <;> simp_all
    have hd : x 2 = d := Fin.ext h2.symm
    rw [hk x1, hk x2]
    simp only [hq, hd]
  · rw [pay_at]
    have hq : ∀ z : Fin 128, View.ld x0 r0_0 (ix3 0 (x 1) z) = x0 (ix3 0 a z) :=
      fun z => View.ld_unit_apply_of _ _ _ _ _ _ fun b => by fin_cases b <;> simp_all
    have hd : x 2 = d := Fin.ext h2.symm
    rw [hk x1, hk x2]
    simp only [hq, hd]

/-- The result array after the run is the reference's, where queries and keys are real. -/
theorem final (c : Dev nD) (hQ : ∀ i, ∃ r : ℝ, m ((c : Thread nD τ).loc main_arg0) i = (r : EReal))
    (hK : ∀ i, ∃ r : ℝ, m ((c : Thread nD τ).loc main_arg1) i = (r : EReal)) :
    (dats m 0 c).arrAt 3 (cfgs 0).N = Ref.out (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  have hy : y = ix3 0 (y 1) (y 2) := by blk_ext []
  rw [hy]
  obtain ⟨e0, e1, e2, e3, e4⟩ := idx t
  have b1 : (y 1 : ℕ) < 256 := (y 1).isLt
  have b2 : (y 2 : ℕ) < 128 := (y 2).isLt
  have hr : t.val % 32 * 256 + (y 1 : ℕ) < 8192 := by omega
  have hj : t.val / 32 % 8 * 128 + (y 2 : ℕ) < 1024 := by omega
  have he : (win0_3.blk t).view.emb (ix3 0 (y 1) (y 2)) = ix3 (⟨t.val / 256, e4⟩ : Fin 2) (⟨t.val % 32 * 256 + (y 1 : ℕ), hr⟩ : Fin 8192)
      (⟨t.val / 32 % 8 * 128 + (y 2 : ℕ), hj⟩ : Fin 1024) := by blk_ext [e3]
  refine (out_at _ _ _ (y 1) (y 2)).trans (Eq.trans ?_ ((congrArg _ he).trans (Ref.out_at _ _ _ hQ hK _ _ _ _ rfl)).symm)
  have hq : ∀ x : Fin 128, (show FVec Ideal S1x256x128 .bf16 from iblk m c 0 t) (ix3 0 (y 1) x)
      = (show FVec Ideal S2x8448x1024 .bf16 from m ((c : Thread nD τ).loc main_arg0)) (ix3 ⟨t.val / 256, e4⟩
        ⟨256 + (t.val % 32 * 256 + (y 1 : ℕ)), by omega⟩ ⟨(t.val / 32 % 8 * 128 + (y 2 : ℕ)) / 128 * 128 + x.val, by omega⟩) := fun x => by
    blk_ext [iblk, V, e0]
  have hk : ∀ (k : Fin 8448) (x : Fin 128), (show FVec Ideal S1x8448x128 .bf16 from iblk m c 1 t) (ix3 0 k x)
      = (show FVec Ideal S2x8448x1024 .bf16 from m ((c : Thread nD τ).loc main_arg1)) (ix3 ⟨t.val / 256, e4⟩
        k ⟨(t.val / 32 % 8 * 128 + (y 2 : ℕ)) / 128 * 128 + x.val, by omega⟩) := fun k x => by
    blk_ext [iblk, V, e1]
  have hv : ∀ k : Fin 8448, (show FVec Ideal S1x8448x128 .bf16 from iblk m c 2 t) (ix3 0 k (y 2))
      = (show FVec Ideal S2x8448x1024 .bf16 from m ((c : Thread nD τ).loc main_arg2)) (ix3 ⟨t.val / 256, e4⟩
        k ⟨t.val / 32 % 8 * 128 + (y 2 : ℕ), hj⟩) := fun k => by
    blk_ext [iblk, V, e2]
  exact congrArg₂ row (funext fun k => Finset.sum_congr rfl fun x _ => congrArg₂ (HMul.hMul : EReal → EReal → EReal) (hq x) (hk k x))
    (funext fun k => hv k)

end Cert.Attend.Ker
-- ==== Proof.Rows.lean ====
/-
  The arithmetic of one row of the stream: its norm, its modulation, its product with a column of weights.
-/
module

public import Idealize.ShloMosaic.Lib.Pipeline.ValueKit

@[expose] public section

noncomputable section

open Idealize.ShloMosaic

namespace Cert.Rows

/-- An entry of a row divided by the root of the row's mean square, times a gain. -/
def rms (h g : Fin 1024 → EReal) (j : Fin 1024) : EReal :=
  h j * Ideal.rsqrt (Ideal.div (∑ x, h x * h x) (Ideal.ofBits FTy.f32 0x44800000#32) + Ideal.ofBits FTy.f32 0x358637BD#32) * g j

/-- An entry of a normed row, scaled and shifted. -/
def token (h g sc sh : Fin 1024 → EReal) (k : Fin 1024) : EReal :=
  rms h g k * (Ideal.ofBits FTy.f32 0x3F800000#32 + sc k) + sh k

/-- A scaled and shifted normed row against a column. -/
def project (h g sc sh w : Fin 1024 → EReal) : EReal := ∑ k, token h g sc sh k * w k

/-- The modulation row of a position of the stream: the context's, or the batch's own. -/
def modRow (b : Fin 2) (r : ℕ) : Fin 8 := if r < 256 then 2 else ⟨b.val, by omega⟩

theorem modRow_ctx (b : Fin 2) (r : ℕ) (h : r < 256) : modRow b r = 2 := if_pos h
theorem modRow_lat (b : Fin 2) (r : ℕ) (h : ¬ r < 256) : modRow b r = ⟨b.val, by omega⟩ := if_neg h

end Cert.Rows

end
-- ==== Proof.EvenProj.lean ====
/-
  The even layer's in-projection: what the call stores in a block of 256 rows, and the whole result array after the run.
-/
module

public import proofs.«01_k».proof.Proof.Gen.EvenInIdeal.Value
public import proofs.«01_k».proof.Proof.Gen.EvenInRefIdeal
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.EvenProj
open Cert.Rows

/-- A row of the stream: the context's rows, then the latents'. -/
def row (A : Fin 2 → Fin 256 → Fin 1024 → EReal) (B : Fin 2 → Fin 8192 → Fin 1024 → EReal) (b : Fin 2) (r : Fin 8448) (x : Fin 1024) : EReal :=
  if h : r.val < 256 then A b ⟨r.val, h⟩ x else B b ⟨r.val - 256, by omega⟩ x

namespace Ref
open Cert.EvenInRefIdeal Cert.EvenInRefIdeal.Gen

/-- The context's rows, projected. -/
def ctxRows (A : FVec Ideal S2x256x1024 .f32) (C : FVec Ideal S2x8x6144 .f32) (D : FVec Ideal S2x1024 .f32) (E : FVec Ideal S1x1024x1792 .f32) : FVec Ideal S2x256x1792 .f32 :=
  Host.dotGeneral dot_S2x256x1024_S1024x1792_S2x256x1792_2_0_01_1_n_n none (addf (mulf (mulf (mulf A (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf A A) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![0, 0] D slices_S2x1024_S1x1024_0_0) shapeCasts_S1x1024_S1024)))) (broadcastInDim S2x256x1024 ![0, 1, 2] bcast_S1x1x1024_S2x256x1024_0_1_2 (addf (broadcastInDim S1x1x1024 ![] bcast_S_S1x1x1024 (constant S_ .f32 0x3F800000#32)) (broadcastInDim S1x1x1024 ![2] bcast_S1024_S1x1x1024_2 (shapeCast _ (extractStridedSlice S1x1x1024 ![0, 2, 1024] C slices_S2x8x6144_S1x1x1024_0_2_1024) shapeCasts_S1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1024 ![0, 2, 0] C slices_S2x8x6144_S1x1x1024_0_2_0) shapeCasts_S1x1x1024_S1024)))) (shapeCast _ E shapeCasts_S1x1024x1792_S1024x1792)

/-- The latents' rows, projected. -/
def latRows (B : FVec Ideal S2x8192x1024 .f32) (C : FVec Ideal S2x8x6144 .f32) (D : FVec Ideal S2x1024 .f32) (E : FVec Ideal S1x1024x1792 .f32) : FVec Ideal S2x8192x1792 .f32 :=
  Host.dotGeneral dot_S2x8192x1024_S1024x1792_S2x8192x1792_2_0_01_1_n_n none (addf (mulf (mulf (mulf B (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf B B) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] D slices_S2x1024_S1x1024_0_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1024 ![0, 0, 1024] C slices_S2x8x6144_S1x2x1024_0_0_1024) shapeCasts_S1x2x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![0, 0, 0] C slices_S2x8x6144_S1x2x1024_0_0_0) shapeCasts_S1x2x1024_S2x1024)))) (shapeCast _ E shapeCasts_S1x1024x1792_S1024x1792)

/-- The reference's result. -/
def out (A : FVec Ideal S2x256x1024 .f32) (B : FVec Ideal S2x8192x1024 .f32) (C : FVec Ideal S2x8x6144 .f32) (D : FVec Ideal S2x1024 .f32) (E : FVec Ideal S1x1024x1792 .f32) : FVec Ideal S2x8448x1792 .f32 :=
  concatenate S2x8448x1792 1 [⟨S2x256x1792, ctxRows A C D E⟩, ⟨S2x8192x1792, latRows B C D E⟩] concatenates_S2x256x1792_S2x8192x1792_S2x8448x1792_d1

theorem ctxRows_at (A : FVec Ideal S2x256x1024 .f32) (C : FVec Ideal S2x8x6144 .f32) (D : FVec Ideal S2x1024 .f32) (E : FVec Ideal S1x1024x1792 .f32) (b : Fin 2) (r : Fin 256) (n : Fin 1792) :
    ctxRows A C D E (ix3 b r n) = project (fun x => A (ix3 b r x)) (fun x => D (ix2 (0 : Fin 2) x)) (fun x => C (ix3 (0 : Fin 2) (2 : Fin 8) ⟨1024 + x.val, by omega⟩))
      (fun x => C (ix3 (0 : Fin 2) (2 : Fin 8) ⟨x.val, by omega⟩)) (fun x => E (ix3 (0 : Fin 1) x n)) := by
  pointwise [ctxRows, project, token, rms]

theorem latRows_at (B : FVec Ideal S2x8192x1024 .f32) (C : FVec Ideal S2x8x6144 .f32) (D : FVec Ideal S2x1024 .f32) (E : FVec Ideal S1x1024x1792 .f32) (b : Fin 2) (r : Fin 8192) (n : Fin 1792) :
    latRows B C D E (ix3 b r n) = project (fun x => B (ix3 b r x)) (fun x => D (ix2 (0 : Fin 2) x)) (fun x => C (ix3 (0 : Fin 2) ⟨b.val, by omega⟩ ⟨1024 + x.val, by omega⟩))
      (fun x => C (ix3 (0 : Fin 2) ⟨b.val, by omega⟩ ⟨x.val, by omega⟩)) (fun x => E (ix3 (0 : Fin 1) x n)) := by
  pointwise [latRows, project, token, rms]

theorem out_at (A : FVec Ideal S2x256x1024 .f32) (B : FVec Ideal S2x8192x1024 .f32) (C : FVec Ideal S2x8x6144 .f32) (D : FVec Ideal S2x1024 .f32) (E : FVec Ideal S1x1024x1792 .f32) (b : Fin 2) (r : Fin 8448) (n : Fin 1792) :
    out A B C D E (ix3 b r n) = project (row (fun b r x => A (ix3 b r x)) (fun b r x => B (ix3 b r x)) b r) (fun x => D (ix2 (0 : Fin 2) x))
      (fun x => C (ix3 (0 : Fin 2) (modRow b r) ⟨1024 + x.val, by omega⟩))
      (fun x => C (ix3 (0 : Fin 2) (modRow b r) ⟨x.val, by omega⟩)) (fun x => E (ix3 (0 : Fin 1) x n)) := by
  have h : out A B C D E (ix3 b r n) = if h : r.val < 256 then ctxRows A C D E (ix3 b ⟨r.val, h⟩ n) else latRows B C D E (ix3 b ⟨r.val - 256, by omega⟩ n) := by
    pointwise [out]
  rw [h]
  by_cases hr : r.val < 256
  · rw [dif_pos hr, ctxRows_at, modRow_ctx _ _ hr]
    unfold row
    simp only [dif_pos hr]
  · rw [dif_neg hr, latRows_at, modRow_lat _ _ hr]
    unfold row
    simp only [dif_neg hr]

end Ref

namespace Ker
open Cert.EvenInIdeal Cert.EvenInIdeal.Gen

variable (m : (ℓ : Loc nD τ sig) → Buf (Elt Ideal) ℓ)

theorem pay_at (h : Vec Ideal S1x256x1024 .f32) (g : Vec Ideal S1x1024 .f32) (sc sh : Vec Ideal S1x1x1024 .f32) (w : Vec Ideal S1024x1792 .bf16) (a : Fin 256) (n : Fin 1792) :
    k0_pay1 h g sc sh w (ix3 0 a n) = project (fun x => h (ix3 0 a x)) (fun x => g (ix2 0 x)) (fun x => sc (ix3 0 0 x)) (fun x => sh (ix3 0 0 x)) (fun x => w (ix2 x n)) := by
  pointwise [k0_pay1, project, token, rms]

theorem idx : ∀ t : Fin cfg0.N, win0_0.index t = ![t.val / 33, t.val % 33, 0]
    ∧ win0_1.index t = ![if t.val % 33 < 1 then 2 else t.val / 33, 0, 0] ∧ win0_2.index t = ![0, 0]
    ∧ win0_3.index t = ![0, 0] ∧ win0_4.index t = ![t.val / 33, t.val % 33, 0] ∧ t.val / 33 < 2 :=
  (by decide +kernel : ∀ t : Fin grid0.N, _)

theorem out_at (x0 : Vec Ideal S1x256x1024 .f32) (x1 : Vec Ideal S1x8x1024 .f32) (x2 : Vec Ideal S1x1024 .f32) (x3 : Vec Ideal S1024x1792 .bf16) (a : Fin 256) (n : Fin 1792) :
    out0_4 x0 x1 x2 x3 (ix3 0 a n) = project (fun x => x0 (ix3 0 a x)) (fun x => x2 (ix2 0 x)) (fun x => x1 (ix3 0 1 x)) (fun x => x1 (ix3 0 0 x)) (fun x => x3 (ix2 x n)) := by
  have hm : ∀ z : Fin 1024, View.ld x1 r0_2 (ix3 0 0 z) = x1 (ix3 0 1 z) :=
    fun z => View.ld_unit_apply_of _ _ _ _ _ _ fun b => by fin_cases b <;> simp_all
  have hn : ∀ z : Fin 1024, View.ld x1 r0_3 (ix3 0 0 z) = x1 (ix3 0 0 z) :=
    fun z => View.ld_unit_apply_of _ _ _ _ _ _ fun b => by fin_cases b <;> simp_all
  frame_out
  rw [pay_at]
  simp only [hm, hn]

/-- The gain as the call takes it. -/
theorem gain_at (c : Dev nD) (x : Fin 1024) : (show FVec Ideal S1x1024 .f32 from V m c main_v10) (ix2 0 x)
    = (show FVec Ideal S2x1024 .f32 from m ((c : Thread nD τ).loc main_arg3)) (ix2 0 x) := by
  simp only [V, hostOps0, hostOps0_1, hostOps0_2, List.flatten_cons, List.flatten_nil, List.append_nil, List.cons_append, List.nil_append]
  entry_read
  pointwise

/-- The weights as the call takes them. -/
theorem weight_at (c : Dev nD) (x : Fin 1024) (n : Fin 1792) : (show FVec Ideal S1024x1792 .bf16 from V m c main_v9) (ix2 x n)
    = (show FVec Ideal S1x1024x1792 .f32 from m ((c : Thread nD τ).loc main_arg4)) (ix3 0 x n) := by
  simp only [V, hostOps0, hostOps0_1, hostOps0_2, List.flatten_cons, List.flatten_nil, List.append_nil, List.cons_append, List.nil_append]
  entry_read
  pointwise

theorem V_v3 (c : Dev nD) : V m c main_v3 = concatenate S2x8448x1024 1 [⟨S2x256x1024, m ((c : Thread nD τ).loc main_arg0)⟩, ⟨S2x8192x1024, m ((c : Thread nD τ).loc main_arg1)⟩] concatenates_S2x256x1024_S2x8192x1024_S2x8448x1024_d1 := by
  simp only [V, hostOps0, hostOps0_1, hostOps0_2, List.flatten_cons, List.flatten_nil, List.append_nil, List.cons_append, List.nil_append]
  entry_read
  rfl

/-- The stream as the call takes it. -/
theorem stream_at (c : Dev nD) (b : Fin 2) (r : Fin 8448) (x : Fin 1024) : (show FVec Ideal S2x8448x1024 .f32 from V m c main_v3) (ix3 b r x)
    = row (fun b r x => (show FVec Ideal S2x256x1024 .f32 from m ((c : Thread nD τ).loc main_arg0)) (ix3 b r x))
      (fun b r x => (show FVec Ideal S2x8192x1024 .f32 from m ((c : Thread nD τ).loc main_arg1)) (ix3 b r x)) b r x := by
  rw [V_v3]
  pointwise [row]

/-- The modulation rows as the call takes them: six rows for each of three, filled up to eight. -/
def table (M : FVec Ideal S2x8x6144 .f32) : FVec Ideal S2x3x8x1024 .f32 :=
  pad S2x3x8x1024 ![0, 0, 0, 0] ![0, 0, 2, 0] ![0, 0, 0, 0]
    (extractStridedSlice S2x3x6x1024 ![0, 0, 0, 0] (shapeCast S2x8x6x1024 M shapeCasts_S2x8x6144_S2x8x6x1024) slices_S2x8x6x1024_S2x3x6x1024_0_0_0_0)
    (sitofp .f32 (constantI S_ 32 0#32)) pads_S2x3x6x1024_S2x3x8x1024_000_000_020_000 h_S_

theorem table_at (M : FVec Ideal S2x8x6144 .f32) (l : Fin 2) (b : Fin 3) (k : Fin 8) (x : Fin 1024) (hk : k.val < 6) :
    table M (ix4 l b k x) = M (ix3 l ⟨b.val, by omega⟩ ⟨k.val * 1024 + x.val, by omega⟩) := by
  pointwise [table]
  exact dif_pos hk

theorem V_v5 (c : Dev nD) : V m c main_v5 = shapeCast S3x8x1024 (extractStridedSlice S1x3x8x1024 ![0, 0, 0, 0] (table (m ((c : Thread nD τ).loc main_arg2))) slices_S2x3x8x1024_S1x3x8x1024_0_0_0_0) shapeCasts_S1x3x8x1024_S3x8x1024 := by
  simp only [V, hostOps0, hostOps0_1, hostOps0_2, List.flatten_cons, List.flatten_nil, List.append_nil, List.cons_append, List.nil_append]
  entry_read
  rfl

/-- A modulation row as the call takes it. -/
theorem mods_at (c : Dev nD) (b : Fin 3) (k : Fin 8) (hk : k.val < 6) (x : Fin 1024) : (show FVec Ideal S3x8x1024 .f32 from V m c main_v5) (ix3 b k x)
    = (show FVec Ideal S2x8x6144 .f32 from m ((c : Thread nD τ).loc main_arg2)) (ix3 (0 : Fin 2) ⟨b.val, by omega⟩ ⟨k.val * 1024 + x.val, by omega⟩) := by
  rw [V_v5]
  have h := table_at (m ((c : Thread nD τ).loc main_arg2)) 0 b k x hk
  pointwise
  exact h

theorem block (c : Dev nD) (t : Fin cfg0.N) (ht : t.val / 33 < 2) (a : Fin 256) (n : Fin 1792) :
    out0_4 (iblk m c 0 t) (iblk m c 1 t) (iblk m c 2 t) (iblk m c 3 t) (ix3 0 a n)
      = Ref.out (m ((c : Thread nD τ).loc main_arg0)) (m ((c : Thread nD τ).loc main_arg1)) (m ((c : Thread nD τ).loc main_arg2)) (m ((c : Thread nD τ).loc main_arg3))
        (m ((c : Thread nD τ).loc main_arg4)) (ix3 (⟨t.val / 33, ht⟩ : Fin 2) (⟨t.val % 33 * 256 + a.val, by omega⟩ : Fin 8448) n) := by
  obtain ⟨e0, e1, e2, e3, e4, e5⟩ := idx t
  have hb : (if t.val % 33 < 1 then 2 else t.val / 33) < 3 := by split <;> omega
  have h0 : ∀ x : Fin 1024, (show FVec Ideal S1x256x1024 .f32 from iblk m c 0 t) (ix3 0 a x)
      = (show FVec Ideal S2x8448x1024 .f32 from V m c main_v3) (ix3 (⟨t.val / 33, ht⟩ : Fin 2) (⟨t.val % 33 * 256 + a.val, by omega⟩ : Fin 8448) x) := fun x => by
    blk_ext [iblk, e0]
  have h1 : ∀ (k : Fin 8) (x : Fin 1024), (show FVec Ideal S1x8x1024 .f32 from iblk m c 1 t) (ix3 0 k x)
      = (show FVec Ideal S3x8x1024 .f32 from V m c main_v5) (ix3 ⟨_, hb⟩ k x) := fun k x => by
    blk_ext [iblk, e1]
  have h2 : ∀ x : Fin 1024, (show FVec Ideal S1x1024 .f32 from iblk m c 2 t) (ix2 0 x)
      = (show FVec Ideal S1x1024 .f32 from V m c main_v10) (ix2 0 x) := fun x => by
    blk_ext [iblk, e2]
  have h3 : ∀ x : Fin 1024, (show FVec Ideal S1024x1792 .bf16 from iblk m c 3 t) (ix2 x n)
      = (show FVec Ideal S1024x1792 .bf16 from V m c main_v9) (ix2 x n) := fun x => by
    blk_ext [iblk, e3]
  have hrow : (⟨if t.val % 33 < 1 then 2 else t.val / 33, by omega⟩ : Fin 8) = modRow ⟨t.val / 33, ht⟩ (t.val % 33 * 256 + a.val) := by
    unfold modRow
    apply Fin.ext
    by_cases h : t.val % 33 < 1
    · rw [if_pos (show t.val % 33 * 256 + a.val < 256 by omega)]; simp only [if_pos h]; rfl
    · rw [if_neg (show ¬ t.val % 33 * 256 + a.val < 256 by omega)]; simp only [if_neg h]
  rw [Ref.out_at, ← hrow]
  refine (out_at _ _ _ _ a n).trans ?_
  refine congr (congr (congr (congr (congrArg project (funext fun x => (h0 x).trans (stream_at m c _ _ x))) (funext fun x => (h2 x).trans (gain_at m c x)))
    (funext fun x => (h1 1 x).trans ((mods_at m c _ 1 (by decide) x).trans ?_))) (funext fun x => (h1 0 x).trans ((mods_at m c _ 0 (by decide) x).trans ?_)))
    (funext fun x => (h3 x).trans (weight_at m c x n))
  · blk_ext []
  · blk_ext []

/-- THE RESULT ARRAY after the run is the reference's. -/
theorem final (c : Dev nD) :
    (dats m 0 c).arrAt 4 (cfgs 0).N = Ref.out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t _ y => ?_
  blk_simp
  rw [after0_4]
  have hy : y = ix3 0 (y 1) (y 2) := by blk_ext []
  rw [hy]
  obtain ⟨e0, e1, e2, e3, e4, e5⟩ := idx t
  have b1 : (y 1 : ℕ) < 256 := (y 1).isLt
  have b2 : (y 2 : ℕ) < 1792 := (y 2).isLt
  have he : (win0_4.blk t).view.emb (ix3 0 (y 1) (y 2)) = ix3 (⟨t.val / 33, e5⟩ : Fin 2) (⟨t.val % 33 * 256 + (y 1 : ℕ), by omega⟩ : Fin 8448)
      (⟨(y 2 : ℕ), b2⟩ : Fin 1792) := by blk_ext [e4]
  exact (block m c t e5 (y 1) (y 2)).trans (congrArg _ he).symm

end Ker
end Cert.EvenProj

end
-- ==== Proof.OddProjRef.lean ====
/-
  The odd layer's in-projection: the reference read at an index.
-/
module

public import proofs.«01_k».proof.Proof.Gen.OddInRefIdeal
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.OddProj
open Cert.Rows

/-- A row of a column-padded array: zeros stand after column 2064 and after the last one. -/
def padded (p : Fin 2736 → EReal) (n : Fin 2944) : EReal :=
  if h : n.val < 2064 then p ⟨n.val, by omega⟩ else if n.val < 2176 then 0 else if h : n.val < 2848 then p ⟨n.val - 112, by omega⟩ else 0

/-- A column that is zero projects to zero: padding the columns pads the projection. -/
theorem project_padded (h g sc sh : Fin 1024 → EReal) (E : Fin 1024 → Fin 2736 → EReal) (n : Fin 2944) :
    project h g sc sh (fun x => padded (E x) n) = padded (fun k => project h g sc sh fun x => E x k) n := by
  have hz : project h g sc sh (fun _ => 0) = 0 := Finset.sum_eq_zero fun x _ => mul_zero _
  unfold padded
  by_cases h0 : n.val < 2064
  · simp only [dif_pos h0]
  · simp only [dif_neg h0]
    by_cases h1 : n.val < 2176
    · simp only [if_pos h1]; exact hz
    · simp only [if_neg h1]
      by_cases h2 : n.val < 2848
      · simp only [dif_pos h2]
      · simp only [dif_neg h2]; exact hz

namespace Ref
open Cert.OddInRefIdeal Cert.OddInRefIdeal.Gen

/-- The context's stream with the addend in. -/
def ctxStream (A B : FVec Ideal S2x8448x1024 .f32) (C : FVec Ideal S2x8x6144 .f32) : FVec Ideal S2x256x1024 .f32 :=
  addf (extractStridedSlice S2x256x1024 ![0, 0, 0] A slices_S2x8448x1024_S2x256x1024_0_0_0) (mulf (broadcastInDim S2x256x1024 ![0, 1, 2] bcast_S1x1x1024_S2x256x1024_0_1_2 (broadcastInDim S1x1x1024 ![2] bcast_S1024_S1x1x1024_2 (shapeCast _ (extractStridedSlice S1x1x1024 ![0, 2, 5120] C slices_S2x8x6144_S1x1x1024_0_2_5120) shapeCasts_S1x1x1024_S1024))) (extractStridedSlice S2x256x1024 ![0, 0, 0] B slices_S2x8448x1024_S2x256x1024_0_0_0))

/-- The latents' stream with the addend in. -/
def latStream (A B : FVec Ideal S2x8448x1024 .f32) (C : FVec Ideal S2x8x6144 .f32) : FVec Ideal S2x8192x1024 .f32 :=
  addf (extractStridedSlice S2x8192x1024 ![0, 256, 0] A slices_S2x8448x1024_S2x8192x1024_0_256_0) (mulf (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![0, 0, 5120] C slices_S2x8x6144_S1x2x1024_0_0_5120) shapeCasts_S1x2x1024_S2x1024))) (extractStridedSlice S2x8192x1024 ![0, 256, 0] B slices_S2x8448x1024_S2x8192x1024_0_256_0))

/-- Both. -/
def stream (A B : FVec Ideal S2x8448x1024 .f32) (C : FVec Ideal S2x8x6144 .f32) : FVec Ideal S2x8448x1024 .f32 :=
  concatenate S2x8448x1024 1 [⟨S2x256x1024, ctxStream A B C⟩, ⟨S2x8192x1024, latStream A B C⟩] concatenates_S2x256x1024_S2x8192x1024_S2x8448x1024_d1

/-- The context's rows, projected. -/
def ctxRows (A : FVec Ideal S2x256x1024 .f32) (C : FVec Ideal S2x8x6144 .f32) (D : FVec Ideal S2x1024 .f32) (E : FVec Ideal S1x1024x2736 .f32) : FVec Ideal S2x256x2736 .f32 :=
  Host.dotGeneral dot_S2x256x1024_S1024x2736_S2x256x2736_2_0_01_1_n_n none (addf (mulf (mulf (mulf A (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf A A) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![1, 0] D slices_S2x1024_S1x1024_1_0) shapeCasts_S1x1024_S1024)))) (broadcastInDim S2x256x1024 ![0, 1, 2] bcast_S1x1x1024_S2x256x1024_0_1_2 (addf (broadcastInDim S1x1x1024 ![] bcast_S_S1x1x1024 (constant S_ .f32 0x3F800000#32)) (broadcastInDim S1x1x1024 ![2] bcast_S1024_S1x1x1024_2 (shapeCast _ (extractStridedSlice S1x1x1024 ![1, 2, 1024] C slices_S2x8x6144_S1x1x1024_1_2_1024) shapeCasts_S1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1024 ![1, 2, 0] C slices_S2x8x6144_S1x1x1024_1_2_0) shapeCasts_S1x1x1024_S1024)))) (shapeCast _ E shapeCasts_S1x1024x2736_S1024x2736)

/-- The latents' rows, projected. -/
def latRows (B : FVec Ideal S2x8192x1024 .f32) (C : FVec Ideal S2x8x6144 .f32) (D : FVec Ideal S2x1024 .f32) (E : FVec Ideal S1x1024x2736 .f32) : FVec Ideal S2x8192x2736 .f32 :=
  Host.dotGeneral dot_S2x8192x1024_S1024x2736_S2x8192x2736_2_0_01_1_n_n none (addf (mulf (mulf (mulf B (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf B B) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![1, 0] D slices_S2x1024_S1x1024_1_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1024 ![1, 0, 1024] C slices_S2x8x6144_S1x2x1024_1_0_1024) shapeCasts_S1x2x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![1, 0, 0] C slices_S2x8x6144_S1x2x1024_1_0_0) shapeCasts_S1x2x1024_S2x1024)))) (shapeCast _ E shapeCasts_S1x1024x2736_S1024x2736)

/-- Both. -/
def rows (U : FVec Ideal S2x256x2736 .f32) (W : FVec Ideal S2x8192x2736 .f32) : FVec Ideal S2x8448x2736 .f32 :=
  concatenate S2x8448x2736 1 [⟨S2x256x2736, U⟩, ⟨S2x8192x2736, W⟩] concatenates_S2x256x2736_S2x8192x2736_S2x8448x2736_d1

/-- The array the projection is returned in. -/
def spread (X : FVec Ideal S2x8448x2736 .f32) : FVec Ideal S2x8448x2944 .f32 :=
  concatenate S2x8448x2944 2 [⟨S2x8448x2064, extractStridedSlice S2x8448x2064 ![0, 0, 0] X slices_S2x8448x2736_S2x8448x2064_0_0_0⟩,
    ⟨S2x8448x112, broadcastInDim S2x8448x112 ![] bcast_S_S2x8448x112 (constant S_ .f32 0x00000000#32)⟩,
    ⟨S2x8448x672, extractStridedSlice S2x8448x672 ![0, 0, 2064] X slices_S2x8448x2736_S2x8448x672_0_0_2064⟩,
    ⟨S2x8448x96, broadcastInDim S2x8448x96 ![] bcast_S_S2x8448x96 (constant S_ .f32 0x00000000#32)⟩] concatenates_S2x8448x2064_S2x8448x112_S2x8448x672_S2x8448x96_S2x8448x2944_d2

/-- The reference's projection. -/
def proj (A B : FVec Ideal S2x8448x1024 .f32) (C : FVec Ideal S2x8x6144 .f32) (D : FVec Ideal S2x1024 .f32) (E : FVec Ideal S1x1024x2736 .f32) : FVec Ideal S2x8448x2944 .f32 :=
  spread (rows (ctxRows (ctxStream A B C) C D E) (latRows (latStream A B C) C D E))

theorem ctxStream_at (A B : FVec Ideal S2x8448x1024 .f32) (C : FVec Ideal S2x8x6144 .f32) (b : Fin 2) (r : Fin 256) (j : Fin 1024) :
    ctxStream A B C (ix3 b r j) = A (ix3 b ⟨r.val, by omega⟩ j) + C (ix3 (0 : Fin 2) (2 : Fin 8) ⟨5120 + j.val, by omega⟩) * B (ix3 b ⟨r.val, by omega⟩ j) := by
  pointwise [ctxStream]

theorem latStream_at (A B : FVec Ideal S2x8448x1024 .f32) (C : FVec Ideal S2x8x6144 .f32) (b : Fin 2) (r : Fin 8192) (j : Fin 1024) :
    latStream A B C (ix3 b r j) = A (ix3 b ⟨256 + r.val, by omega⟩ j) + C (ix3 (0 : Fin 2) ⟨b.val, by omega⟩ ⟨5120 + j.val, by omega⟩) * B (ix3 b ⟨256 + r.val, by omega⟩ j) := by
  pointwise [latStream]

theorem ctxRows_at (A : FVec Ideal S2x256x1024 .f32) (C : FVec Ideal S2x8x6144 .f32) (D : FVec Ideal S2x1024 .f32) (E : FVec Ideal S1x1024x2736 .f32) (b : Fin 2) (r : Fin 256) (n : Fin 2736) :
    ctxRows A C D E (ix3 b r n) = project (fun x => A (ix3 b r x)) (fun x => D (ix2 (1 : Fin 2) x)) (fun x => C (ix3 (1 : Fin 2) (2 : Fin 8) ⟨1024 + x.val, by omega⟩))
      (fun x => C (ix3 (1 : Fin 2) (2 : Fin 8) ⟨x.val, by omega⟩)) (fun x => E (ix3 (0 : Fin 1) x n)) := by
  pointwise [ctxRows, project, token, rms]

theorem latRows_at (B : FVec Ideal S2x8192x1024 .f32) (C : FVec Ideal S2x8x6144 .f32) (D : FVec Ideal S2x1024 .f32) (E : FVec Ideal S1x1024x2736 .f32) (b : Fin 2) (r : Fin 8192) (n : Fin 2736) :
    latRows B C D E (ix3 b r n) = project (fun x => B (ix3 b r x)) (fun x => D (ix2 (1 : Fin 2) x)) (fun x => C (ix3 (1 : Fin 2) ⟨b.val, by omega⟩ ⟨1024 + x.val, by omega⟩))
      (fun x => C (ix3 (1 : Fin 2) ⟨b.val, by omega⟩ ⟨x.val, by omega⟩)) (fun x => E (ix3 (0 : Fin 1) x n)) := by
  pointwise [latRows, project, token, rms]

theorem rows_at (U : FVec Ideal S2x256x2736 .f32) (W : FVec Ideal S2x8192x2736 .f32) (b : Fin 2) (r : Fin 8448) (n : Fin 2736) :
    rows U W (ix3 b r n) = if h : r.val < 256 then U (ix3 b ⟨r.val, h⟩ n) else W (ix3 b ⟨r.val - 256, by omega⟩ n) := by
  pointwise [rows]

theorem spread_at (X : FVec Ideal S2x8448x2736 .f32) (b : Fin 2) (r : Fin 8448) (n : Fin 2944) :
    spread X (ix3 b r n) = padded (fun k => X (ix3 b r k)) n := by
  pointwise [spread, padded]
  by_cases h0 : n.val < 2064
  · rw [dif_pos h0, dif_pos h0]
  · rw [dif_neg h0, dif_neg h0]
    by_cases h1 : n.val < 2176
    · rw [dif_pos (show n.val - 2064 < 112 by omega), if_pos h1]
    · rw [dif_neg (show ¬ n.val - 2064 < 112 by omega), if_neg h1]
      by_cases h2 : n.val < 2848
      · rw [dif_pos (show n.val - 2064 - 112 < 672 by omega), dif_pos h2]
        exact congrArg (fun k => X (ix3 b r k)) (Fin.ext (by show 2064 + (n.val - 2064 - 112) = n.val - 112; omega))
      · rw [dif_neg (show ¬ n.val - 2064 - 112 < 672 by omega), dif_neg h2]

/-- A row of the stream with the addend in. -/
def sum (A B : FVec Ideal S2x8448x1024 .f32) (C : FVec Ideal S2x8x6144 .f32) (b : Fin 2) (r : Fin 8448) (j : Fin 1024) : EReal :=
  A (ix3 b r j) + C (ix3 (0 : Fin 2) (modRow b r) ⟨5120 + j.val, by omega⟩) * B (ix3 b r j)

theorem stream_at (A B : FVec Ideal S2x8448x1024 .f32) (C : FVec Ideal S2x8x6144 .f32) (b : Fin 2) (r : Fin 8448) (j : Fin 1024) :
    stream A B C (ix3 b r j) = sum A B C b r j := by
  have h : stream A B C (ix3 b r j) = if h : r.val < 256 then ctxStream A B C (ix3 b ⟨r.val, h⟩ j) else latStream A B C (ix3 b ⟨r.val - 256, by omega⟩ j) := by
    pointwise [stream]
  rw [h]
  by_cases hr : r.val < 256
  · rw [dif_pos hr, ctxStream_at, sum, modRow_ctx _ _ hr]
  · have e : (⟨256 + (r.val - 256), by omega⟩ : Fin 8448) = r := Fin.ext (by show 256 + (r.val - 256) = r.val; omega)
    rw [dif_neg hr, latStream_at, sum, modRow_lat _ _ hr]
    simp only [e]

theorem proj_at (A B : FVec Ideal S2x8448x1024 .f32) (C : FVec Ideal S2x8x6144 .f32) (D : FVec Ideal S2x1024 .f32) (E : FVec Ideal S1x1024x2736 .f32) (b : Fin 2) (r : Fin 8448) (n : Fin 2944) :
    proj A B C D E (ix3 b r n) = padded (fun k => project (sum A B C b r) (fun x => D (ix2 (1 : Fin 2) x))
      (fun x => C (ix3 (1 : Fin 2) (modRow b r) ⟨1024 + x.val, by omega⟩))
      (fun x => C (ix3 (1 : Fin 2) (modRow b r) ⟨x.val, by omega⟩)) (fun x => E (ix3 (0 : Fin 1) x k))) n := by
  rw [proj, spread_at]
  refine congrArg (fun p => padded p n) (funext fun k => ?_)
  rw [rows_at]
  by_cases hr : r.val < 256
  · rw [dif_pos hr, ctxRows_at, modRow_ctx _ _ hr]
    refine congrArg (fun f => project f _ _ _ _) (funext fun x => ?_)
    rw [ctxStream_at, sum, modRow_ctx _ _ hr]
  · have e : (⟨256 + (r.val - 256), by omega⟩ : Fin 8448) = r := Fin.ext (by show 256 + (r.val - 256) = r.val; omega)
    rw [dif_neg hr, latRows_at, modRow_lat _ _ hr]
    refine congrArg (fun f => project f _ _ _ _) (funext fun x => ?_)
    rw [latStream_at, sum, modRow_lat _ _ hr]
    simp only [e]

end Ref
end Cert.OddProj

end
-- ==== Proof.OddProj.lean ====
/-
  The odd layer's in-projection: what the call stores in a block of 256 rows, and both result arrays after the run.
-/
module

public import proofs.«01_k».proof.Proof.Gen.OddInIdeal.Value
public import proofs.«01_k».proof.Proof.OddProjRef
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OddProj
open Cert.Rows

namespace Ker
open Cert.OddInIdeal Cert.OddInIdeal.Gen

variable (m : (ℓ : Loc nD τ sig) → Buf (Elt Ideal) ℓ)

theorem pay3_at (h : Vec Ideal S1x256x1024 .f32) (s : Vec Ideal S1x1x1024 .f32) (p : Vec Ideal S1x256x1024 .f32) (a : Fin 256) (j : Fin 1024) :
    k0_pay3 h s p (ix3 0 a j) = h (ix3 0 a j) + s (ix3 0 0 j) * p (ix3 0 a j) := by
  pointwise [k0_pay3, k0_pay2]

theorem pay1_at (h : Vec Ideal S1x256x1024 .f32) (s : Vec Ideal S1x1x1024 .f32) (p : Vec Ideal S1x256x1024 .f32) (g : Vec Ideal S1x1024 .f32) (sc sh : Vec Ideal S1x1x1024 .f32) (w : Vec Ideal S1024x2944 .bf16) (a : Fin 256) (n : Fin 2944) :
    k0_pay1 (k0_pay4 h s p g sc) sh w (ix3 0 a n) = project (fun j => h (ix3 0 a j) + s (ix3 0 0 j) * p (ix3 0 a j)) (fun x => g (ix2 0 x)) (fun x => sc (ix3 0 0 x)) (fun x => sh (ix3 0 0 x)) (fun x => w (ix2 x n)) := by
  pointwise [k0_pay1, k0_pay4, k0_pay2, project, token, rms]

theorem idx : ∀ t : Fin cfg0.N, win0_0.index t = ![t.val / 33, t.val % 33, 0] ∧ win0_1.index t = ![t.val / 33, t.val % 33, 0]
    ∧ win0_2.index t = ![if t.val % 33 < 1 then 2 else t.val / 33, 0, 0] ∧ win0_3.index t = ![if t.val % 33 < 1 then 2 else t.val / 33, 0, 0]
    ∧ win0_4.index t = ![0, 0] ∧ win0_5.index t = ![0, 0] ∧ win0_6.index t = ![t.val / 33, t.val % 33, 0] ∧ win0_7.index t = ![t.val / 33, t.val % 33, 0] ∧ t.val / 33 < 2 :=
  (by decide +kernel : ∀ t : Fin grid0.N, _)

theorem out6_at (x0 x1 : Vec Ideal S1x256x1024 .f32) (x2 x3 : Vec Ideal S1x8x1024 .f32) (x4 : Vec Ideal S1x1024 .f32) (x5 : Vec Ideal S1024x2944 .bf16) (a : Fin 256) (j : Fin 1024) :
    out0_6 x0 x1 x2 x3 x4 x5 (ix3 0 a j) = x0 (ix3 0 a j) + x2 (ix3 0 5 j) * x1 (ix3 0 a j) := by
  have hm : ∀ z : Fin 1024, View.ld x2 r0_1 (ix3 0 0 z) = x2 (ix3 0 5 z) :=
    fun z => View.ld_unit_apply_of _ _ _ _ _ _ fun b => by fin_cases b <;> simp_all
  frame_out
  rw [pay3_at]
  simp only [hm]

theorem out7_at (x0 x1 : Vec Ideal S1x256x1024 .f32) (x2 x3 : Vec Ideal S1x8x1024 .f32) (x4 : Vec Ideal S1x1024 .f32) (x5 : Vec Ideal S1024x2944 .bf16) (a : Fin 256) (n : Fin 2944) :
    out0_7 x0 x1 x2 x3 x4 x5 (ix3 0 a n) = project (fun j => x0 (ix3 0 a j) + x2 (ix3 0 5 j) * x1 (ix3 0 a j)) (fun x => x4 (ix2 0 x)) (fun x => x3 (ix3 0 1 x)) (fun x => x3 (ix3 0 0 x)) (fun x => x5 (ix2 x n)) := by
  have hm : ∀ z : Fin 1024, View.ld x2 r0_1 (ix3 0 0 z) = x2 (ix3 0 5 z) :=
    fun z => View.ld_unit_apply_of _ _ _ _ _ _ fun b => by fin_cases b <;> simp_all
  have hn : ∀ z : Fin 1024, View.ld x3 r0_3 (ix3 0 0 z) = x3 (ix3 0 1 z) :=
    fun z => View.ld_unit_apply_of _ _ _ _ _ _ fun b => by fin_cases b <;> simp_all
  have hl : ∀ z : Fin 1024, View.ld x3 r0_4 (ix3 0 0 z) = x3 (ix3 0 0 z) :=
    fun z => View.ld_unit_apply_of _ _ _ _ _ _ fun b => by fin_cases b <;> simp_all
  frame_out
  rw [pay1_at]
  simp only [hm, hn, hl]

/-- The gain as the call takes it. -/
theorem gain_at (c : Dev nD) (x : Fin 1024) : (show FVec Ideal S1x1024 .f32 from V m c main_v16) (ix2 0 x)
    = (show FVec Ideal S2x1024 .f32 from m ((c : Thread nD τ).loc main_arg3)) (ix2 1 x) := by
  simp only [V, hostOps0, hostOps0_1, hostOps0_2, List.flatten_cons, List.flatten_nil, List.append_nil, List.cons_append, List.nil_append]
  entry_read
  pointwise

/-- The weights' columns between columns of zeros. -/
def spreadW (E : FVec Ideal S1x1024x2736 .f32) : FVec Ideal S1024x2944 .f32 :=
  concatenate S1024x2944 1 [⟨S1024x2064, extractStridedSlice S1024x2064 ![0, 0] (shapeCast S1024x2736 E shapeCasts_S1x1024x2736_S1024x2736) slices_S1024x2736_S1024x2064_0_0⟩,
    ⟨S1024x112, broadcastInDim S1024x112 ![] bcast_S_S1024x112 (constant S_ .f32 0x00000000#32)⟩,
    ⟨S1024x672, extractStridedSlice S1024x672 ![0, 2064] (shapeCast S1024x2736 E shapeCasts_S1x1024x2736_S1024x2736) slices_S1024x2736_S1024x672_0_2064⟩,
    ⟨S1024x96, broadcastInDim S1024x96 ![] bcast_S_S1024x96 (constant S_ .f32 0x00000000#32)⟩] concatenates_S1024x2064_S1024x112_S1024x672_S1024x96_S1024x2944_d1

theorem spreadW_at (E : FVec Ideal S1x1024x2736 .f32) (x : Fin 1024) (n : Fin 2944) :
    spreadW E (ix2 x n) = padded (fun k => E (ix3 0 x k)) n := by
  pointwise [spreadW, padded]
  by_cases h0 : n.val < 2064
  · rw [dif_pos h0, dif_pos h0]
  · rw [dif_neg h0, dif_neg h0]
    by_cases h1 : n.val < 2176
    · rw [dif_pos (show n.val - 2064 < 112 by omega), if_pos h1]
    · rw [dif_neg (show ¬ n.val - 2064 < 112 by omega), if_neg h1]
      by_cases h2 : n.val < 2848
      · rw [dif_pos (show n.val - 2064 - 112 < 672 by omega), dif_pos h2]
        exact congrArg (fun k => E (ix3 0 x k)) (Fin.ext (by show 2064 + (n.val - 2064 - 112) = n.val - 112; omega))
      · rw [dif_neg (show ¬ n.val - 2064 - 112 < 672 by omega), dif_neg h2]

theorem V_v9 (c : Dev nD) : V m c main_v9 = truncf .bf16 (spreadW (m ((c : Thread nD τ).loc main_arg4))) bitsLt_bf16_f32 := by
  simp only [V, hostOps0, hostOps0_1, hostOps0_2, List.flatten_cons, List.flatten_nil, List.append_nil, List.cons_append, List.nil_append]
  after_reads_simp
  rfl

/-- The weights as the call takes them. -/
theorem weight_at (c : Dev nD) (x : Fin 1024) (n : Fin 2944) : (show FVec Ideal S1024x2944 .bf16 from V m c main_v9) (ix2 x n)
    = padded (fun k => (show FVec Ideal S1x1024x2736 .f32 from m ((c : Thread nD τ).loc main_arg4)) (ix3 0 x k)) n := by
  rw [V_v9]
  exact spreadW_at _ x n

/-- The modulation rows as the call takes them: six rows for each of three, filled up to eight. -/
def table (M : FVec Ideal S2x8x6144 .f32) : FVec Ideal S2x3x8x1024 .f32 :=
  pad S2x3x8x1024 ![0, 0, 0, 0] ![0, 0, 2, 0] ![0, 0, 0, 0]
    (extractStridedSlice S2x3x6x1024 ![0, 0, 0, 0] (shapeCast S2x8x6x1024 M shapeCasts_S2x8x6144_S2x8x6x1024) slices_S2x8x6x1024_S2x3x6x1024_0_0_0_0)
    (sitofp .f32 (constantI S_ 32 0#32)) pads_S2x3x6x1024_S2x3x8x1024_000_000_020_000 h_S_

theorem table_at (M : FVec Ideal S2x8x6144 .f32) (l : Fin 2) (b : Fin 3) (k : Fin 8) (x : Fin 1024) (hk : k.val < 6) :
    table M (ix4 l b k x) = M (ix3 l ⟨b.val, by omega⟩ ⟨k.val * 1024 + x.val, by omega⟩) := by
  pointwise [table]
  exact dif_pos hk

theorem V_v11 (c : Dev nD) : V m c main_v11 = shapeCast S3x8x1024 (extractStridedSlice S1x3x8x1024 ![1, 0, 0, 0] (table (m ((c : Thread nD τ).loc main_arg2))) slices_S2x3x8x1024_S1x3x8x1024_1_0_0_0) shapeCasts_S1x3x8x1024_S3x8x1024 := by
  simp only [V, hostOps0, hostOps0_1, hostOps0_2, List.flatten_cons, List.flatten_nil, List.append_nil, List.cons_append, List.nil_append]
  entry_read
  rfl

theorem V_v15 (c : Dev nD) : V m c main_v15 = shapeCast S3x8x1024 (extractStridedSlice S1x3x8x1024 ![0, 0, 0, 0] (table (m ((c : Thread nD τ).loc main_arg2))) slices_S2x3x8x1024_S1x3x8x1024_0_0_0_0) shapeCasts_S1x3x8x1024_S3x8x1024 := by
  simp only [V, hostOps0, hostOps0_1, hostOps0_2, List.flatten_cons, List.flatten_nil, List.append_nil, List.cons_append, List.nil_append]
  entry_read
  rfl

/-- This layer's modulation rows as the call takes them. -/
theorem mods_at (c : Dev nD) (b : Fin 3) (k : Fin 8) (hk : k.val < 6) (x : Fin 1024) : (show FVec Ideal S3x8x1024 .f32 from V m c main_v11) (ix3 b k x)
    = (show FVec Ideal S2x8x6144 .f32 from m ((c : Thread nD τ).loc main_arg2)) (ix3 (1 : Fin 2) ⟨b.val, by omega⟩ ⟨k.val * 1024 + x.val, by omega⟩) := by
  rw [V_v11]
  have h := table_at (m ((c : Thread nD τ).loc main_arg2)) 1 b k x hk
  pointwise
  exact h

/-- The layer before's. -/
theorem prev_at (c : Dev nD) (b : Fin 3) (k : Fin 8) (hk : k.val < 6) (x : Fin 1024) : (show FVec Ideal S3x8x1024 .f32 from V m c main_v15) (ix3 b k x)
    = (show FVec Ideal S2x8x6144 .f32 from m ((c : Thread nD τ).loc main_arg2)) (ix3 (0 : Fin 2) ⟨b.val, by omega⟩ ⟨k.val * 1024 + x.val, by omega⟩) := by
  rw [V_v15]
  have h := table_at (m ((c : Thread nD τ).loc main_arg2)) 0 b k x hk
  pointwise
  exact h

/-- The reads of a grid point's blocks. -/
theorem reads (c : Dev nD) (t : Fin cfg0.N) (ht : t.val / 33 < 2) (a : Fin 256) (b : Fin 2) (hb : b = ⟨t.val / 33, ht⟩) (r : Fin 8448) (hr : r.val = t.val % 33 * 256 + a.val) :
    (∀ x : Fin 1024, (show FVec Ideal S1x256x1024 .f32 from iblk m c 0 t) (ix3 0 a x) = (show FVec Ideal S2x8448x1024 .f32 from m ((c : Thread nD τ).loc main_arg0)) (ix3 b r x))
    ∧ (∀ x : Fin 1024, (show FVec Ideal S1x256x1024 .f32 from iblk m c 1 t) (ix3 0 a x) = (show FVec Ideal S2x8448x1024 .f32 from m ((c : Thread nD τ).loc main_arg1)) (ix3 b r x))
    ∧ (∀ (k : Fin 8) (x : Fin 1024) (hk : k.val < 6), (show FVec Ideal S1x8x1024 .f32 from iblk m c 2 t) (ix3 0 k x) = (show FVec Ideal S2x8x6144 .f32 from m ((c : Thread nD τ).loc main_arg2)) (ix3 (0 : Fin 2) (modRow b r) ⟨k.val * 1024 + x.val, by omega⟩))
    ∧ (∀ (k : Fin 8) (x : Fin 1024) (hk : k.val < 6), (show FVec Ideal S1x8x1024 .f32 from iblk m c 3 t) (ix3 0 k x) = (show FVec Ideal S2x8x6144 .f32 from m ((c : Thread nD τ).loc main_arg2)) (ix3 (1 : Fin 2) (modRow b r) ⟨k.val * 1024 + x.val, by omega⟩)) := by
  obtain ⟨e0, e1, e2, e3, e4, e5, e6, e7, e8⟩ := idx t
  have hc : (if t.val % 33 < 1 then 2 else t.val / 33) < 3 := by split <;> omega
  have hrow : (⟨if t.val % 33 < 1 then 2 else t.val / 33, by omega⟩ : Fin 8) = modRow b r := by
    subst hb
    unfold modRow
    apply Fin.ext
    by_cases h : t.val % 33 < 1
    · rw [if_pos (show r.val < 256 by omega)]; simp only [if_pos h]; rfl
    · rw [if_neg (show ¬ r.val < 256 by omega)]; simp only [if_neg h]
  have er : r = ⟨t.val % 33 * 256 + a.val, by omega⟩ := Fin.ext hr
  refine ⟨fun x => ?_, fun x => ?_, fun k x hk => ?_, fun k x hk => ?_⟩
  · rw [hb, er]
    blk_ext [iblk, V, e0]
  · rw [hb, er]
    blk_ext [iblk, V, e1]
  · rw [← hrow]
    have h1 : (show FVec Ideal S1x8x1024 .f32 from iblk m c 2 t) (ix3 0 k x)
        = (show FVec Ideal S3x8x1024 .f32 from V m c main_v15) (ix3 ⟨_, hc⟩ k x) := by
      blk_ext [iblk, e2]
    exact h1.trans (prev_at m c ⟨_, hc⟩ k hk x)
  · rw [← hrow]
    have h1 : (show FVec Ideal S1x8x1024 .f32 from iblk m c 3 t) (ix3 0 k x)
        = (show FVec Ideal S3x8x1024 .f32 from V m c main_v11) (ix3 ⟨_, hc⟩ k x) := by
      blk_ext [iblk, e3]
    exact h1.trans (mods_at m c ⟨_, hc⟩ k hk x)

/-- What a grid point leaves of the stream. -/
theorem block_stream (c : Dev nD) (t : Fin cfg0.N) (ht : t.val / 33 < 2) (a : Fin 256) (j : Fin 1024) :
    out0_6 (iblk m c 0 t) (iblk m c 1 t) (iblk m c 2 t) (iblk m c 3 t) (iblk m c 4 t) (iblk m c 5 t) (ix3 0 a j)
      = Ref.stream (m ((c : Thread nD τ).loc main_arg0)) (m ((c : Thread nD τ).loc main_arg1)) (m ((c : Thread nD τ).loc main_arg2))
        (ix3 (⟨t.val / 33, ht⟩ : Fin 2) (⟨t.val % 33 * 256 + a.val, by omega⟩ : Fin 8448) j) := by
  obtain ⟨h0, h1, h2, -⟩ := reads m c t ht a ⟨t.val / 33, ht⟩ rfl ⟨t.val % 33 * 256 + a.val, by omega⟩ rfl
  rw [Ref.stream_at]
  refine (out6_at _ _ _ _ _ _ a j).trans ?_
  exact congrArg₂ (HAdd.hAdd : EReal → EReal → EReal) (h0 j) (congrArg₂ (HMul.hMul : EReal → EReal → EReal) (h2 5 j (by decide)) (h1 j))

/-- What a grid point leaves of the projection. -/
theorem block_proj (c : Dev nD) (t : Fin cfg0.N) (ht : t.val / 33 < 2) (a : Fin 256) (n : Fin 2944) :
    out0_7 (iblk m c 0 t) (iblk m c 1 t) (iblk m c 2 t) (iblk m c 3 t) (iblk m c 4 t) (iblk m c 5 t) (ix3 0 a n)
      = Ref.proj (m ((c : Thread nD τ).loc main_arg0)) (m ((c : Thread nD τ).loc main_arg1)) (m ((c : Thread nD τ).loc main_arg2)) (m ((c : Thread nD τ).loc main_arg3)) (m ((c : Thread nD τ).loc main_arg4))
        (ix3 (⟨t.val / 33, ht⟩ : Fin 2) (⟨t.val % 33 * 256 + a.val, by omega⟩ : Fin 8448) n) := by
  obtain ⟨h0, h1, h2, h3⟩ := reads m c t ht a ⟨t.val / 33, ht⟩ rfl ⟨t.val % 33 * 256 + a.val, by omega⟩ rfl
  obtain ⟨-, -, -, -, e4, e5, -⟩ := idx t
  have h4 : ∀ x : Fin 1024, (show FVec Ideal S1x1024 .f32 from iblk m c 4 t) (ix2 0 x)
      = (show FVec Ideal S1x1024 .f32 from V m c main_v16) (ix2 0 x) := fun x => by
    blk_ext [iblk, e4]
  have h5 : ∀ x : Fin 1024, (show FVec Ideal S1024x2944 .bf16 from iblk m c 5 t) (ix2 x n)
      = (show FVec Ideal S1024x2944 .bf16 from V m c main_v9) (ix2 x n) := fun x => by
    blk_ext [iblk, e5]
  rw [Ref.proj_at]
  refine (out7_at _ _ _ _ _ _ a n).trans (Eq.trans ?_ (project_padded _ _ _ _ (fun x k => (show FVec Ideal S1x1024x2736 .f32 from m ((c : Thread nD τ).loc main_arg4)) (ix3 0 x k)) n))
  refine congr (congr (congr (congr (congrArg project (funext fun j => congrArg₂ (HAdd.hAdd : EReal → EReal → EReal) (h0 j) (congrArg₂ (HMul.hMul : EReal → EReal → EReal) (h2 5 j (by decide)) (h1 j))))
    (funext fun x => (h4 x).trans (gain_at m c x))) (funext fun x => (h3 1 x (by decide)).trans ?_)) (funext fun x => (h3 0 x (by decide)).trans ?_))
    (funext fun x => (h5 x).trans (weight_at m c x n))
  · blk_ext []
  · blk_ext []

/-- THE STREAM after the run is the reference's. -/
theorem final_stream (c : Dev nD) :
    (dats m 0 c).arrAt 6 (cfgs 0).N = Ref.stream (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have hy : y = ix3 0 (y 1) (y 2) := by blk_ext []
  rw [hy]
  obtain ⟨e0, e1, e2, e3, e4, e5, e6, e7, e8⟩ := idx t
  have b1 : (y 1 : ℕ) < 256 := (y 1).isLt
  have b2 : (y 2 : ℕ) < 1024 := (y 2).isLt
  have he : (win0_6.blk t).view.emb (ix3 0 (y 1) (y 2)) = ix3 (⟨t.val / 33, e8⟩ : Fin 2) (⟨t.val % 33 * 256 + (y 1 : ℕ), by omega⟩ : Fin 8448)
      (⟨(y 2 : ℕ), b2⟩ : Fin 1024) := by blk_ext [e6]
  exact (block_stream m c t e8 (y 1) (y 2)).trans (congrArg _ he).symm

/-- THE PROJECTION after the run is the reference's. -/
theorem final_proj (c : Dev nD) :
    (dats m 0 c).arrAt 7 (cfgs 0).N = Ref.proj (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  have hy : y = ix3 0 (y 1) (y 2) := by blk_ext []
  rw [hy]
  obtain ⟨e0, e1, e2, e3, e4, e5, e6, e7, e8⟩ := idx t
  have b1 : (y 1 : ℕ) < 256 := (y 1).isLt
  have b2 : (y 2 : ℕ) < 2944 := (y 2).isLt
  have he : (win0_7.blk t).view.emb (ix3 0 (y 1) (y 2)) = ix3 (⟨t.val / 33, e8⟩ : Fin 2) (⟨t.val % 33 * 256 + (y 1 : ℕ), by omega⟩ : Fin 8448)
      (⟨(y 2 : ℕ), b2⟩ : Fin 2944) := by blk_ext [e7]
  exact (block_proj m c t e8 (y 1) (y 2)).trans (congrArg _ he).symm

end Ker
end Cert.OddProj

end
-- ==== Proof.OddOutRef.lean ====
/-
  The odd layer's out-projection: the reference read at an index.
-/
module

public import proofs.«01_k».proof.Proof.Gen.OddOutRefIdeal
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.OddOut
open Cert.Rows

/-- An entry of a row of four heads, divided by the root of its head's mean square, times a gain. -/
def headNorm (s g : Fin 512 → EReal) (k : Fin 512) : EReal :=
  s k * Ideal.rsqrt (Ideal.div (∑ x : Fin 128, s ⟨k.val / 128 * 128 + x.val, by omega⟩ * s ⟨k.val / 128 * 128 + x.val, by omega⟩) (Ideal.ofBits FTy.f32 0x43000000#32) + Ideal.ofBits FTy.f32 0x358637BD#32) * g k

/-- The logistic function. -/
def gate (x : EReal) : EReal := Ideal.div (Ideal.ofBits FTy.f32 0x3F800000#32) (Ideal.ofBits FTy.f32 0x3F800000#32 + Ideal.exp (-x))

/-- A row's gated heads and its attention values against a column of weights. -/
def mix (s g o : Fin 512 → EReal) (v : Fin 1024 → EReal) (w : Fin 1024 → EReal) : EReal :=
  (∑ k : Fin 512, gate (o k) * headNorm s g k * w ⟨k.val, by omega⟩)
    + ∑ k : Fin 512, v ⟨k.val / 64 * 128 + k.val % 64, by omega⟩ * w ⟨512 + k.val, by omega⟩

namespace Ref
open Cert.OddOutRefIdeal Cert.OddOutRefIdeal.Gen

/-- The latents' heads of both directions added. -/
def heads (A : FVec Ideal S2x2x8448x512 .f32) : FVec Ideal S2x8192x4x128 .f32 :=
  shapeCast _ (extractStridedSlice S2x8192x512 ![0, 256, 0] (addf (shapeCast _ (extractStridedSlice S1x2x8448x512 ![0, 0, 0, 0] A slices_S2x2x8448x512_S1x2x8448x512_0_0_0_0) shapeCasts_S1x2x8448x512_S2x8448x512) (shapeCast _ (extractStridedSlice S1x2x8448x512 ![1, 0, 0, 0] A slices_S2x2x8448x512_S1x2x8448x512_1_0_0_0) shapeCasts_S1x2x8448x512_S2x8448x512)) slices_S2x8448x512_S2x8192x512_0_256_0) shapeCasts_S2x8192x512_S2x8192x4x128

/-- The normed heads. -/
def normed (A : FVec Ideal S2x2x8448x512 .f32) (F : FVec Ideal S1x512 .f32) : FVec Ideal S2x8192x512 .f32 :=
  shapeCast _ (mulf (mulf (heads A) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (heads A) (heads A)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x4x128_S2x8192x4x128_0_1_2_3 (broadcastInDim S1x1x4x128 ![2, 3] bcast_S4x128_S1x1x4x128_2_3 (shapeCast _ (shapeCast _ F shapeCasts_S1x512_S512) shapeCasts_S512_S4x128)))) shapeCasts_S2x8192x4x128_S2x8192x512

/-- The gated heads. -/
def gated (A : FVec Ideal S2x2x8448x512 .f32) (B : FVec Ideal S2x8448x2944 .f32) (F : FVec Ideal S1x512 .f32) : FVec Ideal S2x8192x512 .f32 :=
  mulf (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (extractStridedSlice S2x8192x512 ![0, 256, 1536] B slices_S2x8448x2944_S2x8192x512_0_256_1536))))) (normed A F)

/-- The attention's values. -/
def values (C : FVec Ideal S2x8192x1024 .f32) : FVec Ideal S2x8192x512 .f32 :=
  shapeCast _ (extractStridedSlice S2x8192x8x64 ![0, 0, 0, 0] (shapeCast _ C shapeCasts_S2x8192x1024_S2x8192x8x128) slices_S2x8192x8x128_S2x8192x8x64_0_0_0_0) shapeCasts_S2x8192x8x64_S2x8192x512

/-- Heads and values against the weights. -/
def mixed (A : FVec Ideal S2x2x8448x512 .f32) (B : FVec Ideal S2x8448x2944 .f32) (C : FVec Ideal S2x8192x1024 .f32) (F : FVec Ideal S1x512 .f32) (G : FVec Ideal S1x1024x1024 .f32) : FVec Ideal S2x8192x1024 .f32 :=
  Host.dotGeneral dot_S2x8192x1024_S1024x1024_S2x8192x1024_2_0_01_1_n_n none (concatenate S2x8192x1024 2 [⟨S2x8192x512, (gated A B F)⟩, ⟨S2x8192x512, (values C)⟩] concatenates_S2x8192x512_S2x8192x512_S2x8192x1024_d2) (shapeCast _ G shapeCasts_S1x1024x1024_S1024x1024)

/-- The stream. -/
def stream (A : FVec Ideal S2x2x8448x512 .f32) (B : FVec Ideal S2x8448x2944 .f32) (C : FVec Ideal S2x8192x1024 .f32) (D : FVec Ideal S2x8448x1024 .f32) (E : FVec Ideal S2x8x6144 .f32) (F : FVec Ideal S1x512 .f32) (G : FVec Ideal S1x1024x1024 .f32) : FVec Ideal S2x8192x1024 .f32 :=
  addf (extractStridedSlice S2x8192x1024 ![0, 256, 0] D slices_S2x8448x1024_S2x8192x1024_0_256_0) (mulf (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![1, 0, 2048] E slices_S2x8x6144_S1x2x1024_1_0_2048) shapeCasts_S1x2x1024_S2x1024))) (mixed A B C F G))

/-- The stream normed and modulated. -/
def normedOf (T : FVec Ideal S2x8192x1024 .f32) (E : FVec Ideal S2x8x6144 .f32) (H : FVec Ideal S2x1024 .f32) : FVec Ideal S2x8192x1024 .f32 :=
  addf (mulf (mulf (mulf T (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf T T) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![1, 0] H slices_S2x1024_S1x1024_1_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1024 ![1, 0, 4096] E slices_S2x8x6144_S1x2x1024_1_0_4096) shapeCasts_S1x2x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![1, 0, 3072] E slices_S2x8x6144_S1x2x1024_1_0_3072) shapeCasts_S1x2x1024_S2x1024)))

theorem heads_at (A : FVec Ideal S2x2x8448x512 .f32) (b : Fin 2) (r : Fin 8192) (h : Fin 4) (x : Fin 128) :
    heads A (ix4 b r h x) = A (ix4 (0 : Fin 2) b ⟨256 + r.val, by omega⟩ ⟨h.val * 128 + x.val, by omega⟩) + A (ix4 (1 : Fin 2) b ⟨256 + r.val, by omega⟩ ⟨h.val * 128 + x.val, by omega⟩) := by
  pointwise [heads]

/-- The sum of both directions' entries in a row. -/
def both (A : FVec Ideal S2x2x8448x512 .f32) (b : Fin 2) (r : Fin 8192) (k : Fin 512) : EReal :=
  A (ix4 (0 : Fin 2) b ⟨256 + r.val, by omega⟩ k) + A (ix4 (1 : Fin 2) b ⟨256 + r.val, by omega⟩ k)

theorem normed_at (A : FVec Ideal S2x2x8448x512 .f32) (F : FVec Ideal S1x512 .f32) (b : Fin 2) (r : Fin 8192) (k : Fin 512) :
    normed A F (ix3 b r k) = headNorm (both A b r) (fun x => F (ix2 (0 : Fin 1) x)) k := by
  have h : normed A F (ix3 b r k) = heads A (ix4 b r (⟨k.val / 128, by omega⟩ : Fin 4) ⟨k.val % 128, by omega⟩)
      * Ideal.rsqrt (Ideal.div (∑ x : Fin 128, heads A (ix4 b r (⟨k.val / 128, by omega⟩ : Fin 4) x) * heads A (ix4 b r (⟨k.val / 128, by omega⟩ : Fin 4) x)) (Ideal.ofBits FTy.f32 0x43000000#32) + Ideal.ofBits FTy.f32 0x358637BD#32)
      * F (ix2 (0 : Fin 1) k) := by
    pointwise [normed]
  have e : (⟨k.val / 128 * 128 + k.val % 128, by omega⟩ : Fin 512) = k := Fin.ext (by show k.val / 128 * 128 + k.val % 128 = k.val; omega)
  rw [h]
  simp only [heads_at, e]
  rfl

theorem gated_at (A : FVec Ideal S2x2x8448x512 .f32) (B : FVec Ideal S2x8448x2944 .f32) (F : FVec Ideal S1x512 .f32) (b : Fin 2) (r : Fin 8192) (k : Fin 512) :
    gated A B F (ix3 b r k) = gate (B (ix3 b ⟨256 + r.val, by omega⟩ ⟨1536 + k.val, by omega⟩)) * headNorm (both A b r) (fun x => F (ix2 (0 : Fin 1) x)) k := by
  rw [← normed_at]
  pointwise [gated, gate]

theorem values_at (C : FVec Ideal S2x8192x1024 .f32) (b : Fin 2) (r : Fin 8192) (k : Fin 512) :
    values C (ix3 b r k) = C (ix3 b r ⟨k.val / 64 * 128 + k.val % 64, by omega⟩) := by
  pointwise [values]

/-- A sum over a row of 1024 is the sum over its halves. -/
theorem halves (f : Fin 1024 → EReal) : ∑ k, f k = (∑ k : Fin 512, f ⟨k.val, by omega⟩) + ∑ k : Fin 512, f ⟨512 + k.val, by omega⟩ :=
  Fin.sum_univ_add (a := 512) (b := 512) f

theorem mixed_at (A : FVec Ideal S2x2x8448x512 .f32) (B : FVec Ideal S2x8448x2944 .f32) (C : FVec Ideal S2x8192x1024 .f32) (F : FVec Ideal S1x512 .f32) (G : FVec Ideal S1x1024x1024 .f32) (b : Fin 2) (r : Fin 8192) (n : Fin 1024) :
    mixed A B C F G (ix3 b r n) = mix (both A b r) (fun x => F (ix2 (0 : Fin 1) x)) (fun k => B (ix3 b ⟨256 + r.val, by omega⟩ ⟨1536 + k.val, by omega⟩))
      (fun k => C (ix3 b r k)) (fun k => G (ix3 (0 : Fin 1) k n)) := by
  have h : mixed A B C F G (ix3 b r n) = ∑ k : Fin 1024, (if h : k.val < 512 then gated A B F (ix3 b r ⟨k.val, h⟩) else values C (ix3 b r ⟨k.val - 512, by omega⟩)) * G (ix3 (0 : Fin 1) k n) := by
    pointwise [mixed]
  rw [h, halves, mix]
  refine congrArg₂ (HAdd.hAdd : EReal → EReal → EReal) (Finset.sum_congr rfl fun k _ => ?_) (Finset.sum_congr rfl fun k _ => ?_)
  · rw [dif_pos (show k.val < 512 from k.isLt), gated_at]
  · rw [dif_neg (show ¬ 512 + k.val < 512 by omega), values_at]
    have e : 512 + k.val - 512 = k.val := by omega
    simp only [e]

theorem stream_at (A : FVec Ideal S2x2x8448x512 .f32) (B : FVec Ideal S2x8448x2944 .f32) (C : FVec Ideal S2x8192x1024 .f32) (D : FVec Ideal S2x8448x1024 .f32) (E : FVec Ideal S2x8x6144 .f32) (F : FVec Ideal S1x512 .f32) (G : FVec Ideal S1x1024x1024 .f32) (b : Fin 2) (r : Fin 8192) (n : Fin 1024) :
    stream A B C D E F G (ix3 b r n) = D (ix3 b ⟨256 + r.val, by omega⟩ n) + E (ix3 (1 : Fin 2) ⟨b.val, by omega⟩ ⟨2048 + n.val, by omega⟩)
      * mix (both A b r) (fun x => F (ix2 (0 : Fin 1) x)) (fun k => B (ix3 b ⟨256 + r.val, by omega⟩ ⟨1536 + k.val, by omega⟩))
        (fun k => C (ix3 b r k)) (fun k => G (ix3 (0 : Fin 1) k n)) := by
  rw [← mixed_at]
  pointwise [stream]

theorem normedOf_at (T : FVec Ideal S2x8192x1024 .f32) (E : FVec Ideal S2x8x6144 .f32) (H : FVec Ideal S2x1024 .f32) (b : Fin 2) (r : Fin 8192) (n : Fin 1024) :
    normedOf T E H (ix3 b r n) = token (fun x => T (ix3 b r x)) (fun x => H (ix2 (1 : Fin 2) x)) (fun x => E (ix3 (1 : Fin 2) ⟨b.val, by omega⟩ ⟨4096 + x.val, by omega⟩))
      (fun x => E (ix3 (1 : Fin 2) ⟨b.val, by omega⟩ ⟨3072 + x.val, by omega⟩)) n := by
  pointwise [normedOf, token, rms]

end Ref
end Cert.OddOut

end
-- ==== Proof.OddOut.lean ====
/-
  The odd layer's out-projection: what the call computes in a block of 256 rows.
-/
module

public import proofs.«01_k».proof.Proof.Gen.OddOutIdeal.Value
public import proofs.«01_k».proof.Proof.OddOutRef
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OddOut
open Cert.Rows

/-- Rows of zeros between the weights' rows add nothing: the padded values against the padded weights are the values against the weights. -/
theorem collapse (v : Fin 1024 → EReal) (w : Fin 512 → EReal) :
    ∑ k : Fin 1024, v k * (if h : k.val % 128 < 64 then w ⟨k.val / 128 * 64 + k.val % 128, by omega⟩ else 0)
      = ∑ k : Fin 512, v ⟨k.val / 64 * 128 + k.val % 64, by omega⟩ * w k := by
  symm
  refine Finset.sum_of_injOn (fun k : Fin 512 => (⟨k.val / 64 * 128 + k.val % 64, by omega⟩ : Fin 1024)) ?_ (fun _ _ => by simp) ?_ ?_
  · intro x _ y _ h
    have h' : x.val / 64 * 128 + x.val % 64 = y.val / 64 * 128 + y.val % 64 := congrArg Fin.val h
    exact Fin.ext (by omega)
  · intro k _ hk
    by_cases h : k.val % 128 < 64
    · exact absurd ⟨(⟨k.val / 128 * 64 + k.val % 128, by omega⟩ : Fin 512), by simp, Fin.ext (by
        show (k.val / 128 * 64 + k.val % 128) / 64 * 128 + (k.val / 128 * 64 + k.val % 128) % 64 = k.val; omega)⟩ hk
    · rw [dif_neg h, mul_zero]
  · intro k _
    have h : (k.val / 64 * 128 + k.val % 64) % 128 < 64 := by omega
    rw [dif_pos h]
    exact congrArg (fun z => v ⟨k.val / 64 * 128 + k.val % 64, by omega⟩ * w z) (Fin.ext (by
      show k.val = (k.val / 64 * 128 + k.val % 64) / 128 * 64 + (k.val / 64 * 128 + k.val % 64) % 128; omega))

/-- `mix` with the values' part padded. -/
theorem mix_padded (s g o : Fin 512 → EReal) (v : Fin 1024 → EReal) (w : Fin 1024 → EReal) :
    (∑ k : Fin 512, gate (o k) * headNorm s g k * w ⟨k.val, by omega⟩)
      + ∑ k : Fin 1024, v k * (if h : k.val % 128 < 64 then w ⟨512 + (k.val / 128 * 64 + k.val % 128), by omega⟩ else 0) = mix s g o v w :=
  congrArg _ (collapse v fun k => w ⟨512 + k.val, by omega⟩)

namespace Ker
open Cert.OddOutIdeal Cert.OddOutIdeal.Gen

variable (m : (ℓ : Loc nD τ sig) → Buf (Elt Ideal) ℓ)

/-- An entry of one head. -/
def entry (q : Fin 128 → EReal) (u : EReal) (j : Fin 128) : EReal :=
  q j * Ideal.rsqrt (Ideal.div (∑ x, q x * q x) (Ideal.ofBits FTy.f32 0x43000000#32) + Ideal.ofBits FTy.f32 0x358637BD#32) * u

theorem entry_eq (s g : Fin 512 → EReal) (i : ℕ) (q : Fin 128 → EReal) (u : EReal) (j : Fin 128) (k : Fin 512) (hk : k.val = i * 128 + j.val)
    (hq : ∀ (x : Fin 128) (y : Fin 512), y.val = i * 128 + x.val → q x = s y) (hu : u = g k) : entry q u j = headNorm s g k := by
  have e2 : k.val / 128 = i := by omega
  have hs : ∀ x : Fin 128, q x = s ⟨k.val / 128 * 128 + x.val, by omega⟩ := fun x => hq x _ (by show k.val / 128 * 128 + x.val = _; rw [e2])
  unfold headNorm entry
  rw [hq j k hk, hu]
  simp only [hs]

theorem pay3_at (v0 v2 : Vec Ideal S1x1x256x512 .f32) (u : Vec Ideal S1x128 .f32) (a : Fin 256) (j : Fin 128) :
    k0_pay3 v0 v2 u (ix2 a j) = entry (fun x => v0 (ix4 0 0 a ⟨x.val, by omega⟩) + v2 (ix4 0 0 a ⟨x.val, by omega⟩)) (u (ix2 0 j)) j := by
  pointwise [k0_pay3, k0_pay2, entry]

theorem pay4_at (v0 v2 : Vec Ideal S1x1x256x512 .f32) (u : Vec Ideal S1x128 .f32) (a : Fin 256) (j : Fin 128) :
    k0_pay4 v0 v2 u (ix2 a j) = entry (fun x => v0 (ix4 0 0 a ⟨128 + x.val, by omega⟩) + v2 (ix4 0 0 a ⟨128 + x.val, by omega⟩)) (u (ix2 0 j)) j := by
  pointwise [k0_pay4, k0_pay2, entry]

theorem pay5_at (v0 v2 : Vec Ideal S1x1x256x512 .f32) (a : Fin 256) (j : Fin 128) :
    k0_pay5 v0 v2 (ix2 a j) = v0 (ix4 0 0 a ⟨256 + j.val, by omega⟩) + v2 (ix4 0 0 a ⟨256 + j.val, by omega⟩) := by
  pointwise [k0_pay5, k0_pay2]

theorem pay7_at (v0 v2 : Vec Ideal S1x1x256x512 .f32) (p0 p1 p2 : FVec Ideal S256x128 .f32) (u2 u3 : Vec Ideal S1x128 .f32) (o : Vec Ideal S1x256x512 .f32) (w : Vec Ideal S512x1024 .bf16) (a : Fin 256) (n : Fin 1024) :
    k0_pay7 (k0_pay2 v0 v2) p0 p1 p2 (k0_pay6 u2) u3 o w (ix2 a n)
      = ∑ k : Fin 512, (Ideal.div (Ideal.ofBits FTy.f32 0x3F800000#32) (Ideal.ofBits FTy.f32 0x3F800000#32 + Ideal.exp (0 - o (ix3 0 a k)))
          * (if h : k.val < 128 then p0 (ix2 a ⟨k.val, h⟩)
            else if h : k.val - 128 < 128 then p1 (ix2 a ⟨k.val - 128, h⟩)
            else if h : k.val - 128 - 128 < 128 then entry (fun x => p2 (ix2 a x)) (u2 (ix2 0 ⟨k.val - 128 - 128, h⟩)) ⟨k.val - 128 - 128, h⟩
            else entry (fun x => v0 (ix4 0 0 a ⟨384 + x.val, by omega⟩) + v2 (ix4 0 0 a ⟨384 + x.val, by omega⟩)) (u3 (ix2 0 ⟨k.val - 128 - 128 - 128, by omega⟩)) ⟨k.val - 128 - 128 - 128, by omega⟩)) * w (ix2 k n) := by
  pointwise [k0_pay7, k0_pay6, k0_pay2, entry]

/-- The gated heads of a block's row against the weights. -/
theorem y_at (v0 v2 : Vec Ideal S1x1x256x512 .f32) (u0 u1 u2 u3 : Vec Ideal S1x128 .f32) (o : Vec Ideal S1x256x512 .f32) (w : Vec Ideal S512x1024 .bf16) (a : Fin 256) (n : Fin 1024) (g : Fin 512 → EReal)
    (h0 : ∀ (j : Fin 128) (k : Fin 512), k.val = 0 * 128 + j.val → u0 (ix2 0 j) = g k) (h1 : ∀ (j : Fin 128) (k : Fin 512), k.val = 1 * 128 + j.val → u1 (ix2 0 j) = g k)
    (h2 : ∀ (j : Fin 128) (k : Fin 512), k.val = 2 * 128 + j.val → u2 (ix2 0 j) = g k) (h3 : ∀ (j : Fin 128) (k : Fin 512), k.val = 3 * 128 + j.val → u3 (ix2 0 j) = g k) :
    k0_pay7 (k0_pay2 v0 v2) (k0_pay3 v0 v2 u0) (k0_pay4 v0 v2 u1) (k0_pay5 v0 v2) (k0_pay6 u2) u3 o w (ix2 a n)
      = ∑ k : Fin 512, gate (o (ix3 0 a k)) * headNorm (fun k => v0 (ix4 0 0 a k) + v2 (ix4 0 0 a k)) g k * w (ix2 k n) := by
  rw [pay7_at]
  refine Finset.sum_congr rfl fun k _ => congrArg (fun z : EReal => z * w (ix2 k n)) (congrArg₂ (HMul.hMul : EReal → EReal → EReal) ?_ ?_)
  · rw [zero_sub]; rfl
  · have hk := k.isLt
    have hv : ∀ (y z : Fin 512), y.val = z.val → v0 (ix4 0 0 a y) + v2 (ix4 0 0 a y) = v0 (ix4 0 0 a z) + v2 (ix4 0 0 a z) := fun y z e => by rw [Fin.ext e]
    by_cases c0 : k.val < 128
    · rw [dif_pos c0, pay3_at]
      exact entry_eq _ _ 0 _ _ _ k (by show k.val = 0 * 128 + k.val; omega) (fun x y e => hv _ _ (by show x.val = y.val; omega)) (h0 _ _ (by show k.val = 0 * 128 + k.val; omega))
    · rw [dif_neg c0]
      by_cases c1 : k.val - 128 < 128
      · rw [dif_pos c1, pay4_at]
        exact entry_eq _ _ 1 _ _ _ k (by show k.val = 1 * 128 + (k.val - 128); omega) (fun x y e => hv _ _ (by show 128 + x.val = y.val; omega)) (h1 _ _ (by show k.val = 1 * 128 + (k.val - 128); omega))
      · rw [dif_neg c1]
        by_cases c2 : k.val - 128 - 128 < 128
        · rw [dif_pos c2]
          exact entry_eq _ _ 2 _ _ _ k (by show k.val = 2 * 128 + (k.val - 128 - 128); omega) (fun x y e => (pay5_at v0 v2 a x).trans (hv _ _ (by show 256 + x.val = y.val; omega))) (h2 _ _ (by show k.val = 2 * 128 + (k.val - 128 - 128); omega))
        · rw [dif_neg c2]
          exact entry_eq _ _ 3 _ _ _ k (by show k.val = 3 * 128 + (k.val - 128 - 128 - 128); omega) (fun x y e => hv _ _ (by show 384 + x.val = y.val; omega)) (h3 _ _ (by show k.val = 3 * 128 + (k.val - 128 - 128 - 128); omega))

theorem pay8_at (y : FVec Ideal S256x1024 .f32) (v : Vec Ideal S1x256x1024 .f32) (w : Vec Ideal S1024x1024 .bf16) (h : Vec Ideal S1x256x1024 .f32) (s : Vec Ideal S1x1x1024 .f32) (a : Fin 256) (n : Fin 1024) :
    k0_pay8 y v w h s (ix2 a n) = h (ix3 0 a n) + s (ix3 0 0 n) * (y (ix2 a n) + ∑ k : Fin 1024, v (ix3 0 a k) * w (ix2 k n)) := by
  pointwise [k0_pay8]

theorem pay9_at (y : FVec Ideal S256x1024 .f32) (v : Vec Ideal S1x256x1024 .f32) (w : Vec Ideal S1024x1024 .bf16) (h : Vec Ideal S1x256x1024 .f32) (s : Vec Ideal S1x1x1024 .f32) (a : Fin 256) (n : Fin 1024) :
    k0_pay9 y v w h s (ix3 0 a n) = k0_pay8 y v w h s (ix2 a n) := by
  pointwise [k0_pay9]

theorem pay1_at (y : FVec Ideal S256x1024 .f32) (v : Vec Ideal S1x256x1024 .f32) (w : Vec Ideal S1024x1024 .bf16) (h : Vec Ideal S1x256x1024 .f32) (s : Vec Ideal S1x1x1024 .f32) (g : Vec Ideal S1x1024 .f32) (sc sh : Vec Ideal S1x1x1024 .f32) (a : Fin 256) (n : Fin 1024) :
    k0_pay1 (k0_pay10 y v w h s g) (k0_pay11 sc) sh (ix3 0 a n) = token (fun x => k0_pay8 y v w h s (ix2 a x)) (fun x => g (ix2 0 x)) (fun x => sc (ix3 0 0 x)) (fun x => sh (ix3 0 0 x)) n := by
  pointwise [k0_pay1, k0_pay10, k0_pay11, token, rms]

/-- The stream's entry that a block's row leaves. -/
def blockStream (x0 x1 : Vec Ideal S1x1x256x512 .f32) (x2 : Vec Ideal S1x256x512 .f32) (x3 x4 : Vec Ideal S1x256x1024 .f32) (x5 : Vec Ideal S1x8x1024 .f32) (x6 : Vec Ideal S1x512 .f32) (x7 : Vec Ideal S512x1024 .bf16) (x8 : Vec Ideal S1024x1024 .bf16) (x9 : Vec Ideal S1x1024 .f32) (a : Fin 256) (n : Fin 1024) : EReal :=
  x4 (ix3 0 a n) + x5 (ix3 0 2 n) * ((∑ k : Fin 512, gate (x2 (ix3 0 a k)) * headNorm (fun k => x0 (ix4 0 0 a k) + x1 (ix4 0 0 a k)) (fun k => x6 (ix2 0 k)) k * x7 (ix2 k n)) + ∑ k : Fin 1024, x3 (ix3 0 a k) * x8 (ix2 k n))

theorem ld_gain (x6 : Vec Ideal S1x512 .f32) (i : ℕ) (hi : ∀ a, (![0, i * 128] : Fin 2 → ℕ) a + S1x128.size a ≤ S1x512.size a) (j : Fin 128) (k : Fin 512) (hk : k.val = i * 128 + j.val) :
    View.ld x6 (Rect.unit (s := S1x512) ![0, i * 128] S1x128.size hi) (ix2 0 j) = x6 (ix2 0 k) :=
  View.ld_unit_apply_of _ _ _ _ _ _ fun b => by fin_cases b <;> simp_all

theorem ld_row (x5 : Vec Ideal S1x8x1024 .f32) (i : Fin 8) (hi : ∀ a, (![0, i.val, 0] : Fin 3 → ℕ) a + S1x1x1024.size a ≤ S1x8x1024.size a) (z : Fin 1024) :
    View.ld x5 (Rect.unit (s := S1x8x1024) ![0, i.val, 0] S1x1x1024.size hi) (ix3 0 0 z) = x5 (ix3 0 i z) :=
  View.ld_unit_apply_of _ _ _ _ _ _ fun b => by fin_cases b <;> simp_all

theorem stream_of (x0 x1 : Vec Ideal S1x1x256x512 .f32) (x2 : Vec Ideal S1x256x512 .f32) (x3 x4 : Vec Ideal S1x256x1024 .f32) (x5 : Vec Ideal S1x8x1024 .f32) (x6 : Vec Ideal S1x512 .f32) (x7 : Vec Ideal S512x1024 .bf16) (x8 : Vec Ideal S1024x1024 .bf16) (x9 : Vec Ideal S1x1024 .f32) (a : Fin 256) (n : Fin 1024) (i0 i1 i2 i3 i4) :
    k0_pay8 (k0_pay7 (k0_pay2 x0 x1) (k0_pay3 x0 x1 (View.ld x6 (Rect.unit (s := S1x512) ![0, 0] S1x128.size i0))) (k0_pay4 x0 x1 (View.ld x6 (Rect.unit (s := S1x512) ![0, 128] S1x128.size i1))) (k0_pay5 x0 x1)
        (k0_pay6 (View.ld x6 (Rect.unit (s := S1x512) ![0, 256] S1x128.size i2))) (View.ld x6 (Rect.unit (s := S1x512) ![0, 384] S1x128.size i3)) x2 x7) x3 x8 x4
      (View.ld x5 (Rect.unit (s := S1x8x1024) ![0, 2, 0] S1x1x1024.size i4)) (ix2 a n) = blockStream x0 x1 x2 x3 x4 x5 x6 x7 x8 x9 a n := by
  rw [pay8_at, y_at x0 x1 _ _ _ _ x2 x7 a n (fun k => x6 (ix2 0 k)) (ld_gain x6 0 i0) (ld_gain x6 1 i1) (ld_gain x6 2 i2) (ld_gain x6 3 i3)]
  exact congrArg (fun z : EReal => x4 (ix3 0 a n) + z * _) (ld_row x5 2 i4 n)

theorem out_at (c : Dev nD) (t : Fin cfg0.N) (a : Fin 256) (n : Fin 1024) : (outsAt0 m c t).1 (ix3 0 a n)
    = blockStream (iblk m c 0 t) (iblk m c 1 t) (X0_2 m c t) (iblk m c 3 t) (iblk m c 4 t) (iblk m c 5 t) (iblk m c 6 t) (iblk m c 7 t) (iblk m c 8 t) (iblk m c 9 t) a n := by
  unfold outsAt0
  frame_out
  rw [pay9_at]
  exact stream_of _ _ _ _ _ _ _ _ _ _ a n _ _ _ _ _

theorem norm_at (c : Dev nD) (t : Fin cfg0.N) (a : Fin 256) (n : Fin 1024) : (outsAt0 m c t).2 (ix3 0 a n)
    = token (blockStream (iblk m c 0 t) (iblk m c 1 t) (X0_2 m c t) (iblk m c 3 t) (iblk m c 4 t) (iblk m c 5 t) (iblk m c 6 t) (iblk m c 7 t) (iblk m c 8 t) (iblk m c 9 t) a)
      (fun x => (show FVec Ideal S1x1024 .f32 from iblk m c 9 t) (ix2 0 x)) (fun x => (show FVec Ideal S1x8x1024 .f32 from iblk m c 5 t) (ix3 0 4 x)) (fun x => (show FVec Ideal S1x8x1024 .f32 from iblk m c 5 t) (ix3 0 3 x)) n := by
  unfold outsAt0
  frame_out
  rw [pay1_at]
  exact congr (congr (congr (congr (congrArg token (funext fun x => stream_of _ _ _ _ _ _ _ _ _ _ a x _ _ _ _ _)) rfl) (funext fun x => ld_row _ 4 _ x)) (funext fun x => ld_row _ 3 _ x)) rfl

theorem gain_at (c : Dev nD) (x : Fin 1024) : (show FVec Ideal S1x1024 .f32 from V m c main_v18) (ix2 0 x)
    = (show FVec Ideal S2x1024 .f32 from m ((c : Thread nD τ).loc main_arg7)) (ix2 1 x) := by
  simp only [V, hostOps0, hostOps0_1, hostOps0_2, List.flatten_cons, List.flatten_nil, List.append_nil, List.cons_append, List.nil_append]
  entry_read
  pointwise

theorem headGain_at (c : Dev nD) (x : Fin 512) : (show FVec Ideal S1x512 .f32 from V m c main_v17) (ix2 0 x)
    = (show FVec Ideal S1x512 .f32 from m ((c : Thread nD τ).loc main_arg5)) (ix2 0 x) := by
  simp only [V, hostOps0, hostOps0_1, hostOps0_2, List.flatten_cons, List.flatten_nil, List.append_nil, List.cons_append, List.nil_append]
  entry_read
  pointwise

theorem weight_at (c : Dev nD) (k : Fin 512) (n : Fin 1024) : (show FVec Ideal S512x1024 .bf16 from V m c main_v14) (ix2 k n)
    = (show FVec Ideal S1x1024x1024 .f32 from m ((c : Thread nD τ).loc main_arg6)) (ix3 0 ⟨k.val, by omega⟩ n) := by
  simp only [V, hostOps0, hostOps0_1, hostOps0_2, List.flatten_cons, List.flatten_nil, List.append_nil, List.cons_append, List.nil_append]
  entry_read
  pointwise

/-- The values' weights with rows of zeros after each head's. -/
def paddedW (G : FVec Ideal S1x1024x1024 .f32) : FVec Ideal S1024x1024 .f32 :=
  shapeCast S1024x1024 (concatenate S8x128x1024 1 [⟨S8x64x1024, shapeCast S8x64x1024 (extractStridedSlice S512x1024 ![512, 0] (shapeCast S1024x1024 G shapeCasts_S1x1024x1024_S1024x1024) slices_S1024x1024_S512x1024_512_0) shapeCasts_S512x1024_S8x64x1024⟩,
    ⟨S8x64x1024, broadcastInDim S8x64x1024 ![] bcast_S_S8x64x1024 (constant S_ .f32 0x00000000#32)⟩] concatenates_S8x64x1024_S8x64x1024_S8x128x1024_d1) shapeCasts_S8x128x1024_S1024x1024

theorem paddedW_at (G : FVec Ideal S1x1024x1024 .f32) (k n : Fin 1024) :
    paddedW G (ix2 k n) = if h : k.val % 128 < 64 then G (ix3 0 ⟨512 + (k.val / 128 * 64 + k.val % 128), by omega⟩ n) else 0 := by
  pointwise [paddedW]

theorem V_v9 (c : Dev nD) : V m c main_v9 = truncf .bf16 (paddedW (m ((c : Thread nD τ).loc main_arg6))) bitsLt_bf16_f32 := by
  simp only [V, hostOps0, hostOps0_1, hostOps0_2, List.flatten_cons, List.flatten_nil, List.append_nil, List.cons_append, List.nil_append]
  after_reads_simp
  rfl

theorem values_at (c : Dev nD) (k n : Fin 1024) : (show FVec Ideal S1024x1024 .bf16 from V m c main_v9) (ix2 k n)
    = if h : k.val % 128 < 64 then (show FVec Ideal S1x1024x1024 .f32 from m ((c : Thread nD τ).loc main_arg6)) (ix3 0 ⟨512 + (k.val / 128 * 64 + k.val % 128), by omega⟩ n) else 0 := by
  rw [V_v9]
  exact paddedW_at _ k n

/-- The modulation rows as the call takes them: six rows for each of three, filled up to eight. -/
def table (M : FVec Ideal S2x8x6144 .f32) : FVec Ideal S2x3x8x1024 .f32 :=
  pad S2x3x8x1024 ![0, 0, 0, 0] ![0, 0, 2, 0] ![0, 0, 0, 0]
    (extractStridedSlice S2x3x6x1024 ![0, 0, 0, 0] (shapeCast S2x8x6x1024 M shapeCasts_S2x8x6144_S2x8x6x1024) slices_S2x8x6x1024_S2x3x6x1024_0_0_0_0)
    (sitofp .f32 (constantI S_ 32 0#32)) pads_S2x3x6x1024_S2x3x8x1024_000_000_020_000 h_S_

theorem table_at (M : FVec Ideal S2x8x6144 .f32) (l : Fin 2) (b : Fin 3) (k : Fin 8) (x : Fin 1024) (hk : k.val < 6) :
    table M (ix4 l b k x) = M (ix3 l ⟨b.val, by omega⟩ ⟨k.val * 1024 + x.val, by omega⟩) := by
  pointwise [table]
  exact dif_pos hk

theorem V_v11 (c : Dev nD) : V m c main_v11 = shapeCast S2x8x1024 (extractStridedSlice S1x2x8x1024 ![1, 0, 0, 0] (table (m ((c : Thread nD τ).loc main_arg4))) slices_S2x3x8x1024_S1x2x8x1024_1_0_0_0) shapeCasts_S1x2x8x1024_S2x8x1024 := by
  simp only [V, hostOps0, hostOps0_1, hostOps0_2, List.flatten_cons, List.flatten_nil, List.append_nil, List.cons_append, List.nil_append]
  entry_read
  rfl

theorem mods_at (c : Dev nD) (b : Fin 2) (k : Fin 8) (hk : k.val < 6) (x : Fin 1024) : (show FVec Ideal S2x8x1024 .f32 from V m c main_v11) (ix3 b k x)
    = (show FVec Ideal S2x8x6144 .f32 from m ((c : Thread nD τ).loc main_arg4)) (ix3 (1 : Fin 2) ⟨b.val, by omega⟩ ⟨k.val * 1024 + x.val, by omega⟩) := by
  rw [V_v11]
  have h := table_at (m ((c : Thread nD τ).loc main_arg4)) 1 ⟨b.val, by omega⟩ k x hk
  pointwise
  exact h

theorem idx : ∀ t : Fin cfg0.N, win0_0.index t = ![0, t.val / 32, t.val % 32 + 1, 0] ∧ win0_1.index t = ![1, t.val / 32, t.val % 32 + 1, 0]
    ∧ win0_2.index t = ![t.val / 32, t.val % 32 + 1, 3] ∧ win0_3.index t = ![t.val / 32, t.val % 32, 0] ∧ win0_4.index t = ![t.val / 32, t.val % 32 + 1, 0]
    ∧ win0_5.index t = ![t.val / 32, 0, 0] ∧ win0_6.index t = ![0, 0] ∧ win0_7.index t = ![0, 0] ∧ win0_8.index t = ![0, 0] ∧ win0_9.index t = ![0, 0]
    ∧ win0_10.index t = ![t.val / 32, t.val % 32, 0] ∧ win0_11.index t = ![t.val / 32, t.val % 32, 0] ∧ t.val / 32 < 2 :=
  (by decide +kernel : ∀ t : Fin grid0.N, _)

/-- A clipped window's block, read. -/
theorem clip_at (c : Dev nD) (t : Fin cfg0.N) (b : Fin 2) (hb : b.val = t.val / 32) (a : Fin 256) (r : Fin 8448) (hr : r.val = 256 + (t.val % 32 * 256 + a.val)) (k : Fin 512) :
    (show FVec Ideal S1x256x512 .f32 from X0_2 m c t) (ix3 0 a k) = (show FVec Ideal S2x8448x2944 .f32 from m ((c : Thread nD τ).loc main_arg1)) (ix3 b r ⟨1536 + k.val, by omega⟩) := by
  obtain ⟨-, -, e2, -⟩ := idx t
  show X0_2 m c t (ix3 0 a k) = _
  unfold X0_2 Pipeline.Window.fill
  rw [dif_pos (moved0_2 t _)]
  blk_ext [iblk, V, e2]

theorem read_0 (c : Dev nD) (t : Fin cfg0.N) (ht : t.val / 32 < 2) (a : Fin 256) (n : Fin 1024) :
    ∀ k : Fin 512, (show FVec Ideal S1x1x256x512 .f32 from iblk m c 0 t) (ix4 0 0 a k) = (show FVec Ideal S2x2x8448x512 .f32 from m ((c : Thread nD τ).loc main_arg0)) (ix4 (0 : Fin 2) (⟨t.val / 32, ht⟩ : Fin 2) (⟨256 + (t.val % 32 * 256 + a.val), by omega⟩ : Fin 8448) k) := by
  obtain ⟨e0, e1, e2, e3, e4, e5, e6, e7, e8, -⟩ := idx t
  intro k
  blk_ext [iblk, V, e0]

theorem read_1 (c : Dev nD) (t : Fin cfg0.N) (ht : t.val / 32 < 2) (a : Fin 256) (n : Fin 1024) :
    ∀ k : Fin 512, (show FVec Ideal S1x1x256x512 .f32 from iblk m c 1 t) (ix4 0 0 a k) = (show FVec Ideal S2x2x8448x512 .f32 from m ((c : Thread nD τ).loc main_arg0)) (ix4 (1 : Fin 2) (⟨t.val / 32, ht⟩ : Fin 2) (⟨256 + (t.val % 32 * 256 + a.val), by omega⟩ : Fin 8448) k) := by
  obtain ⟨e0, e1, e2, e3, e4, e5, e6, e7, e8, -⟩ := idx t
  intro k
  blk_ext [iblk, V, e1]

theorem read_3 (c : Dev nD) (t : Fin cfg0.N) (ht : t.val / 32 < 2) (a : Fin 256) (n : Fin 1024) :
    ∀ k : Fin 1024, (show FVec Ideal S1x256x1024 .f32 from iblk m c 3 t) (ix3 0 a k) = (show FVec Ideal S2x8192x1024 .f32 from m ((c : Thread nD τ).loc main_arg2)) (ix3 (⟨t.val / 32, ht⟩ : Fin 2) (⟨t.val % 32 * 256 + a.val, by omega⟩ : Fin 8192) k) := by
  obtain ⟨e0, e1, e2, e3, e4, e5, e6, e7, e8, -⟩ := idx t
  intro k
  blk_ext [iblk, V, e3]

theorem read_4 (c : Dev nD) (t : Fin cfg0.N) (ht : t.val / 32 < 2) (a : Fin 256) (n : Fin 1024) :
    (show FVec Ideal S1x256x1024 .f32 from iblk m c 4 t) (ix3 0 a n) = (show FVec Ideal S2x8448x1024 .f32 from m ((c : Thread nD τ).loc main_arg3)) (ix3 (⟨t.val / 32, ht⟩ : Fin 2) (⟨256 + (t.val % 32 * 256 + a.val), by omega⟩ : Fin 8448) n) := by
  obtain ⟨e0, e1, e2, e3, e4, e5, e6, e7, e8, -⟩ := idx t
  blk_ext [iblk, V, e4]

theorem read_5 (c : Dev nD) (t : Fin cfg0.N) (ht : t.val / 32 < 2) (a : Fin 256) (n : Fin 1024) :
    (show FVec Ideal S1x8x1024 .f32 from iblk m c 5 t) (ix3 0 2 n) = (show FVec Ideal S2x8x1024 .f32 from V m c main_v11) (ix3 (⟨t.val / 32, ht⟩ : Fin 2) 2 n) := by
  obtain ⟨e0, e1, e2, e3, e4, e5, e6, e7, e8, -⟩ := idx t
  blk_ext [iblk, e5]

theorem read_6 (c : Dev nD) (t : Fin cfg0.N) (ht : t.val / 32 < 2) (a : Fin 256) (n : Fin 1024) :
    ∀ k : Fin 512, (show FVec Ideal S1x512 .f32 from iblk m c 6 t) (ix2 0 k) = (show FVec Ideal S1x512 .f32 from V m c main_v17) (ix2 0 k) := by
  obtain ⟨e0, e1, e2, e3, e4, e5, e6, e7, e8, -⟩ := idx t
  intro k
  blk_ext [iblk, e6]

theorem read_7 (c : Dev nD) (t : Fin cfg0.N) (ht : t.val / 32 < 2) (a : Fin 256) (n : Fin 1024) :
    ∀ k : Fin 512, (show FVec Ideal S512x1024 .bf16 from iblk m c 7 t) (ix2 k n) = (show FVec Ideal S512x1024 .bf16 from V m c main_v14) (ix2 k n) := by
  obtain ⟨e0, e1, e2, e3, e4, e5, e6, e7, e8, -⟩ := idx t
  intro k
  blk_ext [iblk, e7]

theorem read_8 (c : Dev nD) (t : Fin cfg0.N) (ht : t.val / 32 < 2) (a : Fin 256) (n : Fin 1024) :
    ∀ k : Fin 1024, (show FVec Ideal S1024x1024 .bf16 from iblk m c 8 t) (ix2 k n) = (show FVec Ideal S1024x1024 .bf16 from V m c main_v9) (ix2 k n) := by
  obtain ⟨e0, e1, e2, e3, e4, e5, e6, e7, e8, -⟩ := idx t
  intro k
  blk_ext [iblk, e8]

/-- A block's row of the stream, by the reference's arguments. -/
theorem row_stream (c : Dev nD) (t : Fin cfg0.N) (ht : t.val / 32 < 2) (a : Fin 256) (n : Fin 1024) :
    blockStream (iblk m c 0 t) (iblk m c 1 t) (X0_2 m c t) (iblk m c 3 t) (iblk m c 4 t) (iblk m c 5 t) (iblk m c 6 t) (iblk m c 7 t) (iblk m c 8 t) (iblk m c 9 t) a n
      = Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (⟨t.val / 32, ht⟩ : Fin 2) (⟨t.val % 32 * 256 + a.val, by omega⟩ : Fin 8192) n) := by
  have h0 := read_0 m c t ht a n
  have h1 := read_1 m c t ht a n
  have h2 := clip_at m c t ⟨t.val / 32, ht⟩ rfl a ⟨256 + (t.val % 32 * 256 + a.val), by omega⟩ rfl
  have h3 := read_3 m c t ht a n
  have h4 := read_4 m c t ht a n
  have h5 := read_5 m c t ht a n
  have h6 := read_6 m c t ht a n
  have h7 := read_7 m c t ht a n
  have h8 := read_8 m c t ht a n
  rw [Ref.stream_at, ← mix_padded]
  refine congrArg₂ (HAdd.hAdd : EReal → EReal → EReal) h4 (congrArg₂ (HMul.hMul : EReal → EReal → EReal) (h5.trans ((mods_at m c ⟨t.val / 32, ht⟩ 2 (by decide) n).trans ?_))
    (congrArg₂ (HAdd.hAdd : EReal → EReal → EReal) (Finset.sum_congr rfl fun k _ => congrArg₂ (HMul.hMul : EReal → EReal → EReal)
        (congrArg₂ (HMul.hMul : EReal → EReal → EReal) (congrArg gate (h2 k)) (congrFun (congrArg₂ headNorm (funext fun x => congrArg₂ (HAdd.hAdd : EReal → EReal → EReal) (h0 x) (h1 x)) (funext fun x => (h6 x).trans (headGain_at m c x))) k))
        ((h7 k).trans (weight_at m c k n)))
      (Finset.sum_congr rfl fun k _ => congrArg₂ (HMul.hMul : EReal → EReal → EReal) (h3 k) ((h8 k).trans (values_at m c k n)))))
  blk_ext []

/-- A block's row of the normed stream, by the reference's arguments. -/
theorem row_norm (c : Dev nD) (t : Fin cfg0.N) (ht : t.val / 32 < 2) (a : Fin 256) (n : Fin 1024) : (outsAt0 m c t).2 (ix3 0 a n)
      = Ref.normedOf (Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) (m ((c : Thread nD τ).loc main_arg7)) (ix3 (⟨t.val / 32, ht⟩ : Fin 2) (⟨t.val % 32 * 256 + a.val, by omega⟩ : Fin 8192) n) := by
  obtain ⟨-, -, -, -, -, e5, -, -, -, e9, -⟩ := idx t
  have h5 : ∀ (k : Fin 8) (x : Fin 1024), (show FVec Ideal S1x8x1024 .f32 from iblk m c 5 t) (ix3 0 k x) = (show FVec Ideal S2x8x1024 .f32 from V m c main_v11) (ix3 (⟨t.val / 32, ht⟩ : Fin 2) k x) := fun k x => by
    blk_ext [iblk, e5]
  have h9 : ∀ x : Fin 1024, (show FVec Ideal S1x1024 .f32 from iblk m c 9 t) (ix2 0 x) = (show FVec Ideal S1x1024 .f32 from V m c main_v18) (ix2 0 x) := fun x => by
    blk_ext [iblk, e9]
  rw [Ref.normedOf_at]
  refine (norm_at m c t a n).trans (congrFun (congr (congr (congrArg₂ token (funext fun x => row_stream m c t ht a x) (funext fun x => (h9 x).trans (gain_at m c x)))
    (funext fun x => (h5 4 x).trans ((mods_at m c ⟨t.val / 32, ht⟩ 4 (by decide) x).trans ?_))) (funext fun x => (h5 3 x).trans ((mods_at m c ⟨t.val / 32, ht⟩ 3 (by decide) x).trans ?_))) n)
  · blk_ext []
  · blk_ext []

/-- THE STREAM after the run is the reference's. -/
theorem final_stream (c : Dev nD) :
    (dats m 0 c).arrAt 10 (cfgs 0).N = Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  have hy : y = ix3 0 (y 1) (y 2) := by blk_ext []
  rw [hy]
  obtain ⟨-, -, -, -, -, -, -, -, -, -, e10, e11, ht⟩ := idx t
  have b1 : (y 1 : ℕ) < 256 := (y 1).isLt
  have b2 : (y 2 : ℕ) < 1024 := (y 2).isLt
  have he : (win0_10.blk t).view.emb (ix3 0 (y 1) (y 2)) = ix3 (⟨t.val / 32, ht⟩ : Fin 2) (⟨t.val % 32 * 256 + (y 1 : ℕ), by omega⟩ : Fin 8192)
      (⟨(y 2 : ℕ), b2⟩ : Fin 1024) := by blk_ext [e10]
  exact ((out_at m c t (y 1) (y 2)).trans (row_stream m c t ht (y 1) (y 2))).trans (congrArg _ he).symm

/-- THE NORMED STREAM after the run is the reference's. -/
theorem final_norm (c : Dev nD) :
    (dats m 0 c).arrAt 11 (cfgs 0).N = Ref.normedOf (Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) (m ((c : Thread nD τ).loc main_arg7)) := by
  refine (dats m 0 c).arrAt_eq_of_covers 11 _ (by decide +kernel) fun t _ y => ?_
  blk_simp
  rw [after0_11]
  have hy : y = ix3 0 (y 1) (y 2) := by blk_ext []
  rw [hy]
  obtain ⟨-, -, -, -, -, -, -, -, -, -, e10, e11, ht⟩ := idx t
  have b1 : (y 1 : ℕ) < 256 := (y 1).isLt
  have b2 : (y 2 : ℕ) < 1024 := (y 2).isLt
  have he : (win0_11.blk t).view.emb (ix3 0 (y 1) (y 2)) = ix3 (⟨t.val / 32, ht⟩ : Fin 2) (⟨t.val % 32 * 256 + (y 1 : ℕ), by omega⟩ : Fin 8192)
      (⟨(y 2 : ℕ), b2⟩ : Fin 1024) := by blk_ext [e11]
  exact (row_norm m c t ht (y 1) (y 2)).trans (congrArg _ he).symm

end Ker
end Cert.OddOut

end
-- ==== Proof.EvenOutRef.lean ====
/-
  The even layer's out-projection: the reference read at an index.
-/
module

public import proofs.«01_k».proof.Proof.Gen.EvenOutRefIdeal
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.EvenOut
open Cert.Rows

/-- The gate's function, by the hyperbolic tangent. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * x * x)))))

/-- An entry of a group's transform: cosine sums less sine sums, scaled. -/
def spec (z : Fin 512 → EReal) (C D : Fin 64 → Fin 64 → EReal) (s : EReal) (g : Fin 4) (e : Fin 64) : EReal :=
  ((∑ d : Fin 64, z ⟨g.val * 64 + d.val, by omega⟩ * C d e) - ∑ d : Fin 64, z ⟨256 + g.val * 64 + d.val, by omega⟩ * D d e) * s

/-- A group's transform against the group's weights, and the bias. -/
def groupOut (z : Fin 512 → EReal) (C D : Fin 64 → Fin 64 → EReal) (s : EReal) (W : Fin 4 → Fin 64 → Fin 64 → EReal) (v : Fin 256 → EReal) (k : Fin 256) : EReal :=
  (∑ d : Fin 64, spec z C D s ⟨k.val / 64, by omega⟩ d * W ⟨k.val / 64, by omega⟩ d ⟨k.val % 64, by omega⟩) + v k

/-- A row's gated recurrence and its transform against a column of weights. -/
def mix (h p : Fin 768 → EReal) (z : Fin 512 → EReal) (C D : Fin 64 → Fin 64 → EReal) (s : EReal) (W : Fin 4 → Fin 64 → Fin 64 → EReal) (v : Fin 256 → EReal) (w : Fin 1024 → EReal) : EReal :=
  (∑ k : Fin 768, h k * gelu (p k) * w ⟨k.val, by omega⟩) + ∑ k : Fin 256, groupOut z C D s W v k * w ⟨768 + k.val, by omega⟩

/-- A sum over a row of 1024 is the sum over its two parts. -/
theorem parts (f : Fin 1024 → EReal) : ∑ k, f k = (∑ k : Fin 768, f ⟨k.val, by omega⟩) + ∑ k : Fin 256, f ⟨768 + k.val, by omega⟩ :=
  Fin.sum_univ_add (a := 768) (b := 256) f

namespace Ref
open Cert.EvenOutRefIdeal Cert.EvenOutRefIdeal.Gen

/-- The context rows' two recurrences added, gated. -/
def ctxAct (A B : FVec Ideal S2x8448x768 .f32) (P : FVec Ideal S2x8448x1792 .f32) : FVec Ideal S2x256x768 .f32 :=
  mulf (addf (extractStridedSlice S2x256x768 ![0, 0, 0] A slices_S2x8448x768_S2x256x768_0_0_0) (extractStridedSlice S2x256x768 ![0, 0, 0] B slices_S2x8448x768_S2x256x768_0_0_0)) (mulf (extractStridedSlice S2x256x768 ![0, 0, 768] (extractStridedSlice S2x256x1792 ![0, 0, 0] P slices_S2x8448x1792_S2x256x1792_0_0_0) slices_S2x256x1792_S2x256x768_0_0_768) (mulf (broadcastInDim S2x256x768 ![] bcast_S_S2x256x768 (constant S_ .f32 0x3F000000#32)) (addf (broadcastInDim S2x256x768 ![] bcast_S_S2x256x768 (constant S_ .f32 0x3F800000#32)) (Host.tanh (mulf (broadcastInDim S2x256x768 ![] bcast_S_S2x256x768 (constant S_ .f32 0x3F4C422A#32)) (addf (extractStridedSlice S2x256x768 ![0, 0, 768] (extractStridedSlice S2x256x1792 ![0, 0, 0] P slices_S2x8448x1792_S2x256x1792_0_0_0) slices_S2x256x1792_S2x256x768_0_0_768) (mulf (broadcastInDim S2x256x768 ![] bcast_S_S2x256x768 (constant S_ .f32 0x3D372713#32)) (mulf (mulf (extractStridedSlice S2x256x768 ![0, 0, 768] (extractStridedSlice S2x256x1792 ![0, 0, 0] P slices_S2x8448x1792_S2x256x1792_0_0_0) slices_S2x256x1792_S2x256x768_0_0_768) (extractStridedSlice S2x256x768 ![0, 0, 768] (extractStridedSlice S2x256x1792 ![0, 0, 0] P slices_S2x8448x1792_S2x256x1792_0_0_0) slices_S2x256x1792_S2x256x768_0_0_768)) (extractStridedSlice S2x256x768 ![0, 0, 768] (extractStridedSlice S2x256x1792 ![0, 0, 0] P slices_S2x8448x1792_S2x256x1792_0_0_0) slices_S2x256x1792_S2x256x768_0_0_768)))))))))

/-- The context rows' transform over the channels. -/
def ctxSpec (Z : FVec Ideal S2x8448x512 .f32) (C D : FVec Ideal S64x64 .f32) : FVec Ideal S2x256x4x64 .f32 :=
  mulf (subf (Host.dotGeneral dot_S2x256x4x64_S64x64_S2x256x4x64_3_0_012_1_n_n none (shapeCast _ (extractStridedSlice S2x256x1x4x64 ![0, 0, 0, 0, 0] (shapeCast _ (extractStridedSlice S2x256x512 ![0, 0, 0] Z slices_S2x8448x512_S2x256x512_0_0_0) shapeCasts_S2x256x512_S2x256x2x4x64) slices_S2x256x2x4x64_S2x256x1x4x64_0_0_0_0_0) shapeCasts_S2x256x1x4x64_S2x256x4x64) C)
    (Host.dotGeneral dot_S2x256x4x64_S64x64_S2x256x4x64_3_0_012_1_n_n none (shapeCast _ (extractStridedSlice S2x256x1x4x64 ![0, 0, 1, 0, 0] (shapeCast _ (extractStridedSlice S2x256x512 ![0, 0, 0] Z slices_S2x8448x512_S2x256x512_0_0_0) shapeCasts_S2x256x512_S2x256x2x4x64) slices_S2x256x2x4x64_S2x256x1x4x64_0_0_1_0_0) shapeCasts_S2x256x1x4x64_S2x256x4x64) D)) (broadcastInDim S2x256x4x64 ![] bcast_S_S2x256x4x64 (constant S_ .f32 0x3C000000#32))

/-- The context rows' transform against the groups' weights. -/
def ctxGroups (T : FVec Ideal S2x256x4x64 .f32) (W : FVec Ideal S1x4x64x64 .f32) (V : FVec Ideal S1x256 .f32) : FVec Ideal S2x256x256 .f32 :=
  addf (shapeCast _ (transpose S2x256x4x64 [2, 3, 0, 1] (Host.dotGeneral dot_S4x64x64_S2x256x4x64_S4x64x2x256_1_3_2_01_0_2 none (shapeCast _ W shapeCasts_S1x4x64x64_S4x64x64) T) transposes_S4x64x2x256_S2x256x4x64_2_3_0_1) shapeCasts_S2x256x4x64_S2x256x256) (broadcastInDim S2x256x256 ![0, 1, 2] bcast_S1x1x256_S2x256x256_0_1_2 (broadcastInDim S1x1x256 ![2] bcast_S256_S1x1x256_2 (shapeCast _ V shapeCasts_S1x256_S256)))

/-- The context rows' both parts against the weights. -/
def ctxMixed (T : FVec Ideal S2x256x768 .f32) (U : FVec Ideal S2x256x256 .f32) (O : FVec Ideal S1x1024x1024 .f32) : FVec Ideal S2x256x1024 .f32 :=
  Host.dotGeneral dot_S2x256x1024_S1024x1024_S2x256x1024_2_0_01_1_n_n none (concatenate S2x256x1024 2 [⟨S2x256x768, T⟩, ⟨S2x256x256, U⟩] concatenates_S2x256x768_S2x256x256_S2x256x1024_d2) (shapeCast _ O shapeCasts_S1x1024x1024_S1024x1024)

/-- The context rows of the stream. -/
def ctxStream (X : FVec Ideal S2x256x1024 .f32) (T : FVec Ideal S2x256x1024 .f32) (M : FVec Ideal S2x8x6144 .f32) : FVec Ideal S2x256x1024 .f32 :=
  addf X (mulf (broadcastInDim S2x256x1024 ![0, 1, 2] bcast_S1x1x1024_S2x256x1024_0_1_2 (broadcastInDim S1x1x1024 ![2] bcast_S1024_S1x1x1024_2 (shapeCast _ (extractStridedSlice S1x1x1024 ![0, 2, 2048] M slices_S2x8x6144_S1x1x1024_0_2_2048) shapeCasts_S1x1x1024_S1024))) T)

/-- The context rows of the stream normed and modulated. -/
def ctxNormed (T : FVec Ideal S2x256x1024 .f32) (M : FVec Ideal S2x8x6144 .f32) (G : FVec Ideal S2x1024 .f32) : FVec Ideal S2x256x1024 .f32 :=
  addf (mulf (mulf (mulf T (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf T T) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S2x256x1024 ![0, 1, 2] bcast_S1x1x1024_S2x256x1024_0_1_2 (addf (broadcastInDim S1x1x1024 ![] bcast_S_S1x1x1024 (constant S_ .f32 0x3F800000#32)) (broadcastInDim S1x1x1024 ![2] bcast_S1024_S1x1x1024_2 (shapeCast _ (extractStridedSlice S1x1x1024 ![0, 2, 4096] M slices_S2x8x6144_S1x1x1024_0_2_4096) shapeCasts_S1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1024 ![0, 2, 3072] M slices_S2x8x6144_S1x1x1024_0_2_3072) shapeCasts_S1x1x1024_S1024)))

theorem ctxAct_at (A B : FVec Ideal S2x8448x768 .f32) (P : FVec Ideal S2x8448x1792 .f32) (b : Fin 2) (r : Fin 256) (k : Fin 768) :
    ctxAct A B P (ix3 b r k) = (A (ix3 b ⟨r.val, by omega⟩ k) + B (ix3 b ⟨r.val, by omega⟩ k)) * gelu (P (ix3 b ⟨r.val, by omega⟩ ⟨768 + k.val, by omega⟩)) := by
  pointwise [ctxAct, gelu]

theorem ctxSpec_at (Z : FVec Ideal S2x8448x512 .f32) (C D : FVec Ideal S64x64 .f32) (b : Fin 2) (r : Fin 256) (g : Fin 4) (e : Fin 64) :
    ctxSpec Z C D (ix4 b r g e) = spec (fun k => Z (ix3 b ⟨r.val, by omega⟩ k)) (fun d e => C (ix2 d e)) (fun d e => D (ix2 d e)) (Ideal.ofBits FTy.f32 0x3C000000#32) g e := by
  pointwise [ctxSpec, spec]

theorem ctxGroups_at (T : FVec Ideal S2x256x4x64 .f32) (W : FVec Ideal S1x4x64x64 .f32) (V : FVec Ideal S1x256 .f32) (b : Fin 2) (r : Fin 256) (k : Fin 256) :
    ctxGroups T W V (ix3 b r k) = (∑ d : Fin 64, W (ix4 (0 : Fin 1) (⟨k.val / 64, by omega⟩ : Fin 4) d ⟨k.val % 64, by omega⟩) * T (ix4 b r (⟨k.val / 64, by omega⟩ : Fin 4) d)) + V (ix2 (0 : Fin 1) k) := by
  pointwise [ctxGroups]

theorem ctxMixed_at (T : FVec Ideal S2x256x768 .f32) (U : FVec Ideal S2x256x256 .f32) (O : FVec Ideal S1x1024x1024 .f32) (b : Fin 2) (r : Fin 256) (n : Fin 1024) :
    ctxMixed T U O (ix3 b r n) = (∑ k : Fin 768, T (ix3 b r k) * O (ix3 (0 : Fin 1) ⟨k.val, by omega⟩ n)) + ∑ k : Fin 256, U (ix3 b r k) * O (ix3 (0 : Fin 1) ⟨768 + k.val, by omega⟩ n) := by
  have h : ctxMixed T U O (ix3 b r n) = ∑ k : Fin 1024, (if h : k.val < 768 then T (ix3 b r ⟨k.val, h⟩) else U (ix3 b r ⟨k.val - 768, by omega⟩)) * O (ix3 (0 : Fin 1) k n) := by
    pointwise [ctxMixed]
  rw [h, parts]
  refine congrArg₂ (HAdd.hAdd : EReal → EReal → EReal) (Finset.sum_congr rfl fun k _ => ?_) (Finset.sum_congr rfl fun k _ => ?_)
  · rw [dif_pos (show k.val < 768 from k.isLt)]
  · rw [dif_neg (show ¬ 768 + k.val < 768 by omega)]
    have e : 768 + k.val - 768 = k.val := by omega
    simp only [e]

theorem ctxStream_at (X : FVec Ideal S2x256x1024 .f32) (T : FVec Ideal S2x256x1024 .f32) (M : FVec Ideal S2x8x6144 .f32) (b : Fin 2) (r : Fin 256) (n : Fin 1024) :
    ctxStream X T M (ix3 b r n) = X (ix3 b r n) + M (ix3 (0 : Fin 2) (2 : Fin 8) ⟨2048 + n.val, by omega⟩) * T (ix3 b r n) := by
  pointwise [ctxStream]

theorem ctxNormed_at (T : FVec Ideal S2x256x1024 .f32) (M : FVec Ideal S2x8x6144 .f32) (G : FVec Ideal S2x1024 .f32) (b : Fin 2) (r : Fin 256) (n : Fin 1024) :
    ctxNormed T M G (ix3 b r n) = token (fun x => T (ix3 b r x)) (fun x => G (ix2 (0 : Fin 2) x)) (fun x => M (ix3 (0 : Fin 2) (2 : Fin 8) ⟨4096 + x.val, by omega⟩)) (fun x => M (ix3 (0 : Fin 2) (2 : Fin 8) ⟨3072 + x.val, by omega⟩)) n := by
  pointwise [ctxNormed, token, rms]

/-- The context rows of the stream, from the arguments. -/
def ctxRows (A B : FVec Ideal S2x8448x768 .f32) (P : FVec Ideal S2x8448x1792 .f32) (Z : FVec Ideal S2x8448x512 .f32) (X : FVec Ideal S2x256x1024 .f32) (M : FVec Ideal S2x8x6144 .f32) (W : FVec Ideal S1x4x64x64 .f32) (V : FVec Ideal S1x256 .f32) (O : FVec Ideal S1x1024x1024 .f32) (C D : FVec Ideal S64x64 .f32) : FVec Ideal S2x256x1024 .f32 :=
  ctxStream X (ctxMixed (ctxAct A B P) (ctxGroups (ctxSpec Z C D) W V) O) M

theorem ctxRows_at (A B : FVec Ideal S2x8448x768 .f32) (P : FVec Ideal S2x8448x1792 .f32) (Z : FVec Ideal S2x8448x512 .f32) (X : FVec Ideal S2x256x1024 .f32) (M : FVec Ideal S2x8x6144 .f32) (W : FVec Ideal S1x4x64x64 .f32) (V : FVec Ideal S1x256 .f32) (O : FVec Ideal S1x1024x1024 .f32) (C D : FVec Ideal S64x64 .f32) (b : Fin 2) (r : Fin 256) (n : Fin 1024) :
    ctxRows A B P Z X M W V O C D (ix3 b r n) = X (ix3 b r n) + M (ix3 (0 : Fin 2) (2 : Fin 8) ⟨2048 + n.val, by omega⟩)
      * mix (fun k => A (ix3 b ⟨r.val, by omega⟩ k) + B (ix3 b ⟨r.val, by omega⟩ k)) (fun k => P (ix3 b ⟨r.val, by omega⟩ ⟨768 + k.val, by omega⟩)) (fun k => Z (ix3 b ⟨r.val, by omega⟩ k)) (fun d e => C (ix2 d e)) (fun d e => D (ix2 d e)) (Ideal.ofBits FTy.f32 0x3C000000#32)
        (fun g d e => W (ix4 (0 : Fin 1) g d e)) (fun k => V (ix2 (0 : Fin 1) k)) (fun k => O (ix3 (0 : Fin 1) k n)) := by
  unfold ctxRows
  rw [ctxStream_at, ctxMixed_at, mix]
  simp only [ctxAct_at, ctxGroups_at, ctxSpec_at, groupOut, mul_comm (W _)]

/-- The latent rows' two recurrences added, gated. -/
def latAct (A B : FVec Ideal S2x8448x768 .f32) (P : FVec Ideal S2x8448x1792 .f32) : FVec Ideal S2x8192x768 .f32 :=
  mulf (addf (extractStridedSlice S2x8192x768 ![0, 256, 0] A slices_S2x8448x768_S2x8192x768_0_256_0) (extractStridedSlice S2x8192x768 ![0, 256, 0] B slices_S2x8448x768_S2x8192x768_0_256_0)) (mulf (extractStridedSlice S2x8192x768 ![0, 0, 768] (extractStridedSlice S2x8192x1792 ![0, 256, 0] P slices_S2x8448x1792_S2x8192x1792_0_256_0) slices_S2x8192x1792_S2x8192x768_0_0_768) (mulf (broadcastInDim S2x8192x768 ![] bcast_S_S2x8192x768 (constant S_ .f32 0x3F000000#32)) (addf (broadcastInDim S2x8192x768 ![] bcast_S_S2x8192x768 (constant S_ .f32 0x3F800000#32)) (Host.tanh (mulf (broadcastInDim S2x8192x768 ![] bcast_S_S2x8192x768 (constant S_ .f32 0x3F4C422A#32)) (addf (extractStridedSlice S2x8192x768 ![0, 0, 768] (extractStridedSlice S2x8192x1792 ![0, 256, 0] P slices_S2x8448x1792_S2x8192x1792_0_256_0) slices_S2x8192x1792_S2x8192x768_0_0_768) (mulf (broadcastInDim S2x8192x768 ![] bcast_S_S2x8192x768 (constant S_ .f32 0x3D372713#32)) (mulf (mulf (extractStridedSlice S2x8192x768 ![0, 0, 768] (extractStridedSlice S2x8192x1792 ![0, 256, 0] P slices_S2x8448x1792_S2x8192x1792_0_256_0) slices_S2x8192x1792_S2x8192x768_0_0_768) (extractStridedSlice S2x8192x768 ![0, 0, 768] (extractStridedSlice S2x8192x1792 ![0, 256, 0] P slices_S2x8448x1792_S2x8192x1792_0_256_0) slices_S2x8192x1792_S2x8192x768_0_0_768)) (extractStridedSlice S2x8192x768 ![0, 0, 768] (extractStridedSlice S2x8192x1792 ![0, 256, 0] P slices_S2x8448x1792_S2x8192x1792_0_256_0) slices_S2x8192x1792_S2x8192x768_0_0_768)))))))))

/-- The latent rows' transform over the channels. -/
def latSpec (Z : FVec Ideal S2x8448x512 .f32) (C D : FVec Ideal S64x64 .f32) : FVec Ideal S2x8192x4x64 .f32 :=
  mulf (subf (Host.dotGeneral dot_S2x8192x4x64_S64x64_S2x8192x4x64_3_0_012_1_n_n none (shapeCast _ (extractStridedSlice S2x8192x1x4x64 ![0, 0, 0, 0, 0] (shapeCast _ (extractStridedSlice S2x8192x512 ![0, 256, 0] Z slices_S2x8448x512_S2x8192x512_0_256_0) shapeCasts_S2x8192x512_S2x8192x2x4x64) slices_S2x8192x2x4x64_S2x8192x1x4x64_0_0_0_0_0) shapeCasts_S2x8192x1x4x64_S2x8192x4x64) C)
    (Host.dotGeneral dot_S2x8192x4x64_S64x64_S2x8192x4x64_3_0_012_1_n_n none (shapeCast _ (extractStridedSlice S2x8192x1x4x64 ![0, 0, 1, 0, 0] (shapeCast _ (extractStridedSlice S2x8192x512 ![0, 256, 0] Z slices_S2x8448x512_S2x8192x512_0_256_0) shapeCasts_S2x8192x512_S2x8192x2x4x64) slices_S2x8192x2x4x64_S2x8192x1x4x64_0_0_1_0_0) shapeCasts_S2x8192x1x4x64_S2x8192x4x64) D)) (broadcastInDim S2x8192x4x64 ![] bcast_S_S2x8192x4x64 (constant S_ .f32 0x3AB504F3#32))

/-- The latent rows' transform against the groups' weights. -/
def latGroups (T : FVec Ideal S2x8192x4x64 .f32) (W : FVec Ideal S1x4x64x64 .f32) (V : FVec Ideal S1x256 .f32) : FVec Ideal S2x8192x256 .f32 :=
  addf (shapeCast _ (transpose S2x8192x4x64 [2, 3, 0, 1] (Host.dotGeneral dot_S4x64x64_S2x8192x4x64_S4x64x2x8192_1_3_2_01_0_2 none (shapeCast _ W shapeCasts_S1x4x64x64_S4x64x64) T) transposes_S4x64x2x8192_S2x8192x4x64_2_3_0_1) shapeCasts_S2x8192x4x64_S2x8192x256) (broadcastInDim S2x8192x256 ![0, 1, 2] bcast_S1x1x256_S2x8192x256_0_1_2 (broadcastInDim S1x1x256 ![2] bcast_S256_S1x1x256_2 (shapeCast _ V shapeCasts_S1x256_S256)))

/-- The latent rows' both parts against the weights. -/
def latMixed (T : FVec Ideal S2x8192x768 .f32) (U : FVec Ideal S2x8192x256 .f32) (O : FVec Ideal S1x1024x1024 .f32) : FVec Ideal S2x8192x1024 .f32 :=
  Host.dotGeneral dot_S2x8192x1024_S1024x1024_S2x8192x1024_2_0_01_1_n_n none (concatenate S2x8192x1024 2 [⟨S2x8192x768, T⟩, ⟨S2x8192x256, U⟩] concatenates_S2x8192x768_S2x8192x256_S2x8192x1024_d2) (shapeCast _ O shapeCasts_S1x1024x1024_S1024x1024)

/-- The latent rows of the stream. -/
def latStream (X : FVec Ideal S2x8192x1024 .f32) (T : FVec Ideal S2x8192x1024 .f32) (M : FVec Ideal S2x8x6144 .f32) : FVec Ideal S2x8192x1024 .f32 :=
  addf X (mulf (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![0, 0, 2048] M slices_S2x8x6144_S1x2x1024_0_0_2048) shapeCasts_S1x2x1024_S2x1024))) T)

/-- The latent rows of the stream normed and modulated. -/
def latNormed (T : FVec Ideal S2x8192x1024 .f32) (M : FVec Ideal S2x8x6144 .f32) (G : FVec Ideal S2x1024 .f32) : FVec Ideal S2x8192x1024 .f32 :=
  addf (mulf (mulf (mulf T (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf T T) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] G slices_S2x1024_S1x1024_0_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1024 ![0, 0, 4096] M slices_S2x8x6144_S1x2x1024_0_0_4096) shapeCasts_S1x2x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![0, 0, 3072] M slices_S2x8x6144_S1x2x1024_0_0_3072) shapeCasts_S1x2x1024_S2x1024)))

theorem latAct_at (A B : FVec Ideal S2x8448x768 .f32) (P : FVec Ideal S2x8448x1792 .f32) (b : Fin 2) (r : Fin 8192) (k : Fin 768) :
    latAct A B P (ix3 b r k) = (A (ix3 b ⟨256 + r.val, by omega⟩ k) + B (ix3 b ⟨256 + r.val, by omega⟩ k)) * gelu (P (ix3 b ⟨256 + r.val, by omega⟩ ⟨768 + k.val, by omega⟩)) := by
  pointwise [latAct, gelu]

theorem latSpec_at (Z : FVec Ideal S2x8448x512 .f32) (C D : FVec Ideal S64x64 .f32) (b : Fin 2) (r : Fin 8192) (g : Fin 4) (e : Fin 64) :
    latSpec Z C D (ix4 b r g e) = spec (fun k => Z (ix3 b ⟨256 + r.val, by omega⟩ k)) (fun d e => C (ix2 d e)) (fun d e => D (ix2 d e)) (Ideal.ofBits FTy.f32 0x3AB504F3#32) g e := by
  pointwise [latSpec, spec]

theorem latGroups_at (T : FVec Ideal S2x8192x4x64 .f32) (W : FVec Ideal S1x4x64x64 .f32) (V : FVec Ideal S1x256 .f32) (b : Fin 2) (r : Fin 8192) (k : Fin 256) :
    latGroups T W V (ix3 b r k) = (∑ d : Fin 64, W (ix4 (0 : Fin 1) (⟨k.val / 64, by omega⟩ : Fin 4) d ⟨k.val % 64, by omega⟩) * T (ix4 b r (⟨k.val / 64, by omega⟩ : Fin 4) d)) + V (ix2 (0 : Fin 1) k) := by
  pointwise [latGroups]

theorem latMixed_at (T : FVec Ideal S2x8192x768 .f32) (U : FVec Ideal S2x8192x256 .f32) (O : FVec Ideal S1x1024x1024 .f32) (b : Fin 2) (r : Fin 8192) (n : Fin 1024) :
    latMixed T U O (ix3 b r n) = (∑ k : Fin 768, T (ix3 b r k) * O (ix3 (0 : Fin 1) ⟨k.val, by omega⟩ n)) + ∑ k : Fin 256, U (ix3 b r k) * O (ix3 (0 : Fin 1) ⟨768 + k.val, by omega⟩ n) := by
  have h : latMixed T U O (ix3 b r n) = ∑ k : Fin 1024, (if h : k.val < 768 then T (ix3 b r ⟨k.val, h⟩) else U (ix3 b r ⟨k.val - 768, by omega⟩)) * O (ix3 (0 : Fin 1) k n) := by
    pointwise [latMixed]
  rw [h, parts]
  refine congrArg₂ (HAdd.hAdd : EReal → EReal → EReal) (Finset.sum_congr rfl fun k _ => ?_) (Finset.sum_congr rfl fun k _ => ?_)
  · rw [dif_pos (show k.val < 768 from k.isLt)]
  · rw [dif_neg (show ¬ 768 + k.val < 768 by omega)]
    have e : 768 + k.val - 768 = k.val := by omega
    simp only [e]

theorem latStream_at (X : FVec Ideal S2x8192x1024 .f32) (T : FVec Ideal S2x8192x1024 .f32) (M : FVec Ideal S2x8x6144 .f32) (b : Fin 2) (r : Fin 8192) (n : Fin 1024) :
    latStream X T M (ix3 b r n) = X (ix3 b r n) + M (ix3 (0 : Fin 2) ⟨b.val, by omega⟩ ⟨2048 + n.val, by omega⟩) * T (ix3 b r n) := by
  pointwise [latStream]

theorem latNormed_at (T : FVec Ideal S2x8192x1024 .f32) (M : FVec Ideal S2x8x6144 .f32) (G : FVec Ideal S2x1024 .f32) (b : Fin 2) (r : Fin 8192) (n : Fin 1024) :
    latNormed T M G (ix3 b r n) = token (fun x => T (ix3 b r x)) (fun x => G (ix2 (0 : Fin 2) x)) (fun x => M (ix3 (0 : Fin 2) ⟨b.val, by omega⟩ ⟨4096 + x.val, by omega⟩)) (fun x => M (ix3 (0 : Fin 2) ⟨b.val, by omega⟩ ⟨3072 + x.val, by omega⟩)) n := by
  pointwise [latNormed, token, rms]

/-- The latent rows of the stream, from the arguments. -/
def latRows (A B : FVec Ideal S2x8448x768 .f32) (P : FVec Ideal S2x8448x1792 .f32) (Z : FVec Ideal S2x8448x512 .f32) (X : FVec Ideal S2x8192x1024 .f32) (M : FVec Ideal S2x8x6144 .f32) (W : FVec Ideal S1x4x64x64 .f32) (V : FVec Ideal S1x256 .f32) (O : FVec Ideal S1x1024x1024 .f32) (C D : FVec Ideal S64x64 .f32) : FVec Ideal S2x8192x1024 .f32 :=
  latStream X (latMixed (latAct A B P) (latGroups (latSpec Z C D) W V) O) M

theorem latRows_at (A B : FVec Ideal S2x8448x768 .f32) (P : FVec Ideal S2x8448x1792 .f32) (Z : FVec Ideal S2x8448x512 .f32) (X : FVec Ideal S2x8192x1024 .f32) (M : FVec Ideal S2x8x6144 .f32) (W : FVec Ideal S1x4x64x64 .f32) (V : FVec Ideal S1x256 .f32) (O : FVec Ideal S1x1024x1024 .f32) (C D : FVec Ideal S64x64 .f32) (b : Fin 2) (r : Fin 8192) (n : Fin 1024) :
    latRows A B P Z X M W V O C D (ix3 b r n) = X (ix3 b r n) + M (ix3 (0 : Fin 2) ⟨b.val, by omega⟩ ⟨2048 + n.val, by omega⟩)
      * mix (fun k => A (ix3 b ⟨256 + r.val, by omega⟩ k) + B (ix3 b ⟨256 + r.val, by omega⟩ k)) (fun k => P (ix3 b ⟨256 + r.val, by omega⟩ ⟨768 + k.val, by omega⟩)) (fun k => Z (ix3 b ⟨256 + r.val, by omega⟩ k)) (fun d e => C (ix2 d e)) (fun d e => D (ix2 d e)) (Ideal.ofBits FTy.f32 0x3AB504F3#32)
        (fun g d e => W (ix4 (0 : Fin 1) g d e)) (fun k => V (ix2 (0 : Fin 1) k)) (fun k => O (ix3 (0 : Fin 1) k n)) := by
  unfold latRows
  rw [latStream_at, latMixed_at, mix]
  simp only [latAct_at, latGroups_at, latSpec_at, groupOut, mul_comm (W _)]

/-- The stream: the context's rows, then the latents'. -/
def stream (A B : FVec Ideal S2x8448x768 .f32) (P : FVec Ideal S2x8448x1792 .f32) (Z : FVec Ideal S2x8448x512 .f32) (X : FVec Ideal S2x256x1024 .f32) (Y : FVec Ideal S2x8192x1024 .f32) (M : FVec Ideal S2x8x6144 .f32) (W : FVec Ideal S1x4x64x64 .f32) (V : FVec Ideal S1x256 .f32) (O : FVec Ideal S1x1024x1024 .f32) (C D : FVec Ideal S64x64 .f32) : FVec Ideal S2x8448x1024 .f32 :=
  concatenate S2x8448x1024 1 [⟨S2x256x1024, ctxRows A B P Z X M W V O C D⟩, ⟨S2x8192x1024, latRows A B P Z Y M W V O C D⟩] concatenates_S2x256x1024_S2x8192x1024_S2x8448x1024_d1

/-- The stream normed and modulated. -/
def normed (A B : FVec Ideal S2x8448x768 .f32) (P : FVec Ideal S2x8448x1792 .f32) (Z : FVec Ideal S2x8448x512 .f32) (X : FVec Ideal S2x256x1024 .f32) (Y : FVec Ideal S2x8192x1024 .f32) (M : FVec Ideal S2x8x6144 .f32) (W : FVec Ideal S1x4x64x64 .f32) (V : FVec Ideal S1x256 .f32) (O : FVec Ideal S1x1024x1024 .f32) (G : FVec Ideal S2x1024 .f32) (C D : FVec Ideal S64x64 .f32) : FVec Ideal S2x8448x1024 .f32 :=
  concatenate S2x8448x1024 1 [⟨S2x256x1024, ctxNormed (ctxRows A B P Z X M W V O C D) M G⟩, ⟨S2x8192x1024, latNormed (latRows A B P Z Y M W V O C D) M G⟩] concatenates_S2x256x1024_S2x8192x1024_S2x8448x1024_d1

/-- The scale of the transform at a position: the context's, or the latents'. -/
def scale (r : ℕ) : EReal := if r < 256 then Ideal.ofBits FTy.f32 0x3C000000#32 else Ideal.ofBits FTy.f32 0x3AB504F3#32

/-- The two parts' rows as one. -/
def row (X : FVec Ideal S2x256x1024 .f32) (Y : FVec Ideal S2x8192x1024 .f32) (b : Fin 2) (r : Fin 8448) (n : Fin 1024) : EReal :=
  if h : r.val < 256 then X (ix3 b ⟨r.val, h⟩ n) else Y (ix3 b ⟨r.val - 256, by omega⟩ n)

theorem cat_at (X : FVec Ideal S2x256x1024 .f32) (Y : FVec Ideal S2x8192x1024 .f32) (b : Fin 2) (r : Fin 8448) (n : Fin 1024) :
    concatenate S2x8448x1024 1 [⟨S2x256x1024, X⟩, ⟨S2x8192x1024, Y⟩] concatenates_S2x256x1024_S2x8192x1024_S2x8448x1024_d1 (ix3 b r n) = row X Y b r n := by
  pointwise [row]

theorem stream_at (A B : FVec Ideal S2x8448x768 .f32) (P : FVec Ideal S2x8448x1792 .f32) (Z : FVec Ideal S2x8448x512 .f32) (X : FVec Ideal S2x256x1024 .f32) (Y : FVec Ideal S2x8192x1024 .f32) (M : FVec Ideal S2x8x6144 .f32) (W : FVec Ideal S1x4x64x64 .f32) (V : FVec Ideal S1x256 .f32) (O : FVec Ideal S1x1024x1024 .f32) (C D : FVec Ideal S64x64 .f32) (b : Fin 2) (r : Fin 8448) (n : Fin 1024) :
    stream A B P Z X Y M W V O C D (ix3 b r n) = row X Y b r n + M (ix3 (0 : Fin 2) (modRow b r.val) ⟨2048 + n.val, by omega⟩)
      * mix (fun k => A (ix3 b r k) + B (ix3 b r k)) (fun k => P (ix3 b r ⟨768 + k.val, by omega⟩)) (fun k => Z (ix3 b r k)) (fun d e => C (ix2 d e)) (fun d e => D (ix2 d e)) (scale r.val)
        (fun g d e => W (ix4 (0 : Fin 1) g d e)) (fun k => V (ix2 (0 : Fin 1) k)) (fun k => O (ix3 (0 : Fin 1) k n)) := by
  unfold stream
  rw [cat_at]
  unfold row scale
  by_cases hr : r.val < 256
  · rw [dif_pos hr, dif_pos hr, if_pos hr, ctxRows_at, modRow_ctx _ _ hr]
  · have e : (⟨256 + (r.val - 256), by omega⟩ : Fin 8448) = r := Fin.ext (by show 256 + (r.val - 256) = r.val; omega)
    rw [dif_neg hr, dif_neg hr, if_neg hr, latRows_at, modRow_lat _ _ hr]
    simp only [e]

theorem normed_at (A B : FVec Ideal S2x8448x768 .f32) (P : FVec Ideal S2x8448x1792 .f32) (Z : FVec Ideal S2x8448x512 .f32) (X : FVec Ideal S2x256x1024 .f32) (Y : FVec Ideal S2x8192x1024 .f32) (M : FVec Ideal S2x8x6144 .f32) (W : FVec Ideal S1x4x64x64 .f32) (V : FVec Ideal S1x256 .f32) (O : FVec Ideal S1x1024x1024 .f32) (G : FVec Ideal S2x1024 .f32) (C D : FVec Ideal S64x64 .f32) (b : Fin 2) (r : Fin 8448) (n : Fin 1024) :
    normed A B P Z X Y M W V O G C D (ix3 b r n) = token (fun x => stream A B P Z X Y M W V O C D (ix3 b r x)) (fun x => G (ix2 (0 : Fin 2) x)) (fun x => M (ix3 (0 : Fin 2) (modRow b r.val) ⟨4096 + x.val, by omega⟩)) (fun x => M (ix3 (0 : Fin 2) (modRow b r.val) ⟨3072 + x.val, by omega⟩)) n := by
  unfold normed stream
  simp only [cat_at]
  unfold row
  by_cases hr : r.val < 256
  · simp only [dif_pos hr, modRow_ctx _ _ hr]
    exact ctxNormed_at _ M G b _ n
  · simp only [dif_neg hr, modRow_lat _ _ hr]
    exact latNormed_at _ M G b _ n

end Ref
end Cert.EvenOut

end
-- ==== Proof.EvenOutPay.lean ====
/-
  The even layer's out-projection: the call's host tables and a block's rows, read at an index.
-/
module

public import proofs.«01_k».proof.Proof.Gen.EvenOutIdeal.Skeleton
public import proofs.«01_k».proof.Proof.EvenOutRef
public import Idealize.ShloMosaic.Lib.Routing.OpsSet
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.EvenOut
open Cert.Rows

/-- A sum against a column of a table that is zero outside its diagonal blocks of 64 is the sum over the column's block. -/
theorem diagonal (f w : Fin 256 → EReal) (k : Fin 256) (v : Fin 64 → EReal)
    (hw : ∀ j : Fin 256, w j = if j.val / 64 = k.val / 64 then v ⟨j.val % 64, by omega⟩ else 0) :
    ∑ j : Fin 256, f j * w j = ∑ d : Fin 64, f ⟨k.val / 64 * 64 + d.val, by omega⟩ * v d := by
  symm
  refine Finset.sum_of_injOn (fun d : Fin 64 => (⟨k.val / 64 * 64 + d.val, by omega⟩ : Fin 256)) ?_ (fun _ _ => by simp) ?_ ?_
  · intro x _ y _ h
    have h' : k.val / 64 * 64 + x.val = k.val / 64 * 64 + y.val := congrArg Fin.val h
    exact Fin.ext (by omega)
  · intro j _ hj
    rw [hw]
    by_cases h : j.val / 64 = k.val / 64
    · exact absurd ⟨(⟨j.val % 64, by omega⟩ : Fin 64), by simp, Fin.ext (by
        show k.val / 64 * 64 + j.val % 64 = j.val; omega)⟩ hj
    · rw [if_neg h, mul_zero]
  · intro d _
    rw [hw, if_pos (by show (k.val / 64 * 64 + d.val) / 64 = k.val / 64; omega)]
    exact congrArg (fun z => f ⟨k.val / 64 * 64 + d.val, by omega⟩ * v z) (Fin.ext (by
      show d.val = (k.val / 64 * 64 + d.val) % 64; omega))

/-- The gate's function with its factors in another order. -/
theorem gelu_eq (x : EReal) : Ideal.ofBits FTy.f32 0x3F000000#32 * x * (Ideal.ofBits FTy.f32 0x3F800000#32
    + Ideal.tanh (Ideal.ofBits FTy.f32 0x3F4C422A#32 * (x + Ideal.ofBits FTy.f32 0x3D372713#32 * x * x * x))) = gelu x := by
  unfold gelu
  rw [mul_comm (Ideal.ofBits FTy.f32 0x3F000000#32) x, mul_assoc x, mul_assoc (Ideal.ofBits FTy.f32 0x3D372713#32) x x, mul_assoc (Ideal.ofBits FTy.f32 0x3D372713#32) (x * x) x]

namespace Ker
open Cert.EvenOutIdeal Cert.EvenOutIdeal.Gen

/-- Where an update of a block of 64 by 64 lands. -/
theorem lands_block (idx : IVec S2 32) (p q : Fin 64) (r c : Fin 256) :
    scatter_S256x256_S2_S64x64_01_n_01_0.resultIdx? (ix2 p q) idx = some (ix2 r c)
      ↔ (idx (ix1 (0 : Fin 2))).toInt + (p.val : Int) = r.val ∧ (idx (ix1 (1 : Fin 2))).toInt + (q.val : Int) = c.val := by
  have hwin0 : scatter_S256x256_S2_S64x64_01_n_01_0.window (ix2 p q) 0 = p.val := rfl
  have hwin1 : scatter_S256x256_S2_S64x64_01_n_01_0.window (ix2 p q) 1 = q.val := rfl
  have e : (ix2 r c : S256x256.Idx) = ValueIdx.ix2 r c := (ValueIdx.eq_ix2 _).trans rfl
  have e1 : ∀ q : Fin 2, (ix1 q : S2.Idx) = ValueIdx.ix1 q := fun q => (ValueIdx.eq_ix1 _).trans rfl
  rw [e, e1, e1]
  refine (Routing.resultIdx?_ix2 _ _ _ _ _).trans ?_
  rw [Routing.start_pair _ rfl rfl, Routing.start_pair _ rfl rfl, hwin0, hwin1]

/-- A block of 64 by 64 set on the diagonal, read at an index. -/
theorem scatter_block (x0 : FVec Ideal S256x256 .f32) (idx : IVec S2 32) (upd : FVec Ideal S64x64 .f32) (g : ℕ)
    (h0 : (idx (ix1 (0 : Fin 2))).toInt = ((g * 64 : ℕ) : Int)) (h1 : (idx (ix1 (1 : Fin 2))).toInt = ((g * 64 : ℕ) : Int)) (r c : Fin 256) :
    Host.scatter scatter_S256x256_S2_S64x64_01_n_01_0 (fun _ b => b) x0 idx upd (ix2 r c)
      = if r.val / 64 = g ∧ c.val / 64 = g then upd (ix2 (⟨r.val % 64, by omega⟩ : Fin 64) (⟨c.val % 64, by omega⟩ : Fin 64)) else x0 (ix2 r c) := by
  have lands : ∀ k : S64x64.Idx, scatter_S256x256_S2_S64x64_01_n_01_0.resultIdx? k idx = some (ix2 r c) →
      (idx (ix1 (0 : Fin 2))).toInt + ((k 0).val : Int) = r.val ∧ (idx (ix1 (1 : Fin 2))).toInt + ((k 1).val : Int) = c.val := fun k hk =>
    (lands_block idx (k 0) (k 1) r c).1 ((congrArg (fun t => scatter_S256x256_S2_S64x64_01_n_01_0.resultIdx? t idx) (eq_ix2 k).symm).trans hk)
  by_cases h : r.val / 64 = g ∧ c.val / 64 = g
  · rw [if_pos h]
    refine Routing.scatter_set_hit _ x0 idx upd _ _ (fun k hk => ?_) (ix2 (⟨r.val % 64, by omega⟩ : Fin 64) (⟨c.val % 64, by omega⟩ : Fin 64))
      ((lands_block idx _ _ r c).2 ⟨by rw [h0]; show ((g * 64 : ℕ) : Int) + ((r.val % 64 : ℕ) : Int) = _; omega, by rw [h1]; show ((g * 64 : ℕ) : Int) + ((c.val % 64 : ℕ) : Int) = _; omega⟩)
    obtain ⟨q0, q1⟩ := lands k hk
    have b0 : (k 0).val < 64 := (k 0).isLt
    have b1 : (k 1).val < 64 := (k 1).isLt
    rw [eq_ix2 k]
    refine congrArg₂ (fun s t => upd (ix2 s t)) (Fin.ext ?_) (Fin.ext ?_)
    · show (k 0).val = r.val % 64
      omega
    · show (k 1).val = c.val % 64
      omega
  · rw [if_neg h]
    refine Routing.scatter_set_miss _ x0 idx upd _ fun k hk => h ?_
    obtain ⟨q0, q1⟩ := lands k hk
    have b0 : (k 0).val < 64 := (k 0).isLt
    have b1 : (k 1).val < 64 := (k 1).isLt
    exact ⟨by omega, by omega⟩

/-- A pair of equal index words. -/
def corner (b : BitVec 32) : IVec S2 32 :=
  concatenate S2 0 [⟨S1, broadcastInDim S1 ![] bcast_S_S1 (constantI S_ 32 b)⟩, ⟨S1, broadcastInDim S1 ![] bcast_S_S1 (constantI S_ 32 b)⟩] concatenates_S1_S1_S2_d0

theorem corner_at (b : BitVec 32) (q : Fin 2) : corner b (ix1 q) = b := by
  fin_cases q <;> rfl

/-- The groups' weights on the diagonal of zeros. -/
def blocks (G : FVec Ideal S1x4x64x64 .f32) : FVec Ideal S256x256 .f32 :=
  Host.scatter scatter_S256x256_S2_S64x64_01_n_01_0 (fun _ b => b)
    (Host.scatter scatter_S256x256_S2_S64x64_01_n_01_0 (fun _ b => b)
      (Host.scatter scatter_S256x256_S2_S64x64_01_n_01_0 (fun _ b => b)
        (Host.scatter scatter_S256x256_S2_S64x64_01_n_01_0 (fun _ b => b)
          (broadcastInDim S256x256 ![] bcast_S_S256x256 (constant S_ .f32 0x00000000#32))
          (corner 0#32) (shapeCast S64x64 (extractStridedSlice S1x64x64 ![0, 0, 0] (shapeCast S4x64x64 G shapeCasts_S1x4x64x64_S4x64x64) slices_S4x64x64_S1x64x64_0_0_0) shapeCasts_S1x64x64_S64x64))
        (corner 64#32) (shapeCast S64x64 (extractStridedSlice S1x64x64 ![1, 0, 0] (shapeCast S4x64x64 G shapeCasts_S1x4x64x64_S4x64x64) slices_S4x64x64_S1x64x64_1_0_0) shapeCasts_S1x64x64_S64x64))
      (corner 128#32) (shapeCast S64x64 (extractStridedSlice S1x64x64 ![2, 0, 0] (shapeCast S4x64x64 G shapeCasts_S1x4x64x64_S4x64x64) slices_S4x64x64_S1x64x64_2_0_0) shapeCasts_S1x64x64_S64x64))
    (corner 192#32) (shapeCast S64x64 (extractStridedSlice S1x64x64 ![3, 0, 0] (shapeCast S4x64x64 G shapeCasts_S1x4x64x64_S4x64x64) slices_S4x64x64_S1x64x64_3_0_0) shapeCasts_S1x64x64_S64x64)

theorem group0_at (G : FVec Ideal S1x4x64x64 .f32) (p q : Fin 64) :
    shapeCast S64x64 (extractStridedSlice S1x64x64 ![0, 0, 0] (shapeCast S4x64x64 G shapeCasts_S1x4x64x64_S4x64x64) slices_S4x64x64_S1x64x64_0_0_0) shapeCasts_S1x64x64_S64x64 (ix2 p q) = G (ix4 (0 : Fin 1) (0 : Fin 4) p q) := by
  pointwise

theorem group1_at (G : FVec Ideal S1x4x64x64 .f32) (p q : Fin 64) :
    shapeCast S64x64 (extractStridedSlice S1x64x64 ![1, 0, 0] (shapeCast S4x64x64 G shapeCasts_S1x4x64x64_S4x64x64) slices_S4x64x64_S1x64x64_1_0_0) shapeCasts_S1x64x64_S64x64 (ix2 p q) = G (ix4 (0 : Fin 1) (1 : Fin 4) p q) := by
  pointwise

theorem group2_at (G : FVec Ideal S1x4x64x64 .f32) (p q : Fin 64) :
    shapeCast S64x64 (extractStridedSlice S1x64x64 ![2, 0, 0] (shapeCast S4x64x64 G shapeCasts_S1x4x64x64_S4x64x64) slices_S4x64x64_S1x64x64_2_0_0) shapeCasts_S1x64x64_S64x64 (ix2 p q) = G (ix4 (0 : Fin 1) (2 : Fin 4) p q) := by
  pointwise

theorem group3_at (G : FVec Ideal S1x4x64x64 .f32) (p q : Fin 64) :
    shapeCast S64x64 (extractStridedSlice S1x64x64 ![3, 0, 0] (shapeCast S4x64x64 G shapeCasts_S1x4x64x64_S4x64x64) slices_S4x64x64_S1x64x64_3_0_0) shapeCasts_S1x64x64_S64x64 (ix2 p q) = G (ix4 (0 : Fin 1) (3 : Fin 4) p q) := by
  pointwise

theorem zeros_at (r c : Fin 256) : (broadcastInDim S256x256 ![] bcast_S_S256x256 (constant S_ .f32 0x00000000#32) : FVec Ideal S256x256 .f32) (ix2 r c) = 0 := by
  pointwise

theorem blocks_at (G : FVec Ideal S1x4x64x64 .f32) (r c : Fin 256) :
    blocks G (ix2 r c) = if r.val / 64 = c.val / 64 then G (ix4 (0 : Fin 1) (⟨c.val / 64, by omega⟩ : Fin 4) (⟨r.val % 64, by omega⟩ : Fin 64) (⟨c.val % 64, by omega⟩ : Fin 64)) else 0 := by
  unfold blocks
  rw [scatter_block _ _ _ 3 (by rw [corner_at]; rfl) (by rw [corner_at]; rfl), scatter_block _ _ _ 2 (by rw [corner_at]; rfl) (by rw [corner_at]; rfl),
    scatter_block _ _ _ 1 (by rw [corner_at]; rfl) (by rw [corner_at]; rfl), scatter_block _ _ _ 0 (by rw [corner_at]; rfl) (by rw [corner_at]; rfl),
    group0_at, group1_at, group2_at, group3_at, zeros_at]
  have hg : ∀ (i : Fin 4), c.val / 64 = i.val → (⟨c.val / 64, by omega⟩ : Fin 4) = i := fun i h => Fin.ext h
  by_cases h : r.val / 64 = c.val / 64
  · rw [if_pos h, h]
    have hc : c.val / 64 = 0 ∨ c.val / 64 = 1 ∨ c.val / 64 = 2 ∨ c.val / 64 = 3 := by omega
    rcases hc with e | e | e | e
    · simp [e]
    · simp [e]
    · simp [e]
    · simp [e]
  · rw [if_neg h, if_neg (by omega), if_neg (by omega), if_neg (by omega), if_neg (by omega)]

/-- The table of ones on the diagonal, four by four. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_at (g h : Fin 4) : eye (ix2 g h) = if g = h then 1 else 0 := by
  unfold eye
  have h1 : ∀ b : BitVec 1, b = 1#1 → (FloatOps.uitofp FTy.f32 b : Ideal .f32) = 1 := fun b e => by
    rw [e]
    show (((1#1 : BitVec 1).toNat : ℝ) : EReal) = 1
    norm_num
  have h0 : ∀ b : BitVec 1, b = 0#1 → (FloatOps.uitofp FTy.f32 b : Ideal .f32) = 0 := fun b e => by
    rw [e]
    show (((0#1 : BitVec 1).toNat : ℝ) : EReal) = 0
    norm_num
  have hb : ∀ g h : Fin 4, IntOp.cmpi CmpIPredicate.eq (IntOp.addi (BitVec.ofNat 32 g.val) 0#32) (BitVec.ofNat 32 h.val) = if g = h then 1#1 else 0#1 := by decide
  have hv : (uitofp .f32 (cmpi .eq (addi (iotaInDim S4x4 32 0) (broadcastInDim S4x4 ![] bcast_S_S4x4 (constantI S_ 32 0#32))) (iotaInDim S4x4 32 1)) : FVec Ideal S4x4 .f32) (ix2 g h)
      = FloatOps.uitofp FTy.f32 (IntOp.cmpi CmpIPredicate.eq (IntOp.addi (BitVec.ofNat 32 g.val) 0#32) (BitVec.ofNat 32 h.val)) := by
    pointwise
  rw [hv]
  by_cases e : g = h
  · rw [if_pos e]
    exact h1 _ ((hb g h).trans (if_pos e))
  · rw [if_neg e]
    exact h0 _ ((hb g h).trans (if_neg e))

/-- A table of 64 by 64 on the diagonal of zeros, as a product of tables. -/
def kron (E : FVec Ideal S4x4 .f32) (C : FVec Ideal S64x64 .f32) : FVec Ideal S256x256 .f32 :=
  shapeCast S256x256 (mulf (broadcastInDim S4x64x4x64 ![0, 1, 2, 3] bcast_S4x1x4x1_S4x64x4x64_0_1_2_3 (broadcastInDim S4x1x4x1 ![0, 2] bcast_S4x4_S4x1x4x1_0_2 E))
    (broadcastInDim S4x64x4x64 ![0, 1, 2, 3] bcast_S1x64x1x64_S4x64x4x64_0_1_2_3 (broadcastInDim S1x64x1x64 ![1, 3] bcast_S64x64_S1x64x1x64_1_3 C))) shapeCasts_S4x64x4x64_S256x256

theorem kron_at (E : FVec Ideal S4x4 .f32) (C : FVec Ideal S64x64 .f32) (r c : Fin 256) :
    kron E C (ix2 r c) = E (ix2 (⟨r.val / 64, by omega⟩ : Fin 4) (⟨c.val / 64, by omega⟩ : Fin 4)) * C (ix2 (⟨r.val % 64, by omega⟩ : Fin 64) (⟨c.val % 64, by omega⟩ : Fin 64)) := by
  pointwise [kron]

theorem kron_eye_at (C : FVec Ideal S64x64 .f32) (r c : Fin 256) :
    kron eye C (ix2 r c) = if r.val / 64 = c.val / 64 then C (ix2 (⟨r.val % 64, by omega⟩ : Fin 64) (⟨c.val % 64, by omega⟩ : Fin 64)) else 0 := by
  rw [kron_at, eye_at]
  by_cases h : r.val / 64 = c.val / 64
  · rw [if_pos (Fin.ext h), if_pos h, one_mul]
  · rw [if_neg fun e => h (congrArg Fin.val e), if_neg h, zero_mul]

theorem pay2_at (v0 v2 v5 : Vec Ideal S1x256x768 .f32) (a : Fin 256) (k : Fin 768) :
    k0_pay2 v0 v2 v5 (ix2 a k) = (v0 (ix3 0 a k) + v2 (ix3 0 a k)) * gelu (v5 (ix3 0 a k)) := by
  rw [← gelu_eq]
  pointwise [k0_pay2]

theorem pay3_at (z : Vec Ideal S1x256x512 .f32) (C D : Vec Ideal S256x256 .f32) (a k : Fin 256) :
    k0_pay3 z C D (ix2 a k) = (∑ j : Fin 256, z (ix3 0 a ⟨j.val, by omega⟩) * C (ix2 j k)) - ∑ j : Fin 256, z (ix3 0 a ⟨256 + j.val, by omega⟩) * D (ix2 j k) := by
  pointwise [k0_pay3]

theorem pay4_at (v20 : FVec Ideal S256x768 .f32) (v31 : FVec Ideal S256x256 .f32) (q : BitVec 1) (s1 s2 : Ideal .f32) (v36 : Vec Ideal S256x256 .f32) (v39 : Vec Ideal S1x256 .f32) (v44 : Vec Ideal S768x1024 .bf16) (v48 : Vec Ideal S256x1024 .bf16) (v52 : Vec Ideal S1x256x1024 .f32) (v54 : Vec Ideal S1x1x1024 .f32) (a : Fin 256) (n : Fin 1024) :
    k0_pay4 v20 v31 q s1 s2 v36 v39 v44 v48 v52 v54 (ix2 a n) = v52 (ix3 0 a n) + v54 (ix3 0 0 n) * ((∑ k : Fin 768, v20 (ix2 a k) * v44 (ix2 k n))
      + ∑ k : Fin 256, ((∑ j : Fin 256, v31 (ix2 a j) * Scalar.select q s1 s2 * v36 (ix2 j k)) + v39 (ix2 0 k)) * v48 (ix2 k n)) := by
  pointwise [k0_pay4]

theorem pay5_at (v20 : FVec Ideal S256x768 .f32) (v31 : FVec Ideal S256x256 .f32) (q : BitVec 1) (s1 s2 : Ideal .f32) (v36 : Vec Ideal S256x256 .f32) (v39 : Vec Ideal S1x256 .f32) (v44 : Vec Ideal S768x1024 .bf16) (v48 : Vec Ideal S256x1024 .bf16) (v52 : Vec Ideal S1x256x1024 .f32) (v54 : Vec Ideal S1x1x1024 .f32) (a : Fin 256) (n : Fin 1024) :
    k0_pay5 v20 v31 q s1 s2 v36 v39 v44 v48 v52 v54 (ix3 0 a n) = k0_pay4 v20 v31 q s1 s2 v36 v39 v44 v48 v52 v54 (ix2 a n) := by
  pointwise [k0_pay5]

theorem pay1_at (v20 : FVec Ideal S256x768 .f32) (v31 : FVec Ideal S256x256 .f32) (q : BitVec 1) (s1 s2 : Ideal .f32) (v36 : Vec Ideal S256x256 .f32) (v39 : Vec Ideal S1x256 .f32) (v44 : Vec Ideal S768x1024 .bf16) (v48 : Vec Ideal S256x1024 .bf16) (v52 : Vec Ideal S1x256x1024 .f32) (v54 : Vec Ideal S1x1x1024 .f32) (g : Vec Ideal S1x1024 .f32) (sc sh : Vec Ideal S1x1x1024 .f32) (a : Fin 256) (n : Fin 1024) :
    k0_pay1 (k0_pay4 v20 v31 q s1 s2 v36 v39 v44 v48 v52 v54) (k0_pay6 g) (k0_pay7 v20 v31 q s1 s2 v36 v39 v44 v48 v52 v54) k0_pay8 sc sh (ix3 0 a n)
      = token (fun x => k0_pay4 v20 v31 q s1 s2 v36 v39 v44 v48 v52 v54 (ix2 a x)) (fun x => g (ix2 0 x)) (fun x => sc (ix3 0 0 x)) (fun x => sh (ix3 0 0 x)) n := by
  pointwise [k0_pay1, k0_pay6, k0_pay7, k0_pay8, token, rms]

/-- The transform of a block's row, by the tables' blocks. -/
theorem pay3_diag (z : Vec Ideal S1x256x512 .f32) (C D : Vec Ideal S256x256 .f32) (C' D' : Fin 64 → Fin 64 → EReal)
    (hC : ∀ r c : Fin 256, C (ix2 r c) = if r.val / 64 = c.val / 64 then C' ⟨r.val % 64, by omega⟩ ⟨c.val % 64, by omega⟩ else 0)
    (hD : ∀ r c : Fin 256, D (ix2 r c) = if r.val / 64 = c.val / 64 then D' ⟨r.val % 64, by omega⟩ ⟨c.val % 64, by omega⟩ else 0) (a k : Fin 256) :
    k0_pay3 z C D (ix2 a k) = (∑ e : Fin 64, z (ix3 0 a ⟨k.val / 64 * 64 + e.val, by omega⟩) * C' e ⟨k.val % 64, by omega⟩)
      - ∑ e : Fin 64, z (ix3 0 a ⟨256 + (k.val / 64 * 64 + e.val), by omega⟩) * D' e ⟨k.val % 64, by omega⟩ := by
  rw [pay3_at]
  exact congrArg₂ (HSub.hSub : EReal → EReal → EReal)
    (diagonal (fun j => z (ix3 0 a ⟨j.val, by omega⟩)) (fun j => C (ix2 j k)) k (fun e => C' e ⟨k.val % 64, by omega⟩) fun j => hC j k)
    (diagonal (fun j => z (ix3 0 a ⟨256 + j.val, by omega⟩)) (fun j => D (ix2 j k)) k (fun e => D' e ⟨k.val % 64, by omega⟩) fun j => hD j k)

/-- The stream's entry that a block's row leaves, of tables zero outside their diagonal blocks. -/
theorem stream_of (x0 x1 p : Vec Ideal S1x256x768 .f32) (z : Vec Ideal S1x256x512 .f32) (q : BitVec 1) (s1 s2 : Ideal .f32) (C D W : Vec Ideal S256x256 .f32) (v : Vec Ideal S1x256 .f32) (wa : Vec Ideal S768x1024 .bf16) (wb : Vec Ideal S256x1024 .bf16) (h : Vec Ideal S1x256x1024 .f32) (s : Vec Ideal S1x1x1024 .f32)
    (C' D' : Fin 64 → Fin 64 → EReal) (W' : Fin 4 → Fin 64 → Fin 64 → EReal) (w : Fin 1024 → EReal) (a : Fin 256) (n : Fin 1024)
    (hC : ∀ r c : Fin 256, C (ix2 r c) = if r.val / 64 = c.val / 64 then C' ⟨r.val % 64, by omega⟩ ⟨c.val % 64, by omega⟩ else 0)
    (hD : ∀ r c : Fin 256, D (ix2 r c) = if r.val / 64 = c.val / 64 then D' ⟨r.val % 64, by omega⟩ ⟨c.val % 64, by omega⟩ else 0)
    (hW : ∀ r c : Fin 256, W (ix2 r c) = if r.val / 64 = c.val / 64 then W' ⟨c.val / 64, by omega⟩ ⟨r.val % 64, by omega⟩ ⟨c.val % 64, by omega⟩ else 0)
    (ha : ∀ k : Fin 768, wa (ix2 k n) = w ⟨k.val, by omega⟩) (hb : ∀ k : Fin 256, wb (ix2 k n) = w ⟨768 + k.val, by omega⟩) :
    k0_pay4 (k0_pay2 x0 x1 p) (k0_pay3 z C D) q s1 s2 W v wa wb h s (ix2 a n)
      = h (ix3 0 a n) + s (ix3 0 0 n) * mix (fun k => x0 (ix3 0 a k) + x1 (ix3 0 a k)) (fun k => p (ix3 0 a k)) (fun k => z (ix3 0 a k)) C' D' (Scalar.select q s1 s2) W' (fun k => v (ix2 0 k)) w := by
  rw [pay4_at]
  unfold mix
  refine congrArg (fun t : EReal => h (ix3 0 a n) + s (ix3 0 0 n) * t) (congrArg₂ (HAdd.hAdd : EReal → EReal → EReal) (Finset.sum_congr rfl fun k _ => ?_) (Finset.sum_congr rfl fun k _ => ?_))
  · rw [pay2_at, ha]
  · rw [hb]
    refine congrArg (fun t : EReal => (t + v (ix2 0 k)) * w ⟨768 + k.val, by omega⟩) ?_
    rw [diagonal _ (fun j => W (ix2 j k)) k (fun d => W' ⟨k.val / 64, by omega⟩ d ⟨k.val % 64, by omega⟩) (fun j => hW j k)]
    refine Finset.sum_congr rfl fun d _ => congrArg (fun t : EReal => t * _) ?_
    unfold spec
    refine congrArg (fun t : EReal => t * _) ?_
    have e1 : (k.val / 64 * 64 + d.val) / 64 = k.val / 64 := by omega
    have e2 : (k.val / 64 * 64 + d.val) % 64 = d.val := by omega
    rw [pay3_diag z C D C' D' hC hD]
    simp only [e1, e2, ← Nat.add_assoc]

end Ker
end Cert.EvenOut

end
-- ==== Proof.EvenOut.lean ====
/-
  The even layer's out-projection: what the call computes in a block of 256 rows.
-/
module

public import proofs.«01_k».proof.Proof.Gen.EvenOutIdeal.Value
public import proofs.«01_k».proof.Proof.EvenOutPay
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.EvenOut
open Cert.Rows

namespace Ker
open Cert.EvenOutIdeal Cert.EvenOutIdeal.Gen

variable (m : (ℓ : Loc nD τ sig) → Buf (Elt Ideal) ℓ)

theorem ld_row (x5 : Vec Ideal S1x8x1024 .f32) (i : Fin 8) (hi : ∀ a, (![0, i.val, 0] : Fin 3 → ℕ) a + S1x1x1024.size a ≤ S1x8x1024.size a) (z : Fin 1024) :
    View.ld x5 (Rect.unit (s := S1x8x1024) ![0, i.val, 0] S1x1x1024.size hi) (ix3 0 0 z) = x5 (ix3 0 i z) :=
  View.ld_unit_apply_of _ _ _ _ _ _ fun b => by fin_cases b <;> simp_all

/-- The modulation rows as the call takes them: six rows for each of three, filled up to eight. -/
def table (M : FVec Ideal S2x8x6144 .f32) : FVec Ideal S2x3x8x1024 .f32 :=
  pad S2x3x8x1024 ![0, 0, 0, 0] ![0, 0, 2, 0] ![0, 0, 0, 0]
    (extractStridedSlice S2x3x6x1024 ![0, 0, 0, 0] (shapeCast S2x8x6x1024 M shapeCasts_S2x8x6144_S2x8x6x1024) slices_S2x8x6x1024_S2x3x6x1024_0_0_0_0)
    (sitofp .f32 (constantI S_ 32 0#32)) pads_S2x3x6x1024_S2x3x8x1024_000_000_020_000 h_S_

theorem table_at (M : FVec Ideal S2x8x6144 .f32) (l : Fin 2) (b : Fin 3) (k : Fin 8) (x : Fin 1024) (hk : k.val < 6) :
    table M (ix4 l b k x) = M (ix3 l ⟨b.val, by omega⟩ ⟨k.val * 1024 + x.val, by omega⟩) := by
  pointwise [table]
  exact dif_pos hk

theorem V_v5 (c : Dev nD) : V m c main_v5 = shapeCast S3x8x1024 (extractStridedSlice S1x3x8x1024 ![0, 0, 0, 0] (table (m ((c : Thread nD τ).loc main_arg6))) slices_S2x3x8x1024_S1x3x8x1024_0_0_0_0) shapeCasts_S1x3x8x1024_S3x8x1024 := by
  simp only [V, hostOps0, hostOps0_1, hostOps0_2, hostOps0_3, hostOps0_4, hostOps0_5, List.flatten_cons, List.flatten_nil, List.append_nil, List.cons_append, List.nil_append]
  entry_read
  rfl

theorem mods_at (c : Dev nD) (b : Fin 3) (k : Fin 8) (hk : k.val < 6) (x : Fin 1024) : (show FVec Ideal S3x8x1024 .f32 from V m c main_v5) (ix3 b k x)
    = (show FVec Ideal S2x8x6144 .f32 from m ((c : Thread nD τ).loc main_arg6)) (ix3 (0 : Fin 2) ⟨b.val, by omega⟩ ⟨k.val * 1024 + x.val, by omega⟩) := by
  rw [V_v5]
  have h := table_at (m ((c : Thread nD τ).loc main_arg6)) 0 b k x hk
  pointwise
  exact h

theorem V_v31 (c : Dev nD) : V m c main_v31 = blocks (m ((c : Thread nD τ).loc main_arg7)) := by
  simp only [V, hostOps0, hostOps0_1, hostOps0_2, hostOps0_3, hostOps0_4, hostOps0_5, List.flatten_cons, List.flatten_nil, List.append_nil, List.cons_append, List.nil_append]
  after_reads_simp
  rfl

theorem V_v42 (c : Dev nD) : V m c main_v42 = kron eye (m ((c : Thread nD τ).loc main_arg11)) := by
  simp only [V, hostOps0, hostOps0_1, hostOps0_2, hostOps0_3, hostOps0_4, hostOps0_5, List.flatten_cons, List.flatten_nil, List.append_nil, List.cons_append, List.nil_append]
  after_reads_simp
  rfl

theorem V_v43 (c : Dev nD) : V m c main_v43 = kron eye (m ((c : Thread nD τ).loc main_arg12)) := by
  simp only [V, hostOps0, hostOps0_1, hostOps0_2, hostOps0_3, hostOps0_4, hostOps0_5, List.flatten_cons, List.flatten_nil, List.append_nil, List.cons_append, List.nil_append]
  after_reads_simp
  rfl

theorem bias_at (c : Dev nD) (k : Fin 256) : (show FVec Ideal S1x256 .f32 from V m c main_v44) (ix2 0 k)
    = (show FVec Ideal S1x256 .f32 from m ((c : Thread nD τ).loc main_arg8)) (ix2 0 k) := by
  simp only [V, hostOps0, hostOps0_1, hostOps0_2, hostOps0_3, hostOps0_4, hostOps0_5, List.flatten_cons, List.flatten_nil, List.append_nil, List.cons_append, List.nil_append]
  entry_read
  pointwise

theorem weightA_at (c : Dev nD) (k : Fin 768) (n : Fin 1024) : (show FVec Ideal S768x1024 .bf16 from V m c main_v46) (ix2 k n)
    = (show FVec Ideal S1x1024x1024 .f32 from m ((c : Thread nD τ).loc main_arg9)) (ix3 0 ⟨k.val, by omega⟩ n) := by
  simp only [V, hostOps0, hostOps0_1, hostOps0_2, hostOps0_3, hostOps0_4, hostOps0_5, List.flatten_cons, List.flatten_nil, List.append_nil, List.cons_append, List.nil_append]
  entry_read
  pointwise

theorem weightB_at (c : Dev nD) (k : Fin 256) (n : Fin 1024) : (show FVec Ideal S256x1024 .bf16 from V m c main_v48) (ix2 k n)
    = (show FVec Ideal S1x1024x1024 .f32 from m ((c : Thread nD τ).loc main_arg9)) (ix3 0 ⟨768 + k.val, by omega⟩ n) := by
  simp only [V, hostOps0, hostOps0_1, hostOps0_2, hostOps0_3, hostOps0_4, hostOps0_5, List.flatten_cons, List.flatten_nil, List.append_nil, List.cons_append, List.nil_append]
  entry_read
  pointwise

theorem gain_at (c : Dev nD) (x : Fin 1024) : (show FVec Ideal S1x1024 .f32 from V m c main_v49) (ix2 0 x)
    = (show FVec Ideal S2x1024 .f32 from m ((c : Thread nD τ).loc main_arg10)) (ix2 0 x) := by
  simp only [V, hostOps0, hostOps0_1, hostOps0_2, hostOps0_3, hostOps0_4, hostOps0_5, List.flatten_cons, List.flatten_nil, List.append_nil, List.cons_append, List.nil_append]
  entry_read
  pointwise

theorem rows_at (c : Dev nD) (b : Fin 2) (r : Fin 8448) (n : Fin 1024) : (show FVec Ideal S2x8448x1024 .f32 from V m c main_v3) (ix3 b r n)
    = Ref.row (m ((c : Thread nD τ).loc main_arg4)) (m ((c : Thread nD τ).loc main_arg5)) b r n := by
  simp only [V, hostOps0, hostOps0_1, hostOps0_2, hostOps0_3, hostOps0_4, hostOps0_5, List.flatten_cons, List.flatten_nil, List.append_nil, List.cons_append, List.nil_append]
  entry_read
  pointwise [Ref.row]

theorem idx : ∀ t : Fin cfg0.N, win0_0.index t = ![t.val / 33, t.val % 33, 0] ∧ win0_1.index t = ![t.val / 33, t.val % 33, 0]
    ∧ win0_2.index t = ![t.val / 33, t.val % 33, 1] ∧ win0_3.index t = ![t.val / 33, t.val % 33, 0] ∧ win0_4.index t = ![t.val / 33, t.val % 33, 0]
    ∧ win0_5.index t = ![if t.val % 33 < 1 then 2 else t.val / 33, 0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val / 33, t.val % 33, 0] ∧ win0_14.index t = ![t.val / 33, t.val % 33, 0] ∧ t.val / 33 < 2 :=
  (by decide +kernel : ∀ t : Fin grid0.N, _)

/-- The body's choice of scale, by the point. -/
theorem choose : ∀ t : Fin cfg0.N, Scalar.cmpi .slt (BitVec.ofNat 32 ((grid0.coords t) 1).val) 1#32 = if t.val % 33 < 1 then 1#1 else 0#1 :=
  (by decide +kernel : ∀ t : Fin grid0.N, _)

theorem scale_at (t : Fin cfg0.N) (a : Fin 256) :
    Scalar.select (Scalar.cmpi .slt (BitVec.ofNat 32 ((grid0.coords t) 1).val) 1#32) (Scalar.ofBits (F := Ideal) .f32 0x3C000000#32) (Scalar.ofBits .f32 0x3AB504F3#32) = Ref.scale (t.val % 33 * 256 + a.val) := by
  rw [choose t]
  unfold Ref.scale
  by_cases h : t.val % 33 < 1
  · rw [if_pos h, if_pos (by omega)]
    rfl
  · rw [if_neg h, if_neg (by omega)]
    rfl

/-- The stream's entry that a block's row leaves. -/
def blockStream (x0 x1 x2 : Vec Ideal S1x256x768 .f32) (x3 : Vec Ideal S1x256x512 .f32) (x4 : Vec Ideal S1x256x1024 .f32) (x5 : Vec Ideal S1x8x1024 .f32) (x6 x7 x8 : Vec Ideal S256x256 .f32) (x9 : Vec Ideal S1x256 .f32) (x10 : Vec Ideal S768x1024 .bf16) (x11 : Vec Ideal S256x1024 .bf16)
    (q : BitVec 1) (i : ∀ a, (![0, 2, 0] : Fin 3 → ℕ) a + S1x1x1024.size a ≤ S1x8x1024.size a) (a : Fin 256) (n : Fin 1024) : EReal :=
  k0_pay4 (k0_pay2 x0 x1 x2) (k0_pay3 x3 x6 x7) q (Scalar.ofBits .f32 0x3C000000#32) (Scalar.ofBits .f32 0x3AB504F3#32) x8 x9 x10 x11 x4 (View.ld x5 (Rect.unit (s := S1x8x1024) ![0, 2, 0] S1x1x1024.size i)) (ix2 a n)

/-- A point's row of the stream. -/
def pointStream (c : Dev nD) (t : Fin cfg0.N) (a : Fin 256) (n : Fin 1024) : EReal :=
  blockStream (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t)
    (Scalar.cmpi .slt (BitVec.ofNat 32 ((grid0.coords t) 1).val) 1#32) inb_S1x8x1024_S1x1x1024_0_2_0 a n

theorem out_at (c : Dev nD) (t : Fin cfg0.N) (a : Fin 256) (n : Fin 1024) : (outsAt0 m c t).1 (ix3 0 a n) = pointStream m c t a n := by
  unfold outsAt0
  frame_out
  rw [pay5_at]
  rfl

theorem norm_at (c : Dev nD) (t : Fin cfg0.N) (a : Fin 256) (n : Fin 1024) : (outsAt0 m c t).2 (ix3 0 a n)
    = token (pointStream m c t a)
      (fun x => (show FVec Ideal S1x1024 .f32 from iblk m c 12 t) (ix2 0 x)) (fun x => (show FVec Ideal S1x8x1024 .f32 from iblk m c 5 t) (ix3 0 4 x)) (fun x => (show FVec Ideal S1x8x1024 .f32 from iblk m c 5 t) (ix3 0 3 x)) n := by
  unfold outsAt0
  frame_out
  rw [pay1_at]
  exact congr (congr (congr (congr (congrArg token rfl) rfl) (funext fun x => ld_row _ 4 _ x)) (funext fun x => ld_row _ 3 _ x)) rfl

/-- A clipped window's block, read. -/
theorem clip_at (c : Dev nD) (t : Fin cfg0.N) (ht : t.val / 33 < 2) (a : Fin 256) (k : Fin 768) :
    (show FVec Ideal S1x256x768 .f32 from X0_2 m c t) (ix3 0 a k) = (show FVec Ideal S2x8448x1792 .f32 from m ((c : Thread nD τ).loc main_arg2)) (ix3 (⟨t.val / 33, ht⟩ : Fin 2) (⟨t.val % 33 * 256 + a.val, by omega⟩ : Fin 8448) ⟨768 + k.val, by omega⟩) := by
  obtain ⟨-, -, e2, -⟩ := idx t
  show X0_2 m c t (ix3 0 a k) = _
  unfold X0_2 Pipeline.Window.fill
  rw [dif_pos (moved0_2 t _)]
  blk_ext [iblk, V, e2]

theorem read_0 (c : Dev nD) (t : Fin cfg0.N) (ht : t.val / 33 < 2) (a : Fin 256) (n : Fin 1024) :
    ∀ k : Fin 768, (show FVec Ideal S1x256x768 .f32 from iblk m c 0 t) (ix3 0 a k) = (show FVec Ideal S2x8448x768 .f32 from m ((c : Thread nD τ).loc main_arg0)) (ix3 (⟨t.val / 33, ht⟩ : Fin 2) (⟨t.val % 33 * 256 + a.val, by omega⟩ : Fin 8448) k) := by
  obtain ⟨e0, e1, e2, e3, e4, e5, e6, e7, e8, e9, e10, e11, e12, -⟩ := idx t
  intro k
  blk_ext [iblk, V, e0]

theorem read_1 (c : Dev nD) (t : Fin cfg0.N) (ht : t.val / 33 < 2) (a : Fin 256) (n : Fin 1024) :
    ∀ k : Fin 768, (show FVec Ideal S1x256x768 .f32 from iblk m c 1 t) (ix3 0 a k) = (show FVec Ideal S2x8448x768 .f32 from m ((c : Thread nD τ).loc main_arg1)) (ix3 (⟨t.val / 33, ht⟩ : Fin 2) (⟨t.val % 33 * 256 + a.val, by omega⟩ : Fin 8448) k) := by
  obtain ⟨e0, e1, e2, e3, e4, e5, e6, e7, e8, e9, e10, e11, e12, -⟩ := idx t
  intro k
  blk_ext [iblk, V, e1]

theorem read_3 (c : Dev nD) (t : Fin cfg0.N) (ht : t.val / 33 < 2) (a : Fin 256) (n : Fin 1024) :
    ∀ k : Fin 512, (show FVec Ideal S1x256x512 .f32 from iblk m c 3 t) (ix3 0 a k) = (show FVec Ideal S2x8448x512 .f32 from m ((c : Thread nD τ).loc main_arg3)) (ix3 (⟨t.val / 33, ht⟩ : Fin 2) (⟨t.val % 33 * 256 + a.val, by omega⟩ : Fin 8448) k) := by
  obtain ⟨e0, e1, e2, e3, e4, e5, e6, e7, e8, e9, e10, e11, e12, -⟩ := idx t
  intro k
  blk_ext [iblk, V, e3]

theorem read_4 (c : Dev nD) (t : Fin cfg0.N) (ht : t.val / 33 < 2) (a : Fin 256) (n : Fin 1024) :
    (show FVec Ideal S1x256x1024 .f32 from iblk m c 4 t) (ix3 0 a n) = (show FVec Ideal S2x8448x1024 .f32 from V m c main_v3) (ix3 (⟨t.val / 33, ht⟩ : Fin 2) (⟨t.val % 33 * 256 + a.val, by omega⟩ : Fin 8448) n) := by
  obtain ⟨e0, e1, e2, e3, e4, e5, e6, e7, e8, e9, e10, e11, e12, -⟩ := idx t
  blk_ext [iblk, e4]

theorem read_5 (c : Dev nD) (t : Fin cfg0.N) (ht : t.val / 33 < 2) (a : Fin 256) (n : Fin 1024) :
    ∀ (k : Fin 8) (x : Fin 1024), (show FVec Ideal S1x8x1024 .f32 from iblk m c 5 t) (ix3 0 k x) = (show FVec Ideal S3x8x1024 .f32 from V m c main_v5) (ix3 (⟨if t.val % 33 < 1 then 2 else t.val / 33, by split <;> omega⟩ : Fin 3) k x) := by
  obtain ⟨e0, e1, e2, e3, e4, e5, e6, e7, e8, e9, e10, e11, e12, -⟩ := idx t
  intro k x
  blk_ext [iblk, e5]

theorem read_6 (c : Dev nD) (t : Fin cfg0.N) (ht : t.val / 33 < 2) (a : Fin 256) (n : Fin 1024) :
    ∀ j k : Fin 256, (show FVec Ideal S256x256 .f32 from iblk m c 6 t) (ix2 j k) = (show FVec Ideal S256x256 .f32 from V m c main_v42) (ix2 j k) := by
  obtain ⟨e0, e1, e2, e3, e4, e5, e6, e7, e8, e9, e10, e11, e12, -⟩ := idx t
  intro j k
  blk_ext [iblk, e6]

theorem read_7 (c : Dev nD) (t : Fin cfg0.N) (ht : t.val / 33 < 2) (a : Fin 256) (n : Fin 1024) :
    ∀ j k : Fin 256, (show FVec Ideal S256x256 .f32 from iblk m c 7 t) (ix2 j k) = (show FVec Ideal S256x256 .f32 from V m c main_v43) (ix2 j k) := by
  obtain ⟨e0, e1, e2, e3, e4, e5, e6, e7, e8, e9, e10, e11, e12, -⟩ := idx t
  intro j k
  blk_ext [iblk, e7]

theorem read_8 (c : Dev nD) (t : Fin cfg0.N) (ht : t.val / 33 < 2) (a : Fin 256) (n : Fin 1024) :
    ∀ j k : Fin 256, (show FVec Ideal S256x256 .f32 from iblk m c 8 t) (ix2 j k) = (show FVec Ideal S256x256 .f32 from V m c main_v31) (ix2 j k) := by
  obtain ⟨e0, e1, e2, e3, e4, e5, e6, e7, e8, e9, e10, e11, e12, -⟩ := idx t
  intro j k
  blk_ext [iblk, e8]

theorem read_9 (c : Dev nD) (t : Fin cfg0.N) (ht : t.val / 33 < 2) (a : Fin 256) (n : Fin 1024) :
    ∀ k : Fin 256, (show FVec Ideal S1x256 .f32 from iblk m c 9 t) (ix2 0 k) = (show FVec Ideal S1x256 .f32 from V m c main_v44) (ix2 0 k) := by
  obtain ⟨e0, e1, e2, e3, e4, e5, e6, e7, e8, e9, e10, e11, e12, -⟩ := idx t
  intro k
  blk_ext [iblk, e9]

theorem read_10 (c : Dev nD) (t : Fin cfg0.N) (ht : t.val / 33 < 2) (a : Fin 256) (n : Fin 1024) :
    ∀ k : Fin 768, (show FVec Ideal S768x1024 .bf16 from iblk m c 10 t) (ix2 k n) = (show FVec Ideal S768x1024 .bf16 from V m c main_v46) (ix2 k n) := by
  obtain ⟨e0, e1, e2, e3, e4, e5, e6, e7, e8, e9, e10, e11, e12, -⟩ := idx t
  intro k
  blk_ext [iblk, e10]

theorem read_11 (c : Dev nD) (t : Fin cfg0.N) (ht : t.val / 33 < 2) (a : Fin 256) (n : Fin 1024) :
    ∀ k : Fin 256, (show FVec Ideal S256x1024 .bf16 from iblk m c 11 t) (ix2 k n) = (show FVec Ideal S256x1024 .bf16 from V m c main_v48) (ix2 k n) := by
  obtain ⟨e0, e1, e2, e3, e4, e5, e6, e7, e8, e9, e10, e11, e12, -⟩ := idx t
  intro k
  blk_ext [iblk, e11]

theorem read_12 (c : Dev nD) (t : Fin cfg0.N) (ht : t.val / 33 < 2) (a : Fin 256) (n : Fin 1024) :
    ∀ x : Fin 1024, (show FVec Ideal S1x1024 .f32 from iblk m c 12 t) (ix2 0 x) = (show FVec Ideal S1x1024 .f32 from V m c main_v49) (ix2 0 x) := by
  obtain ⟨e0, e1, e2, e3, e4, e5, e6, e7, e8, e9, e10, e11, e12, -⟩ := idx t
  intro x
  blk_ext [iblk, e12]

/-- The modulation row of a point's block. -/
theorem mod_row (t : Fin cfg0.N) (ht : t.val / 33 < 2) (a : Fin 256) : (if t.val % 33 < 1 then 2 else t.val / 33) = (modRow (⟨t.val / 33, ht⟩ : Fin 2) (t.val % 33 * 256 + a.val)).val := by
  by_cases h : t.val % 33 < 1
  · rw [if_pos h, modRow_ctx _ _ (by omega)]
    rfl
  · rw [if_neg h, modRow_lat _ _ (by omega)]

/-- A modulation row as a point's block reads it. -/
theorem mod_at (c : Dev nD) (t : Fin cfg0.N) (ht : t.val / 33 < 2) (a : Fin 256) (k : Fin 8) (hk : k.val < 6) (x : Fin 1024) :
    (show FVec Ideal S1x8x1024 .f32 from iblk m c 5 t) (ix3 0 k x) = (show FVec Ideal S2x8x6144 .f32 from m ((c : Thread nD τ).loc main_arg6)) (ix3 (0 : Fin 2) (modRow (⟨t.val / 33, ht⟩ : Fin 2) (t.val % 33 * 256 + a.val)) ⟨k.val * 1024 + x.val, by omega⟩) := by
  refine (read_5 m c t ht a x k x).trans ((mods_at m c _ k hk x).trans ?_)
  exact congrArg (fun z => (show FVec Ideal S2x8x6144 .f32 from m ((c : Thread nD τ).loc main_arg6)) (ix3 (0 : Fin 2) z _)) (Fin.ext (mod_row t ht a))

/-- A block's row of the stream, by the reference's arguments. -/
theorem row_stream (c : Dev nD) (t : Fin cfg0.N) (ht : t.val / 33 < 2) (a : Fin 256) (n : Fin 1024) :
    pointStream m c t a n = Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (ix3 (⟨t.val / 33, ht⟩ : Fin 2) (⟨t.val % 33 * 256 + a.val, by omega⟩ : Fin 8448) n) := by
  unfold pointStream blockStream
  rw [stream_of (C' := fun d e => (show FVec Ideal S64x64 .f32 from m ((c : Thread nD τ).loc main_arg11)) (ix2 d e)) (D' := fun d e => (show FVec Ideal S64x64 .f32 from m ((c : Thread nD τ).loc main_arg12)) (ix2 d e))
    (W' := fun g d e => (show FVec Ideal S1x4x64x64 .f32 from m ((c : Thread nD τ).loc main_arg7)) (ix4 (0 : Fin 1) g d e)) (w := fun k => (show FVec Ideal S1x1024x1024 .f32 from m ((c : Thread nD τ).loc main_arg9)) (ix3 (0 : Fin 1) k n))
    (hC := fun r s => (read_6 m c t ht a n r s).trans ((congrFun (V_v42 m c) _).trans (kron_eye_at _ r s))) (hD := fun r s => (read_7 m c t ht a n r s).trans ((congrFun (V_v43 m c) _).trans (kron_eye_at _ r s)))
    (hW := fun r s => (read_8 m c t ht a n r s).trans ((congrFun (V_v31 m c) _).trans (blocks_at _ r s)))
    (ha := fun k => (read_10 m c t ht a n k).trans (weightA_at m c k n)) (hb := fun k => (read_11 m c t ht a n k).trans (weightB_at m c k n)),
    scale_at t a, Ref.stream_at]
  refine congrArg₂ (HAdd.hAdd : EReal → EReal → EReal) ((read_4 m c t ht a n).trans (rows_at m c _ _ n)) (congrArg₂ (HMul.hMul : EReal → EReal → EReal) ((ld_row _ 2 _ n).trans (mod_at m c t ht a 2 (by decide) n)) ?_)
  have h0 : (fun k : Fin 768 => (show FVec Ideal S1x256x768 .f32 from iblk m c 0 t) (ix3 0 a k) + (show FVec Ideal S1x256x768 .f32 from iblk m c 1 t) (ix3 0 a k))
      = fun k => (show FVec Ideal S2x8448x768 .f32 from m ((c : Thread nD τ).loc main_arg0)) (ix3 (⟨t.val / 33, ht⟩ : Fin 2) (⟨t.val % 33 * 256 + a.val, by omega⟩ : Fin 8448) k) + (show FVec Ideal S2x8448x768 .f32 from m ((c : Thread nD τ).loc main_arg1)) (ix3 (⟨t.val / 33, ht⟩ : Fin 2) (⟨t.val % 33 * 256 + a.val, by omega⟩ : Fin 8448) k) :=
    funext fun k => congrArg₂ (HAdd.hAdd : EReal → EReal → EReal) (read_0 m c t ht a n k) (read_1 m c t ht a n k)
  have h2 : (fun k : Fin 768 => (show FVec Ideal S1x256x768 .f32 from X0_2 m c t) (ix3 0 a k)) = _ := funext fun k => clip_at m c t ht a k
  have h3 : (fun k : Fin 512 => (show FVec Ideal S1x256x512 .f32 from iblk m c 3 t) (ix3 0 a k)) = _ := funext fun k => read_3 m c t ht a n k
  have h9 : (fun k : Fin 256 => (show FVec Ideal S1x256 .f32 from iblk m c 9 t) (ix2 0 k)) = _ := funext fun k => (read_9 m c t ht a n k).trans (bias_at m c k)
  exact congrFun (congr (congrFun (congrFun (congrFun (congrFun (congr (congr (congrArg mix h0) h2) h3) _) _) _) _) h9) _

/-- A block's row of the normed stream, by the reference's arguments. -/
theorem row_norm (c : Dev nD) (t : Fin cfg0.N) (ht : t.val / 33 < 2) (a : Fin 256) (n : Fin 1024) : (outsAt0 m c t).2 (ix3 0 a n)
      = Ref.normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (⟨t.val / 33, ht⟩ : Fin 2) (⟨t.val % 33 * 256 + a.val, by omega⟩ : Fin 8448) n) := by
  rw [Ref.normed_at]
  exact (norm_at m c t a n).trans (congrFun (congr (congr (congrArg₂ token (funext fun x => row_stream m c t ht a x) (funext fun x => (read_12 m c t ht a n x).trans (gain_at m c x)))
    (funext fun x => mod_at m c t ht a 4 (by decide) x)) (funext fun x => mod_at m c t ht a 3 (by decide) x)) n)

/-- THE STREAM after the run is the reference's. -/
theorem final_stream (c : Dev nD) :
    (dats m 0 c).arrAt 13 (cfgs 0).N = Ref.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) := by
  refine (dats m 0 c).arrAt_eq_of_covers 13 _ (by decide +kernel) fun t _ y => ?_
  blk_simp
  rw [after0_13]
  have hy : y = ix3 0 (y 1) (y 2) := by blk_ext []
  rw [hy]
  obtain ⟨-, -, -, -, -, -, -, -, -, -, -, -, -, e13, e14, ht⟩ := idx t
  have b1 : (y 1 : ℕ) < 256 := (y 1).isLt
  have b2 : (y 2 : ℕ) < 1024 := (y 2).isLt
  have he : (win0_13.blk t).view.emb (ix3 0 (y 1) (y 2)) = ix3 (⟨t.val / 33, ht⟩ : Fin 2) (⟨t.val % 33 * 256 + (y 1 : ℕ), by omega⟩ : Fin 8448)
      (⟨(y 2 : ℕ), b2⟩ : Fin 1024) := by blk_ext [e13]
  exact ((out_at m c t (y 1) (y 2)).trans (row_stream m c t ht (y 1) (y 2))).trans (congrArg _ he).symm

/-- THE NORMED STREAM after the run is the reference's. -/
theorem final_norm (c : Dev nD) :
    (dats m 0 c).arrAt 14 (cfgs 0).N = Ref.normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t _ y => ?_
  blk_simp
  rw [after0_14]
  have hy : y = ix3 0 (y 1) (y 2) := by blk_ext []
  rw [hy]
  obtain ⟨-, -, -, -, -, -, -, -, -, -, -, -, -, e13, e14, ht⟩ := idx t
  have b1 : (y 1 : ℕ) < 256 := (y 1).isLt
  have b2 : (y 2 : ℕ) < 1024 := (y 2).isLt
  have he : (win0_14.blk t).view.emb (ix3 0 (y 1) (y 2)) = ix3 (⟨t.val / 33, ht⟩ : Fin 2) (⟨t.val % 33 * 256 + (y 1 : ℕ), by omega⟩ : Fin 8448)
      (⟨(y 2 : ℕ), b2⟩ : Fin 1024) := by blk_ext [e14]
  exact (row_norm m c t ht (y 1) (y 2)).trans (congrArg _ he).symm

end Ker
end Cert.EvenOut

end
-- ==== Proof.LastNorm.lean ====
/-
  The last norm: what the call stores in a block of 256 rows, and the whole result array after the run.
-/
module

public import proofs.«01_k».proof.Proof.Gen.LastIdeal.Value
public import proofs.«01_k».proof.Proof.Gen.LastRefIdeal
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.LastNorm

open Cert.Rows

namespace Ref
open Cert.LastRefIdeal Cert.LastRefIdeal.Gen

/-- The stream with the last addend in: row by row, the addend times the sixth modulation number. -/
def stream (H P : FVec Ideal S2x8192x1024 .f32) (M : FVec Ideal S2x8x6144 .f32) : FVec Ideal S2x8192x1024 .f32 :=
  addf H (mulf (broadcastInDim S2x8192x1024 ![0, 1, 2] bcast_S2x1x1024_S2x8192x1024_0_1_2 (broadcastInDim S2x1x1024 ![0, 2] bcast_S2x1024_S2x1x1024_0_2 (shapeCast _ (extractStridedSlice S1x2x1024 ![1, 0, 5120] M slices_S2x8x6144_S1x2x1024_1_0_5120) shapeCasts_S1x2x1024_S2x1024))) P)

/-- The reference's norm of a stream. -/
def norm (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))

theorem stream_at (H P : FVec Ideal S2x8192x1024 .f32) (M : FVec Ideal S2x8x6144 .f32) (b : Fin 2) (r : Fin 8192) (j : Fin 1024) :
    stream H P M (ix3 b r j) = H (ix3 b r j) + M (ix3 (1 : Fin 2) ⟨b.val, by omega⟩ ⟨5120 + j.val, by omega⟩) * P (ix3 b r j) := by
  pointwise [stream]

theorem norm_at (X : FVec Ideal S2x8192x1024 .f32) (G : FVec Ideal S1024 .f32) (b : Fin 2) (r : Fin 8192) (j : Fin 1024) :
    norm X G (ix3 b r j) = rms (fun x => X (ix3 b r x)) (fun x => G (ix1 x)) j := by
  pointwise [norm, rms]

end Ref

namespace Ker
open Cert.LastIdeal Cert.LastIdeal.Gen

variable (m : (ℓ : Loc nD τ sig) → Buf (Elt Ideal) ℓ)

theorem pay_at (h : Vec Ideal S1x256x1024 .f32) (s : Vec Ideal S1x1x1024 .f32) (p : Vec Ideal S1x256x1024 .f32) (g : Vec Ideal S1x1024 .f32) (a : Fin 256) (j : Fin 1024) :
    k0_pay1 h s p g (ix3 0 a j) = rms (fun x => h (ix3 0 a x) + s (ix3 0 0 x) * p (ix3 0 a x)) (fun x => g (ix2 0 x)) j := by
  pointwise [k0_pay1, rms]

theorem idx : ∀ t : Fin cfg0.N, win0_0.index t = ![t.val / 32, t.val % 32, 0]
    ∧ win0_1.index t = ![t.val / 32, t.val % 32, 0] ∧ win0_2.index t = ![t.val / 32, 0, 0]
    ∧ win0_3.index t = ![0, 0] ∧ win0_4.index t = ![t.val / 32, t.val % 32, 0] ∧ t.val / 32 < 2 :=
  (by decide +kernel : ∀ t : Fin grid0.N, _)

theorem out_at (x0 x1 : Vec Ideal S1x256x1024 .f32) (x2 : Vec Ideal S1x8x1024 .f32) (x3 : Vec Ideal S1x1024 .f32) (a : Fin 256) (j : Fin 1024) :
    out0_4 x0 x1 x2 x3 (ix3 0 a j) = rms (fun x => x0 (ix3 0 a x) + x2 (ix3 0 5 x) * x1 (ix3 0 a x)) (fun x => x3 (ix2 0 x)) j := by
  have hm : ∀ z : Fin 1024, View.ld x2 r0_1 (ix3 0 0 z) = x2 (ix3 0 5 z) :=
    fun z => View.ld_unit_apply_of _ _ _ _ _ _ fun b => by fin_cases b <;> simp_all
  frame_out
  rw [pay_at]
  simp only [hm]

/-- The gain as the call takes it. -/
theorem gain_at (c : Dev nD) (x : Fin 1024) : (show FVec Ideal S1x1024 .f32 from V m c main_v5) (ix2 0 x)
    = (show FVec Ideal S1024 .f32 from m ((c : Thread nD τ).loc main_arg3)) (ix1 x) := by
  simp only [V, hostOps0, hostOps0_1, hostOps0_2, List.flatten_cons, List.flatten_nil, List.append_nil, List.cons_append, List.nil_append]
  entry_read
  pointwise

/-- The modulation rows as the call takes them: six rows for each of three, filled up to eight. -/
def table (M : FVec Ideal S2x8x6144 .f32) : FVec Ideal S2x3x8x1024 .f32 :=
  pad S2x3x8x1024 ![0, 0, 0, 0] ![0, 0, 2, 0] ![0, 0, 0, 0]
    (extractStridedSlice S2x3x6x1024 ![0, 0, 0, 0] (shapeCast S2x8x6x1024 M shapeCasts_S2x8x6144_S2x8x6x1024) slices_S2x8x6x1024_S2x3x6x1024_0_0_0_0)
    (sitofp .f32 (constantI S_ 32 0#32)) pads_S2x3x6x1024_S2x3x8x1024_000_000_020_000 h_S_

theorem table_at (M : FVec Ideal S2x8x6144 .f32) (l : Fin 2) (b : Fin 3) (k : Fin 8) (x : Fin 1024) (hk : k.val < 6) :
    table M (ix4 l b k x) = M (ix3 l ⟨b.val, by omega⟩ ⟨k.val * 1024 + x.val, by omega⟩) := by
  pointwise [table]
  exact dif_pos hk

theorem V_v4 (c : Dev nD) : V m c main_v4 = shapeCast S2x8x1024 (extractStridedSlice S1x2x8x1024 ![1, 0, 0, 0] (table (m ((c : Thread nD τ).loc main_arg2))) slices_S2x3x8x1024_S1x2x8x1024_1_0_0_0) shapeCasts_S1x2x8x1024_S2x8x1024 := by
  simp only [V, hostOps0, hostOps0_1, hostOps0_2, List.flatten_cons, List.flatten_nil, List.append_nil, List.cons_append, List.nil_append]
  entry_read
  rfl

/-- The sixth modulation row as the call takes it. -/
theorem mods_at (c : Dev nD) (b : Fin 2) (x : Fin 1024) : (show FVec Ideal S2x8x1024 .f32 from V m c main_v4) (ix3 b 5 x)
    = (show FVec Ideal S2x8x6144 .f32 from m ((c : Thread nD τ).loc main_arg2)) (ix3 (1 : Fin 2) ⟨b.val, by omega⟩ ⟨5120 + x.val, by omega⟩) := by
  rw [V_v4]
  have h := table_at (m ((c : Thread nD τ).loc main_arg2)) 1 ⟨b.val, by omega⟩ 5 x (by decide)
  pointwise
  exact h

theorem block (c : Dev nD) (t : Fin cfg0.N) (ht : t.val / 32 < 2) (a : Fin 256) (j : Fin 1024) :
    out0_4 (iblk m c 0 t) (iblk m c 1 t) (iblk m c 2 t) (iblk m c 3 t) (ix3 0 a j)
      = Ref.norm (Ref.stream (m ((c : Thread nD τ).loc main_arg0)) (m ((c : Thread nD τ).loc main_arg1))
      (m ((c : Thread nD τ).loc main_arg2))) (m ((c : Thread nD τ).loc main_arg3)) (ix3 (⟨t.val / 32, ht⟩ : Fin 2) (⟨t.val % 32 * 256 + a.val, by omega⟩ : Fin 8192) j) := by
  obtain ⟨e0, e1, e2, e3, e4, e5⟩ := idx t
  rw [Ref.norm_at]
  simp only [Ref.stream_at]
  refine (out_at _ _ _ _ a j).trans ?_
  refine congrArg₂ (fun f g => rms f g j) (funext fun x => ?_) (funext fun x => ?_)
  · have h2 : (show FVec Ideal S1x8x1024 .f32 from iblk m c 2 t) (ix3 0 5 x)
        = (show FVec Ideal S2x8x1024 .f32 from V m c main_v4) (ix3 ⟨t.val / 32, ht⟩ 5 x) := by
      blk_ext [iblk, e2]
    have h2' := h2.trans (mods_at m c _ x)
    refine congrArg₂ (HAdd.hAdd : EReal → EReal → EReal) ?_ (congrArg₂ (HMul.hMul : EReal → EReal → EReal) h2' ?_)
    · blk_ext [iblk, V, e0]
    · blk_ext [iblk, V, e1]
  · have h3 : (show FVec Ideal S1x1024 .f32 from iblk m c 3 t) (ix2 0 x)
        = (show FVec Ideal S1x1024 .f32 from V m c main_v5) (ix2 0 x) := by
      blk_ext [iblk, e3]
    exact h3.trans (gain_at m c x)

theorem final (c : Dev nD) :
    (dats m 0 c).arrAt 4 (cfgs 0).N = Ref.norm (Ref.stream (m ((c : Thread nD τ).loc main_arg0)) (m ((c : Thread nD τ).loc main_arg1))
      (m ((c : Thread nD τ).loc main_arg2))) (m ((c : Thread nD τ).loc main_arg3)) := by
  refine (dats m 0 c).arrAt_eq_of_covers 4 _ (by decide +kernel) fun t _ y => ?_
  blk_simp
  rw [after0_4]
  have hy : y = ix3 0 (y 1) (y 2) := by blk_ext []
  rw [hy]
  obtain ⟨e0, e1, e2, e3, e4, e5⟩ := idx t
  have b1 : (y 1 : ℕ) < 256 := (y 1).isLt
  have b2 : (y 2 : ℕ) < 1024 := (y 2).isLt
  have he : (win0_4.blk t).view.emb (ix3 0 (y 1) (y 2)) = ix3 (⟨t.val / 32, e5⟩ : Fin 2) (⟨t.val % 32 * 256 + (y 1 : ℕ), by omega⟩ : Fin 8192)
      (⟨(y 2 : ℕ), b2⟩ : Fin 1024) := by blk_ext [e4]
  exact (block m c t e5 (y 1) (y 2)).trans (congrArg _ he).symm

end Ker
end Cert.LastNorm
-- ==== Proof.Modulation.lean ====
/-
  The modulation vectors: what the call stores in a block of 1536 columns, and the whole result array after the run.
-/
module

public import proofs.«01_k».proof.Proof.Gen.ModIdeal.Value
public import proofs.«01_k».proof.Proof.Gen.ModRefIdeal
public import Idealize.ShloMosaic.Lib.Pipeline.ValueKit
public import Idealize.ShloMosaic.Lib.StableHlo.RunRead
public import Idealize.ShloMosaic.Lib.Routing.OpsSet
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.Modulation

/-- An entry times its logistic function. -/
def silu (x : EReal) : EReal :=
  x * Ideal.div (Ideal.ofBits FTy.f32 0x3F800000#32) (Ideal.ofBits FTy.f32 0x3F800000#32 + Ideal.exp (-x))

theorem silu_zero : silu 0 = 0 := by
  unfold silu
  rw [zero_mul]

/-- A row of the eight: the batches' vectors, the context's, zero. -/
def vec (A : Fin 2 → Fin 1024 → EReal) (B : Fin 1024 → EReal) (r : Fin 8) (x : Fin 1024) : EReal :=
  if h : r.val < 2 then A ⟨r.val, h⟩ x else if r.val = 2 then B x else 0

/-- A vector's entries against a column of weights, and the bias. -/
def affine (v w : Fin 1024 → EReal) (b : EReal) : EReal := (∑ x, silu (v x) * w x) + b

theorem affine_zero (w : Fin 1024 → EReal) (b : EReal) : affine (fun _ => 0) w b = b := by
  unfold affine
  simp only [silu_zero, zero_mul, Finset.sum_const_zero, zero_add]

namespace Ref
open Cert.ModRefIdeal Cert.ModRefIdeal.Gen

/-- The first layer's eight rows. -/
def layer0 (A : FVec Ideal S2x1024 .f32) (B : FVec Ideal S1024 .f32) (C : FVec Ideal S2x1024x6144 .f32) (D : FVec Ideal S2x6144 .f32) : FVec Ideal S8x6144 .f32 :=
  (concatenate S8x6144 0 [⟨S2x6144, ((addf (Host.dotGeneral dot_S2x1024_S1024x6144_S2x6144_1_0_0_1_n_n none (mulf A (Host.divf (broadcastInDim S2x1024 ![] bcast_S_S2x1024 (constant S_ .f32 0x3F800000#32)) (addf (broadcastInDim S2x1024 ![] bcast_S_S2x1024 (constant S_ .f32 0x3F800000#32)) (Host.exp (Host.negf A))))) (shapeCast _ (extractStridedSlice S1x1024x6144 ![0, 0, 0] C slices_S2x1024x6144_S1x1024x6144_0_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![0, 0] D slices_S2x6144_S1x6144_0_0) shapeCasts_S1x6144_S6144)))) : FVec Ideal S2x6144 .f32)⟩, ⟨S1x6144, ((broadcastInDim S1x6144 ![1] bcast_S6144_S1x6144_1 (addf (Host.dotGeneral dot_S1024_S1024x6144_S6144_0_0_n_1_n_n none (mulf B (Host.divf (broadcastInDim S1024 ![] bcast_S_S1024 (constant S_ .f32 0x3F800000#32)) (addf (broadcastInDim S1024 ![] bcast_S_S1024 (constant S_ .f32 0x3F800000#32)) (Host.exp (Host.negf B))))) (shapeCast _ (extractStridedSlice S1x1024x6144 ![0, 0, 0] C slices_S2x1024x6144_S1x1024x6144_0_0_0) shapeCasts_S1x1024x6144_S1024x6144)) (shapeCast _ (extractStridedSlice S1x6144 ![0, 0] D slices_S2x6144_S1x6144_0_0) shapeCasts_S1x6144_S6144))) : FVec Ideal S1x6144 .f32)⟩, ⟨S5x6144, ((broadcastInDim S5x6144 ![1] bcast_S6144_S5x6144_1 (shapeCast _ (extractStridedSlice S1x6144 ![0, 0] D slices_S2x6144_S1x6144_0_0) shapeCasts_S1x6144_S6144)) : FVec Ideal S5x6144 .f32)⟩] concatenates_S2x6144_S1x6144_S5x6144_S8x6144_d0 : FVec Ideal S8x6144 .f32)

/-- The second layer's eight rows. -/
def layer1 (A : FVec Ideal S2x1024 .f32) (B : FVec Ideal S1024 .f32) (C : FVec Ideal S2x1024x6144 .f32) (D : FVec Ideal S2x6144 .f32) : FVec Ideal S8x6144 .f32 :=
  (concatenate S8x6144 0 [⟨S2x6144, ((addf (Host.dotGeneral dot_S2x1024_S1024x6144_S2x6144_1_0_0_1_n_n none (mulf A (Host.divf (broadcastInDim S2x1024 ![] bcast_S_S2x1024 (constant S_ .f32 0x3F800000#32)) (addf (broadcastInDim S2x1024 ![] bcast_S_S2x1024 (constant S_ .f32 0x3F800000#32)) (Host.exp (Host.negf A))))) (shapeCast _ (extractStridedSlice S1x1024x6144 ![1, 0, 0] C slices_S2x1024x6144_S1x1024x6144_1_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![1, 0] D slices_S2x6144_S1x6144_1_0) shapeCasts_S1x6144_S6144)))) : FVec Ideal S2x6144 .f32)⟩, ⟨S1x6144, ((broadcastInDim S1x6144 ![1] bcast_S6144_S1x6144_1 (addf (Host.dotGeneral dot_S1024_S1024x6144_S6144_0_0_n_1_n_n none (mulf B (Host.divf (broadcastInDim S1024 ![] bcast_S_S1024 (constant S_ .f32 0x3F800000#32)) (addf (broadcastInDim S1024 ![] bcast_S_S1024 (constant S_ .f32 0x3F800000#32)) (Host.exp (Host.negf B))))) (shapeCast _ (extractStridedSlice S1x1024x6144 ![1, 0, 0] C slices_S2x1024x6144_S1x1024x6144_1_0_0) shapeCasts_S1x1024x6144_S1024x6144)) (shapeCast _ (extractStridedSlice S1x6144 ![1, 0] D slices_S2x6144_S1x6144_1_0) shapeCasts_S1x6144_S6144))) : FVec Ideal S1x6144 .f32)⟩, ⟨S5x6144, ((broadcastInDim S5x6144 ![1] bcast_S6144_S5x6144_1 (shapeCast _ (extractStridedSlice S1x6144 ![1, 0] D slices_S2x6144_S1x6144_1_0) shapeCasts_S1x6144_S6144)) : FVec Ideal S5x6144 .f32)⟩] concatenates_S2x6144_S1x6144_S5x6144_S8x6144_d0 : FVec Ideal S8x6144 .f32)

/-- The reference's result. -/
def out (A : FVec Ideal S2x1024 .f32) (B : FVec Ideal S1024 .f32) (C : FVec Ideal S2x1024x6144 .f32) (D : FVec Ideal S2x6144 .f32) : FVec Ideal S2x8x6144 .f32 :=
  concatenate S2x8x6144 0 [⟨S1x8x6144, (broadcastInDim S1x8x6144 ![1, 2] bcast_S8x6144_S1x8x6144_1_2 (layer0 A B C D))⟩, ⟨S1x8x6144, (broadcastInDim S1x8x6144 ![1, 2] bcast_S8x6144_S1x8x6144_1_2 (layer1 A B C D))⟩] concatenates_S1x8x6144_S1x8x6144_S2x8x6144_d0

theorem rows_of (A : Fin 2 → Fin 1024 → EReal) (B w : Fin 1024 → EReal) (b : EReal) (r : Fin 8) :
    (if h : r.val < 2 then affine (A ⟨r.val, h⟩) w b else if h : r.val - 2 < 1 then affine B w b else b) = affine (vec A B r) w b := by
  unfold vec
  by_cases a : r.val < 2
  · simp only [dif_pos a]
  · by_cases a2 : r.val = 2
    · simp only [dif_neg a, if_pos a2, dif_pos (show r.val - 2 < 1 by omega)]
    · simp only [dif_neg a, if_neg a2, dif_neg (show ¬ r.val - 2 < 1 by omega), affine_zero]

theorem layer0_at (A : FVec Ideal S2x1024 .f32) (B : FVec Ideal S1024 .f32) (C : FVec Ideal S2x1024x6144 .f32) (D : FVec Ideal S2x6144 .f32) (r : Fin 8) (n : Fin 6144) :
    layer0 A B C D (ix2 r n) = affine (vec (fun b x => A (ix2 b x)) (fun x => B (ix1 x)) r) (fun x => C (ix3 (0 : Fin 2) x n)) (D (ix2 (0 : Fin 2) n)) := by
  rw [← rows_of]
  pointwise [layer0, affine, silu]

theorem layer1_at (A : FVec Ideal S2x1024 .f32) (B : FVec Ideal S1024 .f32) (C : FVec Ideal S2x1024x6144 .f32) (D : FVec Ideal S2x6144 .f32) (r : Fin 8) (n : Fin 6144) :
    layer1 A B C D (ix2 r n) = affine (vec (fun b x => A (ix2 b x)) (fun x => B (ix1 x)) r) (fun x => C (ix3 (1 : Fin 2) x n)) (D (ix2 (1 : Fin 2) n)) := by
  rw [← rows_of]
  pointwise [layer1, affine, silu]

theorem out_at (A : FVec Ideal S2x1024 .f32) (B : FVec Ideal S1024 .f32) (C : FVec Ideal S2x1024x6144 .f32) (D : FVec Ideal S2x6144 .f32) (l : Fin 2) (r : Fin 8) (n : Fin 6144) :
    out A B C D (ix3 l r n) = affine (vec (fun b x => A (ix2 b x)) (fun x => B (ix1 x)) r) (fun x => C (ix3 l x n)) (D (ix2 l n)) := by
  have h : out A B C D (ix3 l r n) = if h : l.val < 1 then layer0 A B C D (ix2 r n) else layer1 A B C D (ix2 r n) := by
    pointwise [out]
  rw [h, layer0_at, layer1_at]
  fin_cases l
  · rfl
  · rfl

end Ref

namespace Ker
open Cert.ModIdeal Cert.ModIdeal.Gen

variable (m : (ℓ : Loc nD τ sig) → Buf (Elt Ideal) ℓ)

/-- Where an update of two rows lands. -/
theorem lands_two (idx : IVec S1 32) (h0 : (idx (ix1 (0 : Fin 1))).toInt = 0) (p : Fin 2) (q : Fin 1024) (r : Fin 8) (x : Fin 1024) :
    scatter_S8x1024_S1_S2x1024_01_n_0_0.resultIdx? (ix2 p q) idx = some (ix2 r x) ↔ p.val = r.val ∧ q.val = x.val := by
  have hwin0 : scatter_S8x1024_S1_S2x1024_01_n_0_0.window (ix2 p q) 0 = p.val := rfl
  have hwin1 : scatter_S8x1024_S1_S2x1024_01_n_0_0.window (ix2 p q) 1 = q.val := rfl
  have hs1 : scatter_S8x1024_S1_S2x1024_01_n_0_0.start (ix2 p q) idx 1 = 0 := rfl
  have hs0 : scatter_S8x1024_S1_S2x1024_01_n_0_0.start (ix2 p q) idx 0 = (idx (ix1 (0 : Fin 1))).toInt := by
    refine congrArg (fun i => (idx i).toInt) (funext fun a => ?_)
    fin_cases a
    rfl
  have e : (ix2 r x : S8x1024.Idx) = ValueIdx.ix2 r x := (ValueIdx.eq_ix2 _).trans rfl
  rw [e]
  refine (Routing.resultIdx?_ix2 _ _ _ _ _).trans ?_
  rw [hwin0, hwin1, hs0, hs1, h0]
  omega

/-- Two rows set at the top, read at an index. -/
theorem scatter_two (x0 : FVec Ideal S8x1024 .f32) (idx : IVec S1 32) (h0 : (idx (ix1 (0 : Fin 1))).toInt = 0) (upd : FVec Ideal S2x1024 .f32) (r : Fin 8) (x : Fin 1024) :
    Host.scatter scatter_S8x1024_S1_S2x1024_01_n_0_0 (fun _ b => b) x0 idx upd (ix2 r x)
      = if h : r.val < 2 then upd (ix2 (⟨r.val, h⟩ : Fin 2) x) else x0 (ix2 r x) := by
  have lands : ∀ k : S2x1024.Idx, scatter_S8x1024_S1_S2x1024_01_n_0_0.resultIdx? k idx = some (ix2 r x) → (k 0).val = r.val ∧ (k 1).val = x.val := fun k hk =>
    (lands_two idx h0 (k 0) (k 1) r x).1 ((congrArg (fun t => scatter_S8x1024_S1_S2x1024_01_n_0_0.resultIdx? t idx) (eq_ix2 k).symm).trans hk)
  by_cases h : r.val < 2
  · rw [dif_pos h]
    refine Routing.scatter_set_hit _ x0 idx upd _ _ (fun k hk => ?_) (ix2 (⟨r.val, h⟩ : Fin 2) x) ((lands_two idx h0 _ _ r x).2 ⟨rfl, rfl⟩)
    obtain ⟨q0, q1⟩ := lands k hk
    rw [eq_ix2 k]
    exact congrArg₂ (fun s t => upd (ix2 s t)) (Fin.ext q0) (Fin.ext q1)
  · rw [dif_neg h]
    refine Routing.scatter_set_miss _ x0 idx upd _ fun k hk => h ?_
    have b0 : (k 0).val < 2 := (k 0).isLt
    rw [← (lands k hk).1]
    exact b0

/-- Where an update of one row lands. -/
theorem lands_row (idx : IVec S1 32) (h0 : (idx (ix1 (0 : Fin 1))).toInt = 2) (q : Fin 1024) (r : Fin 8) (x : Fin 1024) :
    scatter_S8x1024_S1_S1024_0_0_0_0.resultIdx? (ix1 q) idx = some (ix2 r x) ↔ r.val = 2 ∧ q.val = x.val := by
  have hwin0 : scatter_S8x1024_S1_S1024_0_0_0_0.window (ix1 q) 0 = 0 := rfl
  have hwin1 : scatter_S8x1024_S1_S1024_0_0_0_0.window (ix1 q) 1 = q.val := rfl
  have hs1 : scatter_S8x1024_S1_S1024_0_0_0_0.start (ix1 q) idx 1 = 0 := rfl
  have hs0 : scatter_S8x1024_S1_S1024_0_0_0_0.start (ix1 q) idx 0 = (idx (ix1 (0 : Fin 1))).toInt := by
    refine congrArg (fun i => (idx i).toInt) (funext fun a => ?_)
    fin_cases a
    rfl
  have e : (ix2 r x : S8x1024.Idx) = ValueIdx.ix2 r x := (ValueIdx.eq_ix2 _).trans rfl
  rw [e]
  refine (Routing.resultIdx?_ix2 _ _ _ _ _).trans ?_
  rw [hwin0, hwin1, hs0, hs1, h0]
  omega

/-- The third row set, read at an index. -/
theorem scatter_row (x0 : FVec Ideal S8x1024 .f32) (idx : IVec S1 32) (h0 : (idx (ix1 (0 : Fin 1))).toInt = 2) (upd : FVec Ideal S1024 .f32) (r : Fin 8) (x : Fin 1024) :
    Host.scatter scatter_S8x1024_S1_S1024_0_0_0_0 (fun _ b => b) x0 idx upd (ix2 r x)
      = if r.val = 2 then upd (ix1 x) else x0 (ix2 r x) := by
  have lands : ∀ k : S1024.Idx, scatter_S8x1024_S1_S1024_0_0_0_0.resultIdx? k idx = some (ix2 r x) → r.val = 2 ∧ (k 0).val = x.val := fun k hk =>
    (lands_row idx h0 (k 0) r x).1 ((congrArg (fun t => scatter_S8x1024_S1_S1024_0_0_0_0.resultIdx? t idx) (eq_ix1 k).symm).trans hk)
  by_cases h : r.val = 2
  · rw [if_pos h]
    refine Routing.scatter_set_hit _ x0 idx upd _ _ (fun k hk => ?_) (ix1 x) ((lands_row idx h0 _ r x).2 ⟨h, rfl⟩)
    rw [eq_ix1 k]
    exact congrArg (fun t => upd (ix1 t)) (Fin.ext (lands k hk).2)
  · rw [if_neg h]
    exact Routing.scatter_set_miss _ x0 idx upd _ fun k hk => h (lands k hk).1

/-- The eight rows as the call takes them. -/
def rows (A : FVec Ideal S2x1024 .f32) (B : FVec Ideal S1024 .f32) : FVec Ideal S8x1024 .f32 :=
  Host.scatter scatter_S8x1024_S1_S1024_0_0_0_0 (fun _ b => b)
    (Host.scatter scatter_S8x1024_S1_S2x1024_01_n_0_0 (fun _ b => b) (broadcastInDim S8x1024 ![] bcast_S_S8x1024 (constant S_ .f32 0x00000000#32))
      (broadcastInDim S1 ![] bcast_S_S1 (constantI S_ 32 0#32)) A)
    (broadcastInDim S1 ![] bcast_S_S1 (constantI S_ 32 2#32)) B

theorem rows_at (A : FVec Ideal S2x1024 .f32) (B : FVec Ideal S1024 .f32) (r : Fin 8) (x : Fin 1024) :
    rows A B (ix2 r x) = vec (fun b x => A (ix2 b x)) (fun x => B (ix1 x)) r x := by
  have hz : (broadcastInDim S8x1024 ![] bcast_S_S8x1024 (constant S_ .f32 0x00000000#32) : FVec Ideal S8x1024 .f32) (ix2 r x) = 0 := by
    pointwise
  unfold rows vec
  rw [scatter_row _ _ rfl, scatter_two _ _ rfl, hz]
  by_cases a : r.val < 2
  · rw [dif_pos a, dif_pos a, if_neg (by omega)]
  · rw [dif_neg a, dif_neg a]

theorem V_v4 (c : Dev nD) : V m c main_v4 = rows (m ((c : Thread nD τ).loc main_arg0)) (m ((c : Thread nD τ).loc main_arg1)) := by
  simp only [V, hostOps0, List.flatten_cons, List.flatten_nil, List.append_nil, List.cons_append, List.nil_append]
  after_reads_simp
  rfl

theorem bias_at (c : Dev nD) (l : Fin 2) (n : Fin 6144) : (show FVec Ideal S2x1x6144 .f32 from V m c main_v5) (ix3 l (0 : Fin 1) n)
    = (show FVec Ideal S2x6144 .f32 from m ((c : Thread nD τ).loc main_arg3)) (ix2 l n) := by
  simp only [V, hostOps0, List.flatten_cons, List.flatten_nil, List.append_nil, List.cons_append, List.nil_append]
  entry_read
  pointwise

theorem pay_at (v : Vec Ideal S8x1024 .f32) (w : Vec Ideal S1x1024x1536 .f32) (b : Vec Ideal S1x1x1536 .f32) (r : Fin 8) (n : Fin 1536) :
    k0_pay1 v w b (ix3 0 r n) = affine (fun x => v (ix2 r x)) (fun x => w (ix3 0 x n)) (b (ix3 0 0 n)) := by
  pointwise [k0_pay1, affine, silu]
  simp only [zero_sub]

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val / 4 < 2 :=
  (by decide +kernel : ∀ t : Fin grid0.N, _)

theorem out_at (x0 : Vec Ideal S8x1024 .f32) (x1 : Vec Ideal S1x1024x1536 .f32) (x2 : Vec Ideal S1x1x1536 .f32) (r : Fin 8) (n : Fin 1536) :
    out0_3 x0 x1 x2 (ix3 0 r n) = affine (fun x => x0 (ix2 r x)) (fun x => x1 (ix3 0 x n)) (x2 (ix3 0 0 n)) := by
  frame_out
  rw [pay_at]

theorem block (c : Dev nD) (t : Fin cfg0.N) (ht : t.val / 4 < 2) (r : Fin 8) (n : Fin 1536) :
    out0_3 (iblk m c 0 t) (iblk m c 1 t) (iblk m c 2 t) (ix3 0 r n)
      = Ref.out (m ((c : Thread nD τ).loc main_arg0)) (m ((c : Thread nD τ).loc main_arg1)) (m ((c : Thread nD τ).loc main_arg2)) (m ((c : Thread nD τ).loc main_arg3))
        (ix3 (⟨t.val / 4, ht⟩ : Fin 2) r (⟨t.val % 4 * 1536 + n.val, by omega⟩ : Fin 6144)) := by
  obtain ⟨e0, e1, e2, e3, e4⟩ := idx t
  have h0 : ∀ x : Fin 1024, (show FVec Ideal S8x1024 .f32 from iblk m c 0 t) (ix2 r x)
      = (show FVec Ideal S8x1024 .f32 from V m c main_v4) (ix2 r x) := fun x => by
    blk_ext [iblk, e0]
  have h1 : ∀ x : Fin 1024, (show FVec Ideal S1x1024x1536 .f32 from iblk m c 1 t) (ix3 0 x n)
      = (show FVec Ideal S2x1024x6144 .f32 from m ((c : Thread nD τ).loc main_arg2)) (ix3 (⟨t.val / 4, ht⟩ : Fin 2) x (⟨t.val % 4 * 1536 + n.val, by omega⟩ : Fin 6144)) := fun x => by
    blk_ext [iblk, V, e1]
  have h2 : (show FVec Ideal S1x1x1536 .f32 from iblk m c 2 t) (ix3 0 0 n)
      = (show FVec Ideal S2x1x6144 .f32 from V m c main_v5) (ix3 (⟨t.val / 4, ht⟩ : Fin 2) 0 (⟨t.val % 4 * 1536 + n.val, by omega⟩ : Fin 6144)) := by
    blk_ext [iblk, e2]
  rw [Ref.out_at]
  refine (out_at _ _ _ r n).trans ?_
  exact congr (congr (congrArg affine (funext fun x => (h0 x).trans ((congrFun (V_v4 m c) _).trans (rows_at _ _ r x)))) (funext h1)) (h2.trans (bias_at m c _ _))

/-- THE RESULT ARRAY after the run is the reference's. -/
theorem final (c : Dev nD) :
    (dats m 0 c).arrAt 3 (cfgs 0).N = Ref.out (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t _ y => ?_
  blk_simp
  rw [after0_3]
  have hy : y = ix3 0 (y 1) (y 2) := by blk_ext []
  rw [hy]
  obtain ⟨e0, e1, e2, e3, e4⟩ := idx t
  have b1 : (y 1 : ℕ) < 8 := (y 1).isLt
  have b2 : (y 2 : ℕ) < 1536 := (y 2).isLt
  have he : (win0_3.blk t).view.emb (ix3 0 (y 1) (y 2)) = ix3 (⟨t.val / 4, e4⟩ : Fin 2) (⟨(y 1 : ℕ), b1⟩ : Fin 8)
      (⟨t.val % 4 * 1536 + (y 2 : ℕ), by omega⟩ : Fin 6144) := by blk_ext [e3]
  exact (block m c t e4 (y 1) (y 2)).trans (congrArg _ he).symm

end Ker
end Cert.Modulation

end
-- ==== Proof.Taps.lean ====
/-
  A convolution over four rows of a sequence, the context's rows and the latents' rows each on their own.
-/
module

public import Idealize.ShloMosaic.Lib.Pipeline.ValueKit

@[expose] public section

noncomputable section

open Idealize.ShloMosaic

namespace Cert.Taps

/-- The entry `k - 2` rows after row `r`, zero where that row is not of the same sequence. -/
def tap (x : Fin 8448 → EReal) (r k : ℕ) : EReal :=
  if h : 2 ≤ r + k ∧ r + k - 2 < 8448 ∧ (r + k - 2 < 256 ↔ r < 256) then x ⟨r + k - 2, h.2.1⟩ else 0

theorem tap_of (x : Fin 8448 → EReal) (r k : ℕ) (s : Fin 8448) (hs : r + k = s.val + 2) (h : s.val < 256 ↔ r < 256) : tap x r k = x s := by
  have e : r + k - 2 = s.val := by omega
  unfold tap
  rw [dif_pos ⟨by omega, by have := s.isLt; omega, by rw [e]; exact h⟩]
  exact congrArg x (Fin.ext e)

theorem tap_out (x : Fin 8448 → EReal) (r k : ℕ) (h : ¬(2 ≤ r + k ∧ r + k - 2 < 8448 ∧ (r + k - 2 < 256 ↔ r < 256))) : tap x r k = 0 := dif_neg h

/-- Four rows against four weights, and the bias. -/
def conv (x : Fin 8448 → EReal) (w : Fin 4 → EReal) (b : EReal) (r : ℕ) : EReal :=
  tap x r 0 * w 0 + tap x r 1 * w 1 + tap x r 2 * w 2 + tap x r 3 * w 3 + b

/-- An entry times its logistic function. -/
def silu (x : EReal) : EReal :=
  x * Ideal.div (Ideal.ofBits FTy.f32 0x3F800000#32) (Ideal.ofBits FTy.f32 0x3F800000#32 + Ideal.exp (-x))

/-- The bias first, the weights before the rows. -/
theorem conv_eq (x : Fin 8448 → EReal) (w : Fin 4 → EReal) (b : EReal) (r : ℕ) :
    b + w 0 * tap x r 0 + w 1 * tap x r 1 + w 2 * tap x r 2 + w 3 * tap x r 3 = conv x w b r := by
  unfold conv
  rw [mul_comm (w 0), mul_comm (w 1), mul_comm (w 2), mul_comm (w 3), add_comm b, add_right_comm _ b, add_right_comm _ b, add_right_comm _ b]

end Cert.Taps

end
-- ==== Proof.EvenConv.lean ====
/-
  The even layer's convolution over four rows: what the call stores in a block of 256 rows, and the whole result array after the run.
-/
module

public import proofs.«01_k».proof.Proof.Gen.EvenConvIdeal.Value
public import proofs.«01_k».proof.Proof.Gen.EvenConvRefIdeal
public import proofs.«01_k».proof.Proof.Taps
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.EvenConv
open Cert.Taps

namespace Ref
open Cert.EvenConvRefIdeal Cert.EvenConvRefIdeal.Gen

/-- The context's rows. -/
def ctxRows (A : FVec Ideal S2x8448x1792 .f32) (B : FVec Ideal S1x4x768 .f32) (C : FVec Ideal S1x768 .f32) : FVec Ideal S2x256x768 .f32 :=
  (addf (addf (addf (addf (mulf (extractStridedSlice S2x256x768 ![0, 0, 0] (pad S2x259x768 ![0, 2, 0] ![0, 1, 0] ![0, 0, 0] (extractStridedSlice S2x256x768 ![0, 0, 0] A slices_S2x8448x1792_S2x256x768_0_0_0) (sitofp .f32 (constantI S_ 32 0#32)) pads_S2x256x768_S2x259x768_000_210_000 h_S_) slices_S2x259x768_S2x256x768_0_0_0) (broadcastInDim S2x256x768 ![0, 1, 2] bcast_S1x1x768_S2x256x768_0_1_2 (broadcastInDim S1x1x768 ![2] bcast_S768_S1x1x768_2 (shapeCast _ (extractStridedSlice S1x768 ![0, 0] (shapeCast _ B shapeCasts_S1x4x768_S4x768) slices_S4x768_S1x768_0_0) shapeCasts_S1x768_S768)))) (mulf (extractStridedSlice S2x256x768 ![0, 1, 0] (pad S2x259x768 ![0, 2, 0] ![0, 1, 0] ![0, 0, 0] (extractStridedSlice S2x256x768 ![0, 0, 0] A slices_S2x8448x1792_S2x256x768_0_0_0) (sitofp .f32 (constantI S_ 32 0#32)) pads_S2x256x768_S2x259x768_000_210_000 h_S_) slices_S2x259x768_S2x256x768_0_1_0) (broadcastInDim S2x256x768 ![0, 1, 2] bcast_S1x1x768_S2x256x768_0_1_2 (broadcastInDim S1x1x768 ![2] bcast_S768_S1x1x768_2 (shapeCast _ (extractStridedSlice S1x768 ![1, 0] (shapeCast _ B shapeCasts_S1x4x768_S4x768) slices_S4x768_S1x768_1_0) shapeCasts_S1x768_S768))))) (mulf (extractStridedSlice S2x256x768 ![0, 2, 0] (pad S2x259x768 ![0, 2, 0] ![0, 1, 0] ![0, 0, 0] (extractStridedSlice S2x256x768 ![0, 0, 0] A slices_S2x8448x1792_S2x256x768_0_0_0) (sitofp .f32 (constantI S_ 32 0#32)) pads_S2x256x768_S2x259x768_000_210_000 h_S_) slices_S2x259x768_S2x256x768_0_2_0) (broadcastInDim S2x256x768 ![0, 1, 2] bcast_S1x1x768_S2x256x768_0_1_2 (broadcastInDim S1x1x768 ![2] bcast_S768_S1x1x768_2 (shapeCast _ (extractStridedSlice S1x768 ![2, 0] (shapeCast _ B shapeCasts_S1x4x768_S4x768) slices_S4x768_S1x768_2_0) shapeCasts_S1x768_S768))))) (mulf (extractStridedSlice S2x256x768 ![0, 3, 0] (pad S2x259x768 ![0, 2, 0] ![0, 1, 0] ![0, 0, 0] (extractStridedSlice S2x256x768 ![0, 0, 0] A slices_S2x8448x1792_S2x256x768_0_0_0) (sitofp .f32 (constantI S_ 32 0#32)) pads_S2x256x768_S2x259x768_000_210_000 h_S_) slices_S2x259x768_S2x256x768_0_3_0) (broadcastInDim S2x256x768 ![0, 1, 2] bcast_S1x1x768_S2x256x768_0_1_2 (broadcastInDim S1x1x768 ![2] bcast_S768_S1x1x768_2 (shapeCast _ (extractStridedSlice S1x768 ![3, 0] (shapeCast _ B shapeCasts_S1x4x768_S4x768) slices_S4x768_S1x768_3_0) shapeCasts_S1x768_S768))))) (broadcastInDim S2x256x768 ![0, 1, 2] bcast_S1x1x768_S2x256x768_0_1_2 (broadcastInDim S1x1x768 ![2] bcast_S768_S1x1x768_2 (shapeCast _ C shapeCasts_S1x768_S768))))

/-- The latents' rows. -/
def latRows (A : FVec Ideal S2x8448x1792 .f32) (B : FVec Ideal S1x4x768 .f32) (C : FVec Ideal S1x768 .f32) : FVec Ideal S2x8192x768 .f32 :=
  (addf (addf (addf (addf (mulf (extractStridedSlice S2x8192x768 ![0, 0, 0] (pad S2x8195x768 ![0, 2, 0] ![0, 1, 0] ![0, 0, 0] (extractStridedSlice S2x8192x768 ![0, 256, 0] A slices_S2x8448x1792_S2x8192x768_0_256_0) (sitofp .f32 (constantI S_ 32 0#32)) pads_S2x8192x768_S2x8195x768_000_210_000 h_S_) slices_S2x8195x768_S2x8192x768_0_0_0) (broadcastInDim S2x8192x768 ![0, 1, 2] bcast_S1x1x768_S2x8192x768_0_1_2 (broadcastInDim S1x1x768 ![2] bcast_S768_S1x1x768_2 (shapeCast _ (extractStridedSlice S1x768 ![0, 0] (shapeCast _ B shapeCasts_S1x4x768_S4x768) slices_S4x768_S1x768_0_0) shapeCasts_S1x768_S768)))) (mulf (extractStridedSlice S2x8192x768 ![0, 1, 0] (pad S2x8195x768 ![0, 2, 0] ![0, 1, 0] ![0, 0, 0] (extractStridedSlice S2x8192x768 ![0, 256, 0] A slices_S2x8448x1792_S2x8192x768_0_256_0) (sitofp .f32 (constantI S_ 32 0#32)) pads_S2x8192x768_S2x8195x768_000_210_000 h_S_) slices_S2x8195x768_S2x8192x768_0_1_0) (broadcastInDim S2x8192x768 ![0, 1, 2] bcast_S1x1x768_S2x8192x768_0_1_2 (broadcastInDim S1x1x768 ![2] bcast_S768_S1x1x768_2 (shapeCast _ (extractStridedSlice S1x768 ![1, 0] (shapeCast _ B shapeCasts_S1x4x768_S4x768) slices_S4x768_S1x768_1_0) shapeCasts_S1x768_S768))))) (mulf (extractStridedSlice S2x8192x768 ![0, 2, 0] (pad S2x8195x768 ![0, 2, 0] ![0, 1, 0] ![0, 0, 0] (extractStridedSlice S2x8192x768 ![0, 256, 0] A slices_S2x8448x1792_S2x8192x768_0_256_0) (sitofp .f32 (constantI S_ 32 0#32)) pads_S2x8192x768_S2x8195x768_000_210_000 h_S_) slices_S2x8195x768_S2x8192x768_0_2_0) (broadcastInDim S2x8192x768 ![0, 1, 2] bcast_S1x1x768_S2x8192x768_0_1_2 (broadcastInDim S1x1x768 ![2] bcast_S768_S1x1x768_2 (shapeCast _ (extractStridedSlice S1x768 ![2, 0] (shapeCast _ B shapeCasts_S1x4x768_S4x768) slices_S4x768_S1x768_2_0) shapeCasts_S1x768_S768))))) (mulf (extractStridedSlice S2x8192x768 ![0, 3, 0] (pad S2x8195x768 ![0, 2, 0] ![0, 1, 0] ![0, 0, 0] (extractStridedSlice S2x8192x768 ![0, 256, 0] A slices_S2x8448x1792_S2x8192x768_0_256_0) (sitofp .f32 (constantI S_ 32 0#32)) pads_S2x8192x768_S2x8195x768_000_210_000 h_S_) slices_S2x8195x768_S2x8192x768_0_3_0) (broadcastInDim S2x8192x768 ![0, 1, 2] bcast_S1x1x768_S2x8192x768_0_1_2 (broadcastInDim S1x1x768 ![2] bcast_S768_S1x1x768_2 (shapeCast _ (extractStridedSlice S1x768 ![3, 0] (shapeCast _ B shapeCasts_S1x4x768_S4x768) slices_S4x768_S1x768_3_0) shapeCasts_S1x768_S768))))) (broadcastInDim S2x8192x768 ![0, 1, 2] bcast_S1x1x768_S2x8192x768_0_1_2 (broadcastInDim S1x1x768 ![2] bcast_S768_S1x1x768_2 (shapeCast _ C shapeCasts_S1x768_S768))))

/-- The reference's result. -/
def out (A : FVec Ideal S2x8448x1792 .f32) (B : FVec Ideal S1x4x768 .f32) (C : FVec Ideal S1x768 .f32) : FVec Ideal S2x8448x768 .f32 :=
  concatenate S2x8448x768 1 [⟨S2x256x768, ctxRows A B C⟩, ⟨S2x8192x768, latRows A B C⟩] concatenates_S2x256x768_S2x8192x768_S2x8448x768_d1

theorem zero_at : (FloatOps.sitofp FTy.f32 0#32 : Ideal .f32) = 0 := by
  show (((0#32 : BitVec 32).toInt : ℝ) : EReal) = 0
  simp

/-- The sequence's rows of one column. -/
def column (A : FVec Ideal S2x8448x1792 .f32) (b : Fin 2) (n : Fin 768) (s : Fin 8448) : EReal := A (ix3 b s (⟨n.val, by omega⟩ : Fin 1792))

theorem ctxRows_at (A : FVec Ideal S2x8448x1792 .f32) (B : FVec Ideal S1x4x768 .f32) (C : FVec Ideal S1x768 .f32) (b : Fin 2) (r : Fin 256) (n : Fin 768) :
    ctxRows A B C (ix3 b r n) = (conv (column A b n) (fun k => B (ix3 (0 : Fin 1) k n)) (C (ix2 (0 : Fin 1) n)) r.val) := by
  have h0 : tap (column A b n) r.val 0 = if h : 2 ≤ r.val ∧ r.val - 2 < 256 then A (ix3 b (⟨r.val - 2, by omega⟩ : Fin 8448) (⟨n.val, by omega⟩ : Fin 1792)) else FloatOps.sitofp FTy.f32 0#32 := by
    by_cases h : 2 ≤ r.val ∧ r.val - 2 < 256
    · rw [dif_pos h]
      exact tap_of _ _ _ _ (by show r.val + 0 = r.val - 2 + 2; omega) (by show r.val - 2 < 256 ↔ _; omega)
    · rw [dif_neg h, zero_at]
      exact tap_out _ _ _ (by omega)
  have h1 : tap (column A b n) r.val 1 = if h : 2 ≤ 1 + r.val ∧ 1 + r.val - 2 < 256 then A (ix3 b (⟨1 + r.val - 2, by omega⟩ : Fin 8448) (⟨n.val, by omega⟩ : Fin 1792)) else FloatOps.sitofp FTy.f32 0#32 := by
    by_cases h : 2 ≤ 1 + r.val ∧ 1 + r.val - 2 < 256
    · rw [dif_pos h]
      exact tap_of _ _ _ _ (by show r.val + 1 = 1 + r.val - 2 + 2; omega) (by show 1 + r.val - 2 < 256 ↔ _; omega)
    · rw [dif_neg h, zero_at]
      exact tap_out _ _ _ (by omega)
  have h2 : tap (column A b n) r.val 2 = A (ix3 b (⟨r.val, by omega⟩ : Fin 8448) (⟨n.val, by omega⟩ : Fin 1792)) :=
    tap_of _ _ _ _ rfl Iff.rfl
  have h3 : tap (column A b n) r.val 3 = if h : 2 ≤ 3 + r.val ∧ 3 + r.val - 2 < 256 then A (ix3 b (⟨3 + r.val - 2, by omega⟩ : Fin 8448) (⟨n.val, by omega⟩ : Fin 1792)) else FloatOps.sitofp FTy.f32 0#32 := by
    by_cases h : 2 ≤ 3 + r.val ∧ 3 + r.val - 2 < 256
    · rw [dif_pos h]
      exact tap_of _ _ _ _ (by show r.val + 3 = 3 + r.val - 2 + 2; omega) (by show 3 + r.val - 2 < 256 ↔ _; omega)
    · rw [dif_neg h, zero_at]
      exact tap_out _ _ _ (by omega)
  unfold conv
  rw [h0, h1, h2, h3]
  pointwise [ctxRows]

theorem latRows_at (A : FVec Ideal S2x8448x1792 .f32) (B : FVec Ideal S1x4x768 .f32) (C : FVec Ideal S1x768 .f32) (b : Fin 2) (r : Fin 8192) (n : Fin 768) :
    latRows A B C (ix3 b r n) = (conv (column A b n) (fun k => B (ix3 (0 : Fin 1) k n)) (C (ix2 (0 : Fin 1) n)) (256 + r.val)) := by
  have h0 : tap (column A b n) (256 + r.val) 0 = if h : 2 ≤ r.val ∧ r.val - 2 < 8192 then A (ix3 b (⟨256 + (r.val - 2), by omega⟩ : Fin 8448) (⟨n.val, by omega⟩ : Fin 1792)) else FloatOps.sitofp FTy.f32 0#32 := by
    by_cases h : 2 ≤ r.val ∧ r.val - 2 < 8192
    · rw [dif_pos h]
      exact tap_of _ _ _ _ (by show 256 + r.val + 0 = 256 + (r.val - 2) + 2; omega) (by show 256 + (r.val - 2) < 256 ↔ _; omega)
    · rw [dif_neg h, zero_at]
      exact tap_out _ _ _ (by omega)
  have h1 : tap (column A b n) (256 + r.val) 1 = if h : 2 ≤ 1 + r.val ∧ 1 + r.val - 2 < 8192 then A (ix3 b (⟨256 + (1 + r.val - 2), by omega⟩ : Fin 8448) (⟨n.val, by omega⟩ : Fin 1792)) else FloatOps.sitofp FTy.f32 0#32 := by
    by_cases h : 2 ≤ 1 + r.val ∧ 1 + r.val - 2 < 8192
    · rw [dif_pos h]
      exact tap_of _ _ _ _ (by show 256 + r.val + 1 = 256 + (1 + r.val - 2) + 2; omega) (by show 256 + (1 + r.val - 2) < 256 ↔ _; omega)
    · rw [dif_neg h, zero_at]
      exact tap_out _ _ _ (by omega)
  have h2 : tap (column A b n) (256 + r.val) 2 = A (ix3 b (⟨256 + r.val, by omega⟩ : Fin 8448) (⟨n.val, by omega⟩ : Fin 1792)) :=
    tap_of _ _ _ _ rfl Iff.rfl
  have h3 : tap (column A b n) (256 + r.val) 3 = if h : 2 ≤ 3 + r.val ∧ 3 + r.val - 2 < 8192 then A (ix3 b (⟨256 + (3 + r.val - 2), by omega⟩ : Fin 8448) (⟨n.val, by omega⟩ : Fin 1792)) else FloatOps.sitofp FTy.f32 0#32 := by
    by_cases h : 2 ≤ 3 + r.val ∧ 3 + r.val - 2 < 8192
    · rw [dif_pos h]
      exact tap_of _ _ _ _ (by show 256 + r.val + 3 = 256 + (3 + r.val - 2) + 2; omega) (by show 256 + (3 + r.val - 2) < 256 ↔ _; omega)
    · rw [dif_neg h, zero_at]
      exact tap_out _ _ _ (by omega)
  unfold conv
  rw [h0, h1, h2, h3]
  pointwise [latRows]

theorem out_at (A : FVec Ideal S2x8448x1792 .f32) (B : FVec Ideal S1x4x768 .f32) (C : FVec Ideal S1x768 .f32) (b : Fin 2) (r : Fin 8448) (n : Fin 768) :
    out A B C (ix3 b r n) = (conv (column A b n) (fun k => B (ix3 (0 : Fin 1) k n)) (C (ix2 (0 : Fin 1) n)) r.val) := by
  have h : out A B C (ix3 b r n) = if h : r.val < 256 then ctxRows A B C (ix3 b ⟨r.val, h⟩ n) else latRows A B C (ix3 b ⟨r.val - 256, by omega⟩ n) := by
    pointwise [out]
  rw [h]
  by_cases hr : r.val < 256
  · rw [dif_pos hr, ctxRows_at]
  · rw [dif_neg hr, latRows_at]
    exact congrArg (fun s => (conv _ _ _ s)) (show 256 + (r.val - 256) = r.val by omega)

end Ref

namespace Ker
open Cert.EvenConvIdeal Cert.EvenConvIdeal.Gen

variable (m : (ℓ : Loc nD τ sig) → Buf (Elt Ideal) ℓ)

theorem pay1_at (v26 v28 : Vec Ideal S1x768 .f32) (v29 : Vec Ideal S256x768 .f32) (v34 : Vec Ideal S1x768 .f32) (v36 : Vec Ideal S256x768 .f32) (v40 : Vec Ideal S1x768 .f32)
    (v42 : Vec Ideal S256x768 .f32) (v46 : Vec Ideal S1x768 .f32) (v48 : Vec Ideal S256x768 .f32) (a : Fin 256) (n : Fin 768) :
    k0_pay1 v26 v28 v29 v34 v36 v40 v42 v46 v48 (ix3 0 a n)
      = (v26 (ix2 0 n) + v28 (ix2 0 n) * v29 (ix2 a n) + v34 (ix2 0 n) * v36 (ix2 a n) + v40 (ix2 0 n) * v42 (ix2 a n) + v46 (ix2 0 n) * v48 (ix2 a n)) := by
  pointwise [k0_pay1]

theorem first_row : ∀ i : Fin 33, Scalar.andi (Scalar.cmpi .ne (BitVec.ofNat 32 i.val) 0#32) (Scalar.cmpi .ne (BitVec.ofNat 32 i.val) 1#32) = if i.val ≠ 0 ∧ i.val ≠ 1 then 1#1 else 0#1 := by
  decide

theorem last_row : ∀ i : Fin 33, Scalar.andi (Scalar.cmpi .ne (BitVec.ofNat 32 i.val) 0#32) (Scalar.cmpi .ne (BitVec.ofNat 32 i.val) 32#32) = if i.val ≠ 0 ∧ i.val ≠ 32 then 1#1 else 0#1 := by
  decide

theorem pick_of (p : Prop) [Decidable p] (x y : EReal) : Scalar.select (if p then 1#1 else 0#1) x y = if p then x else y := by
  unfold Scalar.select
  by_cases h : p
  · rw [if_pos h, if_pos h]; exact if_pos rfl
  · rw [if_neg h, if_neg h]; exact if_neg (by decide)

theorem pay2_at (i : grid0.Coords) (v : Vec Ideal S1x8x768 .f32) (a : Fin 8) (n : Fin 768) :
    k0_pay2 i v (ix2 a n) = if (i 1).val ≠ 0 ∧ (i 1).val ≠ 1 then v (ix3 0 a n) else 0 := by
  have h : k0_pay2 i v (ix2 a n) = Scalar.select (Scalar.andi (Scalar.cmpi .ne (BitVec.ofNat 32 (i 1).val) 0#32) (Scalar.cmpi .ne (BitVec.ofNat 32 (i 1).val) 1#32)) (v (ix3 0 a n)) 0 := by
    pointwise [k0_pay2]
  rw [h, first_row ⟨(i 1).val, (i 1).isLt⟩]
  exact pick_of _ _ _

theorem pay3_at (v : Vec Ideal S1x256x768 .f32) (a : Fin 256) (n : Fin 768) : k0_pay3 v (ix2 a n) = v (ix3 0 a n) := by
  pointwise [k0_pay3]

theorem pay4_at (i : grid0.Coords) (v : Vec Ideal S1x8x768 .f32) (a : Fin 8) (n : Fin 768) :
    k0_pay4 i v (ix2 a n) = if (i 1).val ≠ 0 ∧ (i 1).val ≠ 32 then v (ix3 0 a n) else 0 := by
  have h : k0_pay4 i v (ix2 a n) = Scalar.select (Scalar.andi (Scalar.cmpi .ne (BitVec.ofNat 32 (i 1).val) 0#32) (Scalar.cmpi .ne (BitVec.ofNat 32 (i 1).val) 32#32)) (v (ix3 0 a n)) 0 := by
    pointwise [k0_pay4]
  rw [h, last_row ⟨(i 1).val, (i 1).isLt⟩]
  exact pick_of _ _ _

/-- Rows read out of the three stored pieces: eight rows before, the block, eight rows after. -/
theorem pieces_at {κ : Kind} {sp : Space} (v : View sig κ sp S272x768 .f32) (i4 i3 i2) (P4 P2 : FVec Ideal S8x768 .f32) (P3 : FVec Ideal S256x768 .f32) (o : ℕ) (i1) (a : Fin 256) (n : Fin 768) (ho : o + 256 ≤ 272) :
    v.readCov [(⟨Rect.unit (s := S272x768) ![264, 0] ![8, 768] i4, P4⟩ : View.Piece (Elt Ideal) S272x768 .f32), ⟨Rect.unit (s := S272x768) ![8, 0] ![256, 768] i3, P3⟩, ⟨Rect.unit (s := S272x768) ![0, 0] ![8, 768] i2, P2⟩]
        (Rect.unit (s := S272x768) ![o, 0] ![256, 768] i1).toLoadRect (ix2 a n)
      = if h : o + a.val < 8 then P2 (ix2 (⟨o + a.val, h⟩ : Fin 8) n) else if h : o + a.val < 264 then P3 (ix2 (⟨o + a.val - 8, by omega⟩ : Fin 256) n)
        else P4 (ix2 (⟨o + a.val - 264, by omega⟩ : Fin 8) n) := by
  have hi : (Rect.unit (s := S272x768) ![o, 0] ![256, 768] i1).toLoadRect.idx (ix2 a n) = ix2 (⟨o + a.val, by omega⟩ : Fin 272) n := by
    funext b
    fin_cases b
    · exact Fin.ext (by show o + 1 * a.val = o + a.val; omega)
    · exact Fin.ext (by show 0 + 1 * n.val = n.val; omega)
  rw [View.readCov_eq_canon']
  show View.canon _ ((Rect.unit (s := S272x768) ![o, 0] ![256, 768] i1).toLoadRect.idx (ix2 a n)) = _
  rw [hi]
  have hn := n.isLt
  refine View.canon_eq_of_allAt _ _ _ ?_ ?_
  · by_cases h8 : o + a.val < 8
    · refine ⟨_, List.mem_cons_of_mem _ (List.mem_cons_of_mem _ List.mem_cons_self), (Rect.mem_set_unit (inb := i2)).2 fun b => ?_⟩
      fin_cases b
      · exact ⟨Nat.zero_le _, by show o + a.val < 0 + 8; omega⟩
      · exact ⟨Nat.zero_le _, by show n.val < 0 + 768; omega⟩
    · by_cases h264 : o + a.val < 264
      · refine ⟨_, List.mem_cons_of_mem _ List.mem_cons_self, (Rect.mem_set_unit (inb := i3)).2 fun b => ?_⟩
        fin_cases b
        · exact ⟨by show 8 ≤ o + a.val; omega, by show o + a.val < 8 + 256; omega⟩
        · exact ⟨Nat.zero_le _, by show n.val < 0 + 768; omega⟩
      · refine ⟨_, List.mem_cons_self, (Rect.mem_set_unit (inb := i4)).2 fun b => ?_⟩
        fin_cases b
        · exact ⟨by show 264 ≤ o + a.val; omega, by show o + a.val < 264 + 8; omega⟩
        · exact ⟨Nat.zero_le _, by show n.val < 0 + 768; omega⟩
  · refine View.allAt_cons_unit _ _ _ _ _ (fun x hx => ?_) (View.allAt_cons_unit _ _ _ _ _ (fun x hx => ?_) (View.allAt_cons_unit _ _ _ _ _ (fun x hx => ?_) (View.allAt_nil _ _)))
    · have q0 : o + a.val = 264 + (x 0).val := hx 0
      have q1 : n.val = 0 + (x 1).val := hx 1
      rw [dif_neg (by omega), dif_neg (by omega)]
      refine (congrArg P4 (eq_ix2 x)).trans ?_
      exact congrArg₂ (fun s t => P4 (ix2 s t)) (Fin.ext (by show (x 0).val = o + a.val - 264; omega)) (Fin.ext (by show (x 1).val = n.val; omega))
    · have q0 : o + a.val = 8 + (x 0).val := hx 0
      have q1 : n.val = 0 + (x 1).val := hx 1
      have b0 : (x 0).val < 256 := (x 0).isLt
      rw [dif_neg (by omega), dif_pos (by omega)]
      refine (congrArg P3 (eq_ix2 x)).trans ?_
      exact congrArg₂ (fun s t => P3 (ix2 s t)) (Fin.ext (by show (x 0).val = o + a.val - 8; omega)) (Fin.ext (by show (x 1).val = n.val; omega))
    · have q0 : o + a.val = 0 + (x 0).val := hx 0
      have q1 : n.val = 0 + (x 1).val := hx 1
      have b0 : (x 0).val < 8 := (x 0).isLt
      rw [dif_pos (by omega)]
      refine (congrArg P2 (eq_ix2 x)).trans ?_
      exact congrArg₂ (fun s t => P2 (ix2 s t)) (Fin.ext (by show (x 0).val = o + a.val; omega)) (Fin.ext (by show (x 1).val = n.val; omega))

theorem idx : ∀ t : Fin cfg0.N, win0_0.index t = ![t.val / 33, t.val % 33 * 32 - 1, 0] ∧ win0_1.index t = ![t.val / 33, t.val % 33, 0]
    ∧ win0_2.index t = ![t.val / 33, min ((t.val % 33 + 1) * 32) 1055, 0] ∧ win0_3.index t = ![0, 0] ∧ win0_4.index t = ![0, 0]
    ∧ win0_5.index t = ![t.val / 33, t.val % 33, 0] ∧ (grid0.coords t 1).val = t.val % 33 ∧ t.val / 33 < 2 :=
  (by decide +kernel : ∀ t : Fin grid0.N, _)

theorem prev_at (c : Dev nD) (t : Fin cfg0.N) (ht : t.val / 33 < 2) (p : Fin 8) (n : Fin 768) : X0_0 m c t (ix3 0 p n)
    = Ref.column (m ((c : Thread nD τ).loc main_arg0)) ⟨t.val / 33, ht⟩ n (⟨(t.val % 33 * 32 - 1) * 8 + p.val, by omega⟩ : Fin 8448) := by
  obtain ⟨e0, e1, e2, e3, e4, e5, e6, e7⟩ := idx t
  unfold X0_0 Pipeline.Window.fill Ref.column
  rw [dif_pos (moved0_0 t _)]
  blk_ext [iblk, V, e0]

theorem cur_at (c : Dev nD) (t : Fin cfg0.N) (ht : t.val / 33 < 2) (p : Fin 256) (n : Fin 768) : X0_1 m c t (ix3 0 p n)
    = Ref.column (m ((c : Thread nD τ).loc main_arg0)) ⟨t.val / 33, ht⟩ n (⟨t.val % 33 * 256 + p.val, by omega⟩ : Fin 8448) := by
  obtain ⟨e0, e1, e2, e3, e4, e5, e6, e7⟩ := idx t
  unfold X0_1 Pipeline.Window.fill Ref.column
  rw [dif_pos (moved0_1 t _)]
  blk_ext [iblk, V, e1]

theorem next_at (c : Dev nD) (t : Fin cfg0.N) (ht : t.val / 33 < 2) (p : Fin 8) (n : Fin 768) : X0_2 m c t (ix3 0 p n)
    = Ref.column (m ((c : Thread nD τ).loc main_arg0)) ⟨t.val / 33, ht⟩ n (⟨min ((t.val % 33 + 1) * 32) 1055 * 8 + p.val, by omega⟩ : Fin 8448) := by
  obtain ⟨e0, e1, e2, e3, e4, e5, e6, e7⟩ := idx t
  unfold X0_2 Pipeline.Window.fill Ref.column
  rw [dif_pos (moved0_2 t _)]
  blk_ext [iblk, V, e2]

/-- A row as the call reads it out of the three pieces. -/
theorem tap_at (c : Dev nD) (t : Fin cfg0.N) (ht : t.val / 33 < 2) {κ : Kind} {sp : Space} (v : View sig κ sp S272x768 .f32) (i4 i3 i2) (k : ℕ) (i1) (a : Fin 256) (n : Fin 768) (hk : k < 4) :
    v.readCov [(⟨Rect.unit (s := S272x768) ![264, 0] ![8, 768] i4, k0_pay4 (grid0.coords t) (X0_2 m c t)⟩ : View.Piece (Elt Ideal) S272x768 .f32), ⟨Rect.unit (s := S272x768) ![8, 0] ![256, 768] i3, k0_pay3 (X0_1 m c t)⟩, ⟨Rect.unit (s := S272x768) ![0, 0] ![8, 768] i2, k0_pay2 (grid0.coords t) (X0_0 m c t)⟩]
        (Rect.unit (s := S272x768) ![6 + k, 0] ![256, 768] i1).toLoadRect (ix2 a n)
      = tap (Ref.column (m ((c : Thread nD τ).loc main_arg0)) ⟨t.val / 33, ht⟩ n) (t.val % 33 * 256 + a.val) k := by
  obtain ⟨e0, e1, e2, e3, e4, e5, e6, e7⟩ := idx t
  have ha := a.isLt
  have hm : t.val % 33 < 33 := Nat.mod_lt _ (by decide)
  rw [pieces_at v i4 i3 i2 _ _ _ (6 + k) i1 a n (by omega)]
  by_cases h8 : 6 + k + a.val < 8
  · rw [dif_pos h8, pay2_at, e6, prev_at m c t ht]
    by_cases hi : t.val % 33 ≠ 0 ∧ t.val % 33 ≠ 1
    · rw [if_pos hi]
      exact (tap_of _ _ _ _ (by show t.val % 33 * 256 + a.val + k = (t.val % 33 * 32 - 1) * 8 + (6 + k + a.val) + 2; omega) (by show (t.val % 33 * 32 - 1) * 8 + (6 + k + a.val) < 256 ↔ _; omega)).symm
    · rw [if_neg hi]
      exact (tap_out _ _ _ (by omega)).symm
  · rw [dif_neg h8]
    by_cases h264 : 6 + k + a.val < 264
    · rw [dif_pos h264, pay3_at, cur_at m c t ht]
      exact (tap_of _ _ _ _ (by show t.val % 33 * 256 + a.val + k = t.val % 33 * 256 + (6 + k + a.val - 8) + 2; omega) (by show t.val % 33 * 256 + (6 + k + a.val - 8) < 256 ↔ _; omega)).symm
    · rw [dif_neg h264, pay4_at, e6, next_at m c t ht]
      by_cases hi : t.val % 33 ≠ 0 ∧ t.val % 33 ≠ 32
      · rw [if_pos hi]
        exact (tap_of _ _ _ _ (by show t.val % 33 * 256 + a.val + k = min ((t.val % 33 + 1) * 32) 1055 * 8 + (6 + k + a.val - 264) + 2; omega) (by show min ((t.val % 33 + 1) * 32) 1055 * 8 + (6 + k + a.val - 264) < 256 ↔ _; omega)).symm
      · rw [if_neg hi]
        exact (tap_out _ _ _ (by omega)).symm

/-- The weights as the call takes them. -/
theorem weight_at (c : Dev nD) (k : Fin 4) (n : Fin 768) : (show FVec Ideal S4x768 .f32 from V m c main_v0) (ix2 k n)
    = (show FVec Ideal S1x4x768 .f32 from m ((c : Thread nD τ).loc main_arg1)) (ix3 (0 : Fin 1) k n) := by
  simp only [V, hostOps0, List.flatten_cons, List.flatten_nil, List.append_nil, List.cons_append, List.nil_append]
  entry_read
  pointwise

/-- The bias as the call takes it. -/
theorem bias_at (c : Dev nD) (n : Fin 768) : (show FVec Ideal S1x768 .f32 from V m c main_v2) (ix2 (0 : Fin 1) n)
    = (show FVec Ideal S1x768 .f32 from m ((c : Thread nD τ).loc main_arg2)) (ix2 (0 : Fin 1) n) := by
  simp only [V, hostOps0, List.flatten_cons, List.flatten_nil, List.append_nil, List.cons_append, List.nil_append]
  entry_read
  pointwise

theorem ld_weight (x : Vec Ideal S4x768 .f32) (k : Fin 4) (hi : ∀ a, (![k.val, 0] : Fin 2 → ℕ) a + S1x768.size a ≤ S4x768.size a) (n : Fin 768) :
    View.ld x (Rect.unit (s := S4x768) ![k.val, 0] S1x768.size hi) (ix2 0 n) = x (ix2 k n) :=
  View.ld_unit_apply_of _ _ _ _ _ _ fun b => by fin_cases b <;> simp_all

theorem block (c : Dev nD) (t : Fin cfg0.N) (ht : t.val / 33 < 2) (a : Fin 256) (n : Fin 768) :
    (outsAt0 m c t) (ix3 0 a n) = Ref.out (m ((c : Thread nD τ).loc main_arg0)) (m ((c : Thread nD τ).loc main_arg1)) (m ((c : Thread nD τ).loc main_arg2))
        (ix3 (⟨t.val / 33, ht⟩ : Fin 2) (⟨t.val % 33 * 256 + a.val, by omega⟩ : Fin 8448) n) := by
  obtain ⟨e0, e1, e2, e3, e4, e5, e6, e7⟩ := idx t
  have hw : ∀ k : Fin 4, (show FVec Ideal S4x768 .f32 from iblk m c 3 t) (ix2 k n)
      = (show FVec Ideal S1x4x768 .f32 from m ((c : Thread nD τ).loc main_arg1)) (ix3 (0 : Fin 1) k n) := fun k => by
    refine Eq.trans ?_ (weight_at m c k n)
    blk_ext [iblk, e3]
  have hb : (show FVec Ideal S1x768 .f32 from iblk m c 4 t) (ix2 (0 : Fin 1) n)
      = (show FVec Ideal S1x768 .f32 from m ((c : Thread nD τ).loc main_arg2)) (ix2 (0 : Fin 1) n) := by
    refine Eq.trans ?_ (bias_at m c n)
    blk_ext [iblk, e4]
  have p5 : ∀ v : Vec Ideal S1x768 .f32, k0_pay5 v (ix2 0 n) = v (ix2 0 n) := fun v => by pointwise [k0_pay5]
  have p6 : ∀ v : Vec Ideal S1x768 .f32, k0_pay6 v (ix2 0 n) = v (ix2 0 n) := fun v => by pointwise [k0_pay6]
  rw [Ref.out_at, ← conv_eq]
  unfold outsAt0
  frame_out
  rw [pay1_at]
  refine congrArg₂ (HAdd.hAdd : EReal → EReal → EReal) (congrArg₂ (HAdd.hAdd : EReal → EReal → EReal) (congrArg₂ (HAdd.hAdd : EReal → EReal → EReal) (congrArg₂ (HAdd.hAdd : EReal → EReal → EReal) ((p5 _).trans hb)
      (congrArg₂ (HMul.hMul : EReal → EReal → EReal) ((p6 _).trans ((ld_weight _ 0 _ n).trans (hw 0))) (tap_at m c t ht _ _ _ _ 0 _ a n (by decide))))
      (congrArg₂ (HMul.hMul : EReal → EReal → EReal) ((ld_weight _ 1 _ n).trans (hw 1)) (tap_at m c t ht _ _ _ _ 1 _ a n (by decide))))
      (congrArg₂ (HMul.hMul : EReal → EReal → EReal) ((ld_weight _ 2 _ n).trans (hw 2)) (tap_at m c t ht _ _ _ _ 2 _ a n (by decide))))
      (congrArg₂ (HMul.hMul : EReal → EReal → EReal) ((ld_weight _ 3 _ n).trans (hw 3)) (tap_at m c t ht _ _ _ _ 3 _ a n (by decide)))

/-- THE RESULT ARRAY after the run is the reference's. -/
theorem final (c : Dev nD) :
    (dats m 0 c).arrAt 5 (cfgs 0).N = Ref.out (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have hy : y = ix3 0 (y 1) (y 2) := by blk_ext []
  rw [hy]
  obtain ⟨e0, e1, e2, e3, e4, e5, e6, e7⟩ := idx t
  have b1 : (y 1 : ℕ) < 256 := (y 1).isLt
  have b2 : (y 2 : ℕ) < 768 := (y 2).isLt
  have he : (win0_5.blk t).view.emb (ix3 0 (y 1) (y 2)) = ix3 (⟨t.val / 33, e7⟩ : Fin 2) (⟨t.val % 33 * 256 + (y 1 : ℕ), by omega⟩ : Fin 8448)
      (⟨(y 2 : ℕ), b2⟩ : Fin 768) := by blk_ext [e5]
  exact (block m c t e7 (y 1) (y 2)).trans (congrArg _ he).symm

end Ker
end Cert.EvenConv

end
-- ==== Proof.OddConv.lean ====
/-
  The odd layer's convolution over four rows, with silu: what the call stores in a block of 256 rows, and the whole result array after the run.
-/
module

public import proofs.«01_k».proof.Proof.Gen.OddConvIdeal.Value
public import proofs.«01_k».proof.Proof.Gen.OddConvRefIdeal
public import proofs.«01_k».proof.Proof.Taps
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OddConv
open Cert.Taps

namespace Ref
open Cert.OddConvRefIdeal Cert.OddConvRefIdeal.Gen

/-- The context's rows. -/
def ctxRows (A : FVec Ideal S2x8448x2944 .f32) (B : FVec Ideal S1x4x1024 .f32) (C : FVec Ideal S1x1024 .f32) : FVec Ideal S2x256x1024 .f32 :=
  (mulf (addf (addf (addf (addf (mulf (extractStridedSlice S2x256x1024 ![0, 0, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_0_0) (broadcastInDim S2x256x1024 ![0, 1, 2] bcast_S1x1x1024_S2x256x1024_0_1_2 (broadcastInDim S1x1x1024 ![2] bcast_S1024_S1x1x1024_2 (shapeCast _ (extractStridedSlice S1x1024 ![0, 0] (shapeCast _ B shapeCasts_S1x4x1024_S4x1024) slices_S4x1024_S1x1024_0_0) shapeCasts_S1x1024_S1024)))) (mulf (extractStridedSlice S2x256x1024 ![0, 1, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_1_0) (broadcastInDim S2x256x1024 ![0, 1, 2] bcast_S1x1x1024_S2x256x1024_0_1_2 (broadcastInDim S1x1x1024 ![2] bcast_S1024_S1x1x1024_2 (shapeCast _ (extractStridedSlice S1x1024 ![1, 0] (shapeCast _ B shapeCasts_S1x4x1024_S4x1024) slices_S4x1024_S1x1024_1_0) shapeCasts_S1x1024_S1024))))) (mulf (extractStridedSlice S2x256x1024 ![0, 2, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_2_0) (broadcastInDim S2x256x1024 ![0, 1, 2] bcast_S1x1x1024_S2x256x1024_0_1_2 (broadcastInDim S1x1x1024 ![2] bcast_S1024_S1x1x1024_2 (shapeCast _ (extractStridedSlice S1x1024 ![2, 0] (shapeCast _ B shapeCasts_S1x4x1024_S4x1024) slices_S4x1024_S1x1024_2_0) shapeCasts_S1x1024_S1024))))) (mulf (extractStridedSlice S2x256x1024 ![0, 3, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_3_0) (broadcastInDim S2x256x1024 ![0, 1, 2] bcast_S1x1x1024_S2x256x1024_0_1_2 (broadcastInDim S1x1x1024 ![2] bcast_S1024_S1x1x1024_2 (shapeCast _ (extractStridedSlice S1x1024 ![3, 0] (shapeCast _ B shapeCasts_S1x4x1024_S4x1024) slices_S4x1024_S1x1024_3_0) shapeCasts_S1x1024_S1024))))) (broadcastInDim S2x256x1024 ![0, 1, 2] bcast_S1x1x1024_S2x256x1024_0_1_2 (broadcastInDim S1x1x1024 ![2] bcast_S1024_S1x1x1024_2 (shapeCast _ C shapeCasts_S1x1024_S1024)))) (Host.divf (broadcastInDim S2x256x1024 ![] bcast_S_S2x256x1024 (constant S_ .f32 0x3F800000#32)) (addf (broadcastInDim S2x256x1024 ![] bcast_S_S2x256x1024 (constant S_ .f32 0x3F800000#32)) (Host.exp (Host.negf (addf (addf (addf (addf (mulf (extractStridedSlice S2x256x1024 ![0, 0, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_0_0) (broadcastInDim S2x256x1024 ![0, 1, 2] bcast_S1x1x1024_S2x256x1024_0_1_2 (broadcastInDim S1x1x1024 ![2] bcast_S1024_S1x1x1024_2 (shapeCast _ (extractStridedSlice S1x1024 ![0, 0] (shapeCast _ B shapeCasts_S1x4x1024_S4x1024) slices_S4x1024_S1x1024_0_0) shapeCasts_S1x1024_S1024)))) (mulf (extractStridedSlice S2x256x1024 ![0, 1, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_1_0) (broadcastInDim S2x256x1024 ![0, 1, 2] bcast_S1x1x1024_S2x256x1024_0_1_2 (broadcastInDim S1x1x1024 ![2] bcast_S1024_S1x1x1024_2 (shapeCast _ (extractStridedSlice S1x1024 ![1, 0] (shapeCast _ B shapeCasts_S1x4x1024_S4x1024) slices_S4x1024_S1x1024_1_0) shapeCasts_S1x1024_S1024))))) (mulf (extractStridedSlice S2x256x1024 ![0, 2, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_2_0) (broadcastInDim S2x256x1024 ![0, 1, 2] bcast_S1x1x1024_S2x256x1024_0_1_2 (broadcastInDim S1x1x1024 ![2] bcast_S1024_S1x1x1024_2 (shapeCast _ (extractStridedSlice S1x1024 ![2, 0] (shapeCast _ B shapeCasts_S1x4x1024_S4x1024) slices_S4x1024_S1x1024_2_0) shapeCasts_S1x1024_S1024))))) (mulf (extractStridedSlice S2x256x1024 ![0, 3, 0] (pad S2x259x1024 ![0, 2, 0] ![0, 1, 0] ![0, 0, 0] (extractStridedSlice S2x256x1024 ![0, 0, 0] A slices_S2x8448x2944_S2x256x1024_0_0_0) (sitofp .f32 (constantI S_ 32 0#32)) pads_S2x256x1024_S2x259x1024_000_210_000 h_S_) slices_S2x259x1024_S2x256x1024_0_3_0) (broadcastInDim S2x256x1024 ![0, 1, 2] bcast_S1x1x1024_S2x256x1024_0_1_2 (broadcastInDim S1x1x1024 ![2] bcast_S1024_S1x1x1024_2 (shapeCast _ (extractStridedSlice S1x1024 ![3, 0] (shapeCast _ B shapeCasts_S1x4x1024_S4x1024) slices_S4x1024_S1x1024_3_0) shapeCasts_S1x1024_S1024))))) (broadcastInDim S2x256x1024 ![0, 1, 2] bcast_S1x1x1024_S2x256x1024_0_1_2 (broadcastInDim S1x1x1024 ![2] bcast_S1024_S1x1x1024_2 (shapeCast _ C shapeCasts_S1x1024_S1024)))))))))

/-- The latents' rows. -/
def latRows (A : FVec Ideal S2x8448x2944 .f32) (B : FVec Ideal S1x4x1024 .f32) (C : FVec Ideal S1x1024 .f32) : FVec Ideal S2x8192x1024 .f32 :=
  (mulf (addf (addf (addf (addf (mulf (extractStridedSlice S2x8192x1024 ![0, 0, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_0_0) (broadcastInDim S2x8192x1024 ![0, 1, 2] bcast_S1x1x1024_S2x8192x1024_0_1_2 (broadcastInDim S1x1x1024 ![2] bcast_S1024_S1x1x1024_2 (shapeCast _ (extractStridedSlice S1x1024 ![0, 0] (shapeCast _ B shapeCasts_S1x4x1024_S4x1024) slices_S4x1024_S1x1024_0_0) shapeCasts_S1x1024_S1024)))) (mulf (extractStridedSlice S2x8192x1024 ![0, 1, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_1_0) (broadcastInDim S2x8192x1024 ![0, 1, 2] bcast_S1x1x1024_S2x8192x1024_0_1_2 (broadcastInDim S1x1x1024 ![2] bcast_S1024_S1x1x1024_2 (shapeCast _ (extractStridedSlice S1x1024 ![1, 0] (shapeCast _ B shapeCasts_S1x4x1024_S4x1024) slices_S4x1024_S1x1024_1_0) shapeCasts_S1x1024_S1024))))) (mulf (extractStridedSlice S2x8192x1024 ![0, 2, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_2_0) (broadcastInDim S2x8192x1024 ![0, 1, 2] bcast_S1x1x1024_S2x8192x1024_0_1_2 (broadcastInDim S1x1x1024 ![2] bcast_S1024_S1x1x1024_2 (shapeCast _ (extractStridedSlice S1x1024 ![2, 0] (shapeCast _ B shapeCasts_S1x4x1024_S4x1024) slices_S4x1024_S1x1024_2_0) shapeCasts_S1x1024_S1024))))) (mulf (extractStridedSlice S2x8192x1024 ![0, 3, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_3_0) (broadcastInDim S2x8192x1024 ![0, 1, 2] bcast_S1x1x1024_S2x8192x1024_0_1_2 (broadcastInDim S1x1x1024 ![2] bcast_S1024_S1x1x1024_2 (shapeCast _ (extractStridedSlice S1x1024 ![3, 0] (shapeCast _ B shapeCasts_S1x4x1024_S4x1024) slices_S4x1024_S1x1024_3_0) shapeCasts_S1x1024_S1024))))) (broadcastInDim S2x8192x1024 ![0, 1, 2] bcast_S1x1x1024_S2x8192x1024_0_1_2 (broadcastInDim S1x1x1024 ![2] bcast_S1024_S1x1x1024_2 (shapeCast _ C shapeCasts_S1x1024_S1024)))) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (addf (addf (addf (addf (mulf (extractStridedSlice S2x8192x1024 ![0, 0, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_0_0) (broadcastInDim S2x8192x1024 ![0, 1, 2] bcast_S1x1x1024_S2x8192x1024_0_1_2 (broadcastInDim S1x1x1024 ![2] bcast_S1024_S1x1x1024_2 (shapeCast _ (extractStridedSlice S1x1024 ![0, 0] (shapeCast _ B shapeCasts_S1x4x1024_S4x1024) slices_S4x1024_S1x1024_0_0) shapeCasts_S1x1024_S1024)))) (mulf (extractStridedSlice S2x8192x1024 ![0, 1, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_1_0) (broadcastInDim S2x8192x1024 ![0, 1, 2] bcast_S1x1x1024_S2x8192x1024_0_1_2 (broadcastInDim S1x1x1024 ![2] bcast_S1024_S1x1x1024_2 (shapeCast _ (extractStridedSlice S1x1024 ![1, 0] (shapeCast _ B shapeCasts_S1x4x1024_S4x1024) slices_S4x1024_S1x1024_1_0) shapeCasts_S1x1024_S1024))))) (mulf (extractStridedSlice S2x8192x1024 ![0, 2, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_2_0) (broadcastInDim S2x8192x1024 ![0, 1, 2] bcast_S1x1x1024_S2x8192x1024_0_1_2 (broadcastInDim S1x1x1024 ![2] bcast_S1024_S1x1x1024_2 (shapeCast _ (extractStridedSlice S1x1024 ![2, 0] (shapeCast _ B shapeCasts_S1x4x1024_S4x1024) slices_S4x1024_S1x1024_2_0) shapeCasts_S1x1024_S1024))))) (mulf (extractStridedSlice S2x8192x1024 ![0, 3, 0] (pad S2x8195x1024 ![0, 2, 0] ![0, 1, 0] ![0, 0, 0] (extractStridedSlice S2x8192x1024 ![0, 256, 0] A slices_S2x8448x2944_S2x8192x1024_0_256_0) (sitofp .f32 (constantI S_ 32 0#32)) pads_S2x8192x1024_S2x8195x1024_000_210_000 h_S_) slices_S2x8195x1024_S2x8192x1024_0_3_0) (broadcastInDim S2x8192x1024 ![0, 1, 2] bcast_S1x1x1024_S2x8192x1024_0_1_2 (broadcastInDim S1x1x1024 ![2] bcast_S1024_S1x1x1024_2 (shapeCast _ (extractStridedSlice S1x1024 ![3, 0] (shapeCast _ B shapeCasts_S1x4x1024_S4x1024) slices_S4x1024_S1x1024_3_0) shapeCasts_S1x1024_S1024))))) (broadcastInDim S2x8192x1024 ![0, 1, 2] bcast_S1x1x1024_S2x8192x1024_0_1_2 (broadcastInDim S1x1x1024 ![2] bcast_S1024_S1x1x1024_2 (shapeCast _ C shapeCasts_S1x1024_S1024)))))))))

/-- The reference's result. -/
def out (A : FVec Ideal S2x8448x2944 .f32) (B : FVec Ideal S1x4x1024 .f32) (C : FVec Ideal S1x1024 .f32) : FVec Ideal S2x8448x1024 .f32 :=
  concatenate S2x8448x1024 1 [⟨S2x256x1024, ctxRows A B C⟩, ⟨S2x8192x1024, latRows A B C⟩] concatenates_S2x256x1024_S2x8192x1024_S2x8448x1024_d1

theorem zero_at : (FloatOps.sitofp FTy.f32 0#32 : Ideal .f32) = 0 := by
  show (((0#32 : BitVec 32).toInt : ℝ) : EReal) = 0
  simp

/-- The sequence's rows of one column. -/
def column (A : FVec Ideal S2x8448x2944 .f32) (b : Fin 2) (n : Fin 1024) (s : Fin 8448) : EReal := A (ix3 b s (⟨n.val, by omega⟩ : Fin 2944))

theorem ctxRows_at (A : FVec Ideal S2x8448x2944 .f32) (B : FVec Ideal S1x4x1024 .f32) (C : FVec Ideal S1x1024 .f32) (b : Fin 2) (r : Fin 256) (n : Fin 1024) :
    ctxRows A B C (ix3 b r n) = silu (conv (column A b n) (fun k => B (ix3 (0 : Fin 1) k n)) (C (ix2 (0 : Fin 1) n)) r.val) := by
  have h0 : tap (column A b n) r.val 0 = if h : 2 ≤ r.val ∧ r.val - 2 < 256 then A (ix3 b (⟨r.val - 2, by omega⟩ : Fin 8448) (⟨n.val, by omega⟩ : Fin 2944)) else FloatOps.sitofp FTy.f32 0#32 := by
    by_cases h : 2 ≤ r.val ∧ r.val - 2 < 256
    · rw [dif_pos h]
      exact tap_of _ _ _ _ (by show r.val + 0 = r.val - 2 + 2; omega) (by show r.val - 2 < 256 ↔ _; omega)
    · rw [dif_neg h, zero_at]
      exact tap_out _ _ _ (by omega)
  have h1 : tap (column A b n) r.val 1 = if h : 2 ≤ 1 + r.val ∧ 1 + r.val - 2 < 256 then A (ix3 b (⟨1 + r.val - 2, by omega⟩ : Fin 8448) (⟨n.val, by omega⟩ : Fin 2944)) else FloatOps.sitofp FTy.f32 0#32 := by
    by_cases h : 2 ≤ 1 + r.val ∧ 1 + r.val - 2 < 256
    · rw [dif_pos h]
      exact tap_of _ _ _ _ (by show r.val + 1 = 1 + r.val - 2 + 2; omega) (by show 1 + r.val - 2 < 256 ↔ _; omega)
    · rw [dif_neg h, zero_at]
      exact tap_out _ _ _ (by omega)
  have h2 : tap (column A b n) r.val 2 = A (ix3 b (⟨r.val, by omega⟩ : Fin 8448) (⟨n.val, by omega⟩ : Fin 2944)) :=
    tap_of _ _ _ _ rfl Iff.rfl
  have h3 : tap (column A b n) r.val 3 = if h : 2 ≤ 3 + r.val ∧ 3 + r.val - 2 < 256 then A (ix3 b (⟨3 + r.val - 2, by omega⟩ : Fin 8448) (⟨n.val, by omega⟩ : Fin 2944)) else FloatOps.sitofp FTy.f32 0#32 := by
    by_cases h : 2 ≤ 3 + r.val ∧ 3 + r.val - 2 < 256
    · rw [dif_pos h]
      exact tap_of _ _ _ _ (by show r.val + 3 = 3 + r.val - 2 + 2; omega) (by show 3 + r.val - 2 < 256 ↔ _; omega)
    · rw [dif_neg h, zero_at]
      exact tap_out _ _ _ (by omega)
  unfold conv
  rw [h0, h1, h2, h3]
  pointwise [ctxRows, silu]

theorem latRows_at (A : FVec Ideal S2x8448x2944 .f32) (B : FVec Ideal S1x4x1024 .f32) (C : FVec Ideal S1x1024 .f32) (b : Fin 2) (r : Fin 8192) (n : Fin 1024) :
    latRows A B C (ix3 b r n) = silu (conv (column A b n) (fun k => B (ix3 (0 : Fin 1) k n)) (C (ix2 (0 : Fin 1) n)) (256 + r.val)) := by
  have h0 : tap (column A b n) (256 + r.val) 0 = if h : 2 ≤ r.val ∧ r.val - 2 < 8192 then A (ix3 b (⟨256 + (r.val - 2), by omega⟩ : Fin 8448) (⟨n.val, by omega⟩ : Fin 2944)) else FloatOps.sitofp FTy.f32 0#32 := by
    by_cases h : 2 ≤ r.val ∧ r.val - 2 < 8192
    · rw [dif_pos h]
      exact tap_of _ _ _ _ (by show 256 + r.val + 0 = 256 + (r.val - 2) + 2; omega) (by show 256 + (r.val - 2) < 256 ↔ _; omega)
    · rw [dif_neg h, zero_at]
      exact tap_out _ _ _ (by omega)
  have h1 : tap (column A b n) (256 + r.val) 1 = if h : 2 ≤ 1 + r.val ∧ 1 + r.val - 2 < 8192 then A (ix3 b (⟨256 + (1 + r.val - 2), by omega⟩ : Fin 8448) (⟨n.val, by omega⟩ : Fin 2944)) else FloatOps.sitofp FTy.f32 0#32 := by
    by_cases h : 2 ≤ 1 + r.val ∧ 1 + r.val - 2 < 8192
    · rw [dif_pos h]
      exact tap_of _ _ _ _ (by show 256 + r.val + 1 = 256 + (1 + r.val - 2) + 2; omega) (by show 256 + (1 + r.val - 2) < 256 ↔ _; omega)
    · rw [dif_neg h, zero_at]
      exact tap_out _ _ _ (by omega)
  have h2 : tap (column A b n) (256 + r.val) 2 = A (ix3 b (⟨256 + r.val, by omega⟩ : Fin 8448) (⟨n.val, by omega⟩ : Fin 2944)) :=
    tap_of _ _ _ _ rfl Iff.rfl
  have h3 : tap (column A b n) (256 + r.val) 3 = if h : 2 ≤ 3 + r.val ∧ 3 + r.val - 2 < 8192 then A (ix3 b (⟨256 + (3 + r.val - 2), by omega⟩ : Fin 8448) (⟨n.val, by omega⟩ : Fin 2944)) else FloatOps.sitofp FTy.f32 0#32 := by
    by_cases h : 2 ≤ 3 + r.val ∧ 3 + r.val - 2 < 8192
    · rw [dif_pos h]
      exact tap_of _ _ _ _ (by show 256 + r.val + 3 = 256 + (3 + r.val - 2) + 2; omega) (by show 256 + (3 + r.val - 2) < 256 ↔ _; omega)
    · rw [dif_neg h, zero_at]
      exact tap_out _ _ _ (by omega)
  unfold conv
  rw [h0, h1, h2, h3]
  pointwise [latRows, silu]

theorem out_at (A : FVec Ideal S2x8448x2944 .f32) (B : FVec Ideal S1x4x1024 .f32) (C : FVec Ideal S1x1024 .f32) (b : Fin 2) (r : Fin 8448) (n : Fin 1024) :
    out A B C (ix3 b r n) = silu (conv (column A b n) (fun k => B (ix3 (0 : Fin 1) k n)) (C (ix2 (0 : Fin 1) n)) r.val) := by
  have h : out A B C (ix3 b r n) = if h : r.val < 256 then ctxRows A B C (ix3 b ⟨r.val, h⟩ n) else latRows A B C (ix3 b ⟨r.val - 256, by omega⟩ n) := by
    pointwise [out]
  rw [h]
  by_cases hr : r.val < 256
  · rw [dif_pos hr, ctxRows_at]
  · rw [dif_neg hr, latRows_at]
    exact congrArg (fun s => silu (conv _ _ _ s)) (show 256 + (r.val - 256) = r.val by omega)

end Ref

namespace Ker
open Cert.OddConvIdeal Cert.OddConvIdeal.Gen

variable (m : (ℓ : Loc nD τ sig) → Buf (Elt Ideal) ℓ)

theorem pay1_at (v26 v28 : Vec Ideal S1x1024 .f32) (v29 : Vec Ideal S256x1024 .f32) (v34 : Vec Ideal S1x1024 .f32) (v36 : Vec Ideal S256x1024 .f32) (v40 : Vec Ideal S1x1024 .f32)
    (v42 : Vec Ideal S256x1024 .f32) (v46 : Vec Ideal S1x1024 .f32) (v48 : Vec Ideal S256x1024 .f32) (a : Fin 256) (n : Fin 1024) :
    k0_pay1 v26 v28 v29 v34 v36 v40 v42 v46 v48 (ix3 0 a n)
      = silu (v26 (ix2 0 n) + v28 (ix2 0 n) * v29 (ix2 a n) + v34 (ix2 0 n) * v36 (ix2 a n) + v40 (ix2 0 n) * v42 (ix2 a n) + v46 (ix2 0 n) * v48 (ix2 a n)) := by
  pointwise [k0_pay1, silu]
  simp only [zero_sub]

theorem first_row : ∀ i : Fin 33, Scalar.andi (Scalar.cmpi .ne (BitVec.ofNat 32 i.val) 0#32) (Scalar.cmpi .ne (BitVec.ofNat 32 i.val) 1#32) = if i.val ≠ 0 ∧ i.val ≠ 1 then 1#1 else 0#1 := by
  decide

theorem last_row : ∀ i : Fin 33, Scalar.andi (Scalar.cmpi .ne (BitVec.ofNat 32 i.val) 0#32) (Scalar.cmpi .ne (BitVec.ofNat 32 i.val) 32#32) = if i.val ≠ 0 ∧ i.val ≠ 32 then 1#1 else 0#1 := by
  decide

theorem pick_of (p : Prop) [Decidable p] (x y : EReal) : Scalar.select (if p then 1#1 else 0#1) x y = if p then x else y := by
  unfold Scalar.select
  by_cases h : p
  · rw [if_pos h, if_pos h]; exact if_pos rfl
  · rw [if_neg h, if_neg h]; exact if_neg (by decide)

theorem pay2_at (i : grid0.Coords) (v : Vec Ideal S1x8x1024 .f32) (a : Fin 8) (n : Fin 1024) :
    k0_pay2 i v (ix2 a n) = if (i 1).val ≠ 0 ∧ (i 1).val ≠ 1 then v (ix3 0 a n) else 0 := by
  have h : k0_pay2 i v (ix2 a n) = Scalar.select (Scalar.andi (Scalar.cmpi .ne (BitVec.ofNat 32 (i 1).val) 0#32) (Scalar.cmpi .ne (BitVec.ofNat 32 (i 1).val) 1#32)) (v (ix3 0 a n)) 0 := by
    pointwise [k0_pay2]
  rw [h, first_row ⟨(i 1).val, (i 1).isLt⟩]
  exact pick_of _ _ _

theorem pay3_at (v : Vec Ideal S1x256x1024 .f32) (a : Fin 256) (n : Fin 1024) : k0_pay3 v (ix2 a n) = v (ix3 0 a n) := by
  pointwise [k0_pay3]

theorem pay4_at (i : grid0.Coords) (v : Vec Ideal S1x8x1024 .f32) (a : Fin 8) (n : Fin 1024) :
    k0_pay4 i v (ix2 a n) = if (i 1).val ≠ 0 ∧ (i 1).val ≠ 32 then v (ix3 0 a n) else 0 := by
  have h : k0_pay4 i v (ix2 a n) = Scalar.select (Scalar.andi (Scalar.cmpi .ne (BitVec.ofNat 32 (i 1).val) 0#32) (Scalar.cmpi .ne (BitVec.ofNat 32 (i 1).val) 32#32)) (v (ix3 0 a n)) 0 := by
    pointwise [k0_pay4]
  rw [h, last_row ⟨(i 1).val, (i 1).isLt⟩]
  exact pick_of _ _ _

/-- Rows read out of the three stored pieces: eight rows before, the block, eight rows after. -/
theorem pieces_at {κ : Kind} {sp : Space} (v : View sig κ sp S272x1024 .f32) (i4 i3 i2) (P4 P2 : FVec Ideal S8x1024 .f32) (P3 : FVec Ideal S256x1024 .f32) (o : ℕ) (i1) (a : Fin 256) (n : Fin 1024) (ho : o + 256 ≤ 272) :
    v.readCov [(⟨Rect.unit (s := S272x1024) ![264, 0] ![8, 1024] i4, P4⟩ : View.Piece (Elt Ideal) S272x1024 .f32), ⟨Rect.unit (s := S272x1024) ![8, 0] ![256, 1024] i3, P3⟩, ⟨Rect.unit (s := S272x1024) ![0, 0] ![8, 1024] i2, P2⟩]
        (Rect.unit (s := S272x1024) ![o, 0] ![256, 1024] i1).toLoadRect (ix2 a n)
      = if h : o + a.val < 8 then P2 (ix2 (⟨o + a.val, h⟩ : Fin 8) n) else if h : o + a.val < 264 then P3 (ix2 (⟨o + a.val - 8, by omega⟩ : Fin 256) n)
        else P4 (ix2 (⟨o + a.val - 264, by omega⟩ : Fin 8) n) := by
  have hi : (Rect.unit (s := S272x1024) ![o, 0] ![256, 1024] i1).toLoadRect.idx (ix2 a n) = ix2 (⟨o + a.val, by omega⟩ : Fin 272) n := by
    funext b
    fin_cases b
    · exact Fin.ext (by show o + 1 * a.val = o + a.val; omega)
    · exact Fin.ext (by show 0 + 1 * n.val = n.val; omega)
  rw [View.readCov_eq_canon']
  show View.canon _ ((Rect.unit (s := S272x1024) ![o, 0] ![256, 1024] i1).toLoadRect.idx (ix2 a n)) = _
  rw [hi]
  have hn := n.isLt
  refine View.canon_eq_of_allAt _ _ _ ?_ ?_
  · by_cases h8 : o + a.val < 8
    · refine ⟨_, List.mem_cons_of_mem _ (List.mem_cons_of_mem _ List.mem_cons_self), (Rect.mem_set_unit (inb := i2)).2 fun b => ?_⟩
      fin_cases b
      · exact ⟨Nat.zero_le _, by show o + a.val < 0 + 8; omega⟩
      · exact ⟨Nat.zero_le _, by show n.val < 0 + 1024; omega⟩
    · by_cases h264 : o + a.val < 264
      · refine ⟨_, List.mem_cons_of_mem _ List.mem_cons_self, (Rect.mem_set_unit (inb := i3)).2 fun b => ?_⟩
        fin_cases b
        · exact ⟨by show 8 ≤ o + a.val; omega, by show o + a.val < 8 + 256; omega⟩
        · exact ⟨Nat.zero_le _, by show n.val < 0 + 1024; omega⟩
      · refine ⟨_, List.mem_cons_self, (Rect.mem_set_unit (inb := i4)).2 fun b => ?_⟩
        fin_cases b
        · exact ⟨by show 264 ≤ o + a.val; omega, by show o + a.val < 264 + 8; omega⟩
        · exact ⟨Nat.zero_le _, by show n.val < 0 + 1024; omega⟩
  · refine View.allAt_cons_unit _ _ _ _ _ (fun x hx => ?_) (View.allAt_cons_unit _ _ _ _ _ (fun x hx => ?_) (View.allAt_cons_unit _ _ _ _ _ (fun x hx => ?_) (View.allAt_nil _ _)))
    · have q0 : o + a.val = 264 + (x 0).val := hx 0
      have q1 : n.val = 0 + (x 1).val := hx 1
      rw [dif_neg (by omega), dif_neg (by omega)]
      refine (congrArg P4 (eq_ix2 x)).trans ?_
      exact congrArg₂ (fun s t => P4 (ix2 s t)) (Fin.ext (by show (x 0).val = o + a.val - 264; omega)) (Fin.ext (by show (x 1).val = n.val; omega))
    · have q0 : o + a.val = 8 + (x 0).val := hx 0
      have q1 : n.val = 0 + (x 1).val := hx 1
      have b0 : (x 0).val < 256 := (x 0).isLt
      rw [dif_neg (by omega), dif_pos (by omega)]
      refine (congrArg P3 (eq_ix2 x)).trans ?_
      exact congrArg₂ (fun s t => P3 (ix2 s t)) (Fin.ext (by show (x 0).val = o + a.val - 8; omega)) (Fin.ext (by show (x 1).val = n.val; omega))
    · have q0 : o + a.val = 0 + (x 0).val := hx 0
      have q1 : n.val = 0 + (x 1).val := hx 1
      have b0 : (x 0).val < 8 := (x 0).isLt
      rw [dif_pos (by omega)]
      refine (congrArg P2 (eq_ix2 x)).trans ?_
      exact congrArg₂ (fun s t => P2 (ix2 s t)) (Fin.ext (by show (x 0).val = o + a.val; omega)) (Fin.ext (by show (x 1).val = n.val; omega))

theorem idx : ∀ t : Fin cfg0.N, win0_0.index t = ![t.val / 33, t.val % 33 * 32 - 1, 0] ∧ win0_1.index t = ![t.val / 33, t.val % 33, 0]
    ∧ win0_2.index t = ![t.val / 33, min ((t.val % 33 + 1) * 32) 1055, 0] ∧ win0_3.index t = ![0, 0] ∧ win0_4.index t = ![0, 0]
    ∧ win0_5.index t = ![t.val / 33, t.val % 33, 0] ∧ (grid0.coords t 1).val = t.val % 33 ∧ t.val / 33 < 2 :=
  (by decide +kernel : ∀ t : Fin grid0.N, _)

theorem prev_at (c : Dev nD) (t : Fin cfg0.N) (ht : t.val / 33 < 2) (p : Fin 8) (n : Fin 1024) : X0_0 m c t (ix3 0 p n)
    = Ref.column (m ((c : Thread nD τ).loc main_arg0)) ⟨t.val / 33, ht⟩ n (⟨(t.val % 33 * 32 - 1) * 8 + p.val, by omega⟩ : Fin 8448) := by
  obtain ⟨e0, e1, e2, e3, e4, e5, e6, e7⟩ := idx t
  unfold X0_0 Pipeline.Window.fill Ref.column
  rw [dif_pos (moved0_0 t _)]
  blk_ext [iblk, V, e0]

theorem cur_at (c : Dev nD) (t : Fin cfg0.N) (ht : t.val / 33 < 2) (p : Fin 256) (n : Fin 1024) : X0_1 m c t (ix3 0 p n)
    = Ref.column (m ((c : Thread nD τ).loc main_arg0)) ⟨t.val / 33, ht⟩ n (⟨t.val % 33 * 256 + p.val, by omega⟩ : Fin 8448) := by
  obtain ⟨e0, e1, e2, e3, e4, e5, e6, e7⟩ := idx t
  unfold X0_1 Pipeline.Window.fill Ref.column
  rw [dif_pos (moved0_1 t _)]
  blk_ext [iblk, V, e1]

theorem next_at (c : Dev nD) (t : Fin cfg0.N) (ht : t.val / 33 < 2) (p : Fin 8) (n : Fin 1024) : X0_2 m c t (ix3 0 p n)
    = Ref.column (m ((c : Thread nD τ).loc main_arg0)) ⟨t.val / 33, ht⟩ n (⟨min ((t.val % 33 + 1) * 32) 1055 * 8 + p.val, by omega⟩ : Fin 8448) := by
  obtain ⟨e0, e1, e2, e3, e4, e5, e6, e7⟩ := idx t
  unfold X0_2 Pipeline.Window.fill Ref.column
  rw [dif_pos (moved0_2 t _)]
  blk_ext [iblk, V, e2]

/-- A row as the call reads it out of the three pieces. -/
theorem tap_at (c : Dev nD) (t : Fin cfg0.N) (ht : t.val / 33 < 2) {κ : Kind} {sp : Space} (v : View sig κ sp S272x1024 .f32) (i4 i3 i2) (k : ℕ) (i1) (a : Fin 256) (n : Fin 1024) (hk : k < 4) :
    v.readCov [(⟨Rect.unit (s := S272x1024) ![264, 0] ![8, 1024] i4, k0_pay4 (grid0.coords t) (X0_2 m c t)⟩ : View.Piece (Elt Ideal) S272x1024 .f32), ⟨Rect.unit (s := S272x1024) ![8, 0] ![256, 1024] i3, k0_pay3 (X0_1 m c t)⟩, ⟨Rect.unit (s := S272x1024) ![0, 0] ![8, 1024] i2, k0_pay2 (grid0.coords t) (X0_0 m c t)⟩]
        (Rect.unit (s := S272x1024) ![6 + k, 0] ![256, 1024] i1).toLoadRect (ix2 a n)
      = tap (Ref.column (m ((c : Thread nD τ).loc main_arg0)) ⟨t.val / 33, ht⟩ n) (t.val % 33 * 256 + a.val) k := by
  obtain ⟨e0, e1, e2, e3, e4, e5, e6, e7⟩ := idx t
  have ha := a.isLt
  have hm : t.val % 33 < 33 := Nat.mod_lt _ (by decide)
  rw [pieces_at v i4 i3 i2 _ _ _ (6 + k) i1 a n (by omega)]
  by_cases h8 : 6 + k + a.val < 8
  · rw [dif_pos h8, pay2_at, e6, prev_at m c t ht]
    by_cases hi : t.val % 33 ≠ 0 ∧ t.val % 33 ≠ 1
    · rw [if_pos hi]
      exact (tap_of _ _ _ _ (by show t.val % 33 * 256 + a.val + k = (t.val % 33 * 32 - 1) * 8 + (6 + k + a.val) + 2; omega) (by show (t.val % 33 * 32 - 1) * 8 + (6 + k + a.val) < 256 ↔ _; omega)).symm
    · rw [if_neg hi]
      exact (tap_out _ _ _ (by omega)).symm
  · rw [dif_neg h8]
    by_cases h264 : 6 + k + a.val < 264
    · rw [dif_pos h264, pay3_at, cur_at m c t ht]
      exact (tap_of _ _ _ _ (by show t.val % 33 * 256 + a.val + k = t.val % 33 * 256 + (6 + k + a.val - 8) + 2; omega) (by show t.val % 33 * 256 + (6 + k + a.val - 8) < 256 ↔ _; omega)).symm
    · rw [dif_neg h264, pay4_at, e6, next_at m c t ht]
      by_cases hi : t.val % 33 ≠ 0 ∧ t.val % 33 ≠ 32
      · rw [if_pos hi]
        exact (tap_of _ _ _ _ (by show t.val % 33 * 256 + a.val + k = min ((t.val % 33 + 1) * 32) 1055 * 8 + (6 + k + a.val - 264) + 2; omega) (by show min ((t.val % 33 + 1) * 32) 1055 * 8 + (6 + k + a.val - 264) < 256 ↔ _; omega)).symm
      · rw [if_neg hi]
        exact (tap_out _ _ _ (by omega)).symm

/-- The weights as the call takes them. -/
theorem weight_at (c : Dev nD) (k : Fin 4) (n : Fin 1024) : (show FVec Ideal S4x1024 .f32 from V m c main_v0) (ix2 k n)
    = (show FVec Ideal S1x4x1024 .f32 from m ((c : Thread nD τ).loc main_arg1)) (ix3 (0 : Fin 1) k n) := by
  simp only [V, hostOps0, List.flatten_cons, List.flatten_nil, List.append_nil, List.cons_append, List.nil_append]
  entry_read
  pointwise

/-- The bias as the call takes it. -/
theorem bias_at (c : Dev nD) (n : Fin 1024) : (show FVec Ideal S1x1024 .f32 from V m c main_v2) (ix2 (0 : Fin 1) n)
    = (show FVec Ideal S1x1024 .f32 from m ((c : Thread nD τ).loc main_arg2)) (ix2 (0 : Fin 1) n) := by
  simp only [V, hostOps0, List.flatten_cons, List.flatten_nil, List.append_nil, List.cons_append, List.nil_append]
  entry_read
  pointwise

theorem ld_weight (x : Vec Ideal S4x1024 .f32) (k : Fin 4) (hi : ∀ a, (![k.val, 0] : Fin 2 → ℕ) a + S1x1024.size a ≤ S4x1024.size a) (n : Fin 1024) :
    View.ld x (Rect.unit (s := S4x1024) ![k.val, 0] S1x1024.size hi) (ix2 0 n) = x (ix2 k n) :=
  View.ld_unit_apply_of _ _ _ _ _ _ fun b => by fin_cases b <;> simp_all

theorem block (c : Dev nD) (t : Fin cfg0.N) (ht : t.val / 33 < 2) (a : Fin 256) (n : Fin 1024) :
    (outsAt0 m c t) (ix3 0 a n) = Ref.out (m ((c : Thread nD τ).loc main_arg0)) (m ((c : Thread nD τ).loc main_arg1)) (m ((c : Thread nD τ).loc main_arg2))
        (ix3 (⟨t.val / 33, ht⟩ : Fin 2) (⟨t.val % 33 * 256 + a.val, by omega⟩ : Fin 8448) n) := by
  obtain ⟨e0, e1, e2, e3, e4, e5, e6, e7⟩ := idx t
  have hw : ∀ k : Fin 4, (show FVec Ideal S4x1024 .f32 from iblk m c 3 t) (ix2 k n)
      = (show FVec Ideal S1x4x1024 .f32 from m ((c : Thread nD τ).loc main_arg1)) (ix3 (0 : Fin 1) k n) := fun k => by
    refine Eq.trans ?_ (weight_at m c k n)
    blk_ext [iblk, e3]
  have hb : (show FVec Ideal S1x1024 .f32 from iblk m c 4 t) (ix2 (0 : Fin 1) n)
      = (show FVec Ideal S1x1024 .f32 from m ((c : Thread nD τ).loc main_arg2)) (ix2 (0 : Fin 1) n) := by
    refine Eq.trans ?_ (bias_at m c n)
    blk_ext [iblk, e4]
  have p5 : ∀ v : Vec Ideal S1x1024 .f32, k0_pay5 v (ix2 0 n) = v (ix2 0 n) := fun v => by pointwise [k0_pay5]
  have p6 : ∀ v : Vec Ideal S1x1024 .f32, k0_pay6 v (ix2 0 n) = v (ix2 0 n) := fun v => by pointwise [k0_pay6]
  rw [Ref.out_at, ← conv_eq]
  unfold outsAt0
  frame_out
  rw [pay1_at]
  refine congrArg silu ?_
  refine congrArg₂ (HAdd.hAdd : EReal → EReal → EReal) (congrArg₂ (HAdd.hAdd : EReal → EReal → EReal) (congrArg₂ (HAdd.hAdd : EReal → EReal → EReal) (congrArg₂ (HAdd.hAdd : EReal → EReal → EReal) ((p5 _).trans hb)
      (congrArg₂ (HMul.hMul : EReal → EReal → EReal) ((p6 _).trans ((ld_weight _ 0 _ n).trans (hw 0))) (tap_at m c t ht _ _ _ _ 0 _ a n (by decide))))
      (congrArg₂ (HMul.hMul : EReal → EReal → EReal) ((ld_weight _ 1 _ n).trans (hw 1)) (tap_at m c t ht _ _ _ _ 1 _ a n (by decide))))
      (congrArg₂ (HMul.hMul : EReal → EReal → EReal) ((ld_weight _ 2 _ n).trans (hw 2)) (tap_at m c t ht _ _ _ _ 2 _ a n (by decide))))
      (congrArg₂ (HMul.hMul : EReal → EReal → EReal) ((ld_weight _ 3 _ n).trans (hw 3)) (tap_at m c t ht _ _ _ _ 3 _ a n (by decide)))

/-- THE RESULT ARRAY after the run is the reference's. -/
theorem final (c : Dev nD) :
    (dats m 0 c).arrAt 5 (cfgs 0).N = Ref.out (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have hy : y = ix3 0 (y 1) (y 2) := by blk_ext []
  rw [hy]
  obtain ⟨e0, e1, e2, e3, e4, e5, e6, e7⟩ := idx t
  have b1 : (y 1 : ℕ) < 256 := (y 1).isLt
  have b2 : (y 2 : ℕ) < 1024 := (y 2).isLt
  have he : (win0_5.blk t).view.emb (ix3 0 (y 1) (y 2)) = ix3 (⟨t.val / 33, e7⟩ : Fin 2) (⟨t.val % 33 * 256 + (y 1 : ℕ), by omega⟩ : Fin 8448)
      (⟨(y 2 : ℕ), b2⟩ : Fin 1024) := by blk_ext [e5]
  exact (block m c t e7 (y 1) (y 2)).trans (congrArg _ he).symm

end Ker
end Cert.OddConv

end
-- ==== Proof.Values.lean ====
/-
  The attention's values: what the call stores of them in a block of 256 rows, and the whole array of values after the run.
-/
module

public import proofs.«01_k».proof.Proof.Gen.ValuesIdeal.Value
public import proofs.«01_k».proof.Proof.Gen.ValuesRefIdeal
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Values

/-- A row of 256 entries normed, times the gain. -/
def rms (h g : Fin 256 → EReal) (x : Fin 256) : EReal :=
  h x * Ideal.rsqrt (Ideal.div (∑ k, h k * h k) (Ideal.ofBits FTy.f32 0x43800000#32) + Ideal.ofBits FTy.f32 0x358637BD#32) * g x

/-- A normed row against a column of weights. -/
def project (h g w : Fin 256 → EReal) : EReal := ∑ x, rms h g x * w x

/-- A head holds its keys' 64 columns before its values' 64; the result holds the values' 64 before 64 zeros. -/
def spread (f : Fin 1024 → EReal) (n : Fin 1024) : EReal :=
  if h : n.val % 128 < 64 then f ⟨n.val / 128 * 128 + (64 + n.val % 128), by omega⟩ else 0

theorem project_spread (h g : Fin 256 → EReal) (w : Fin 256 → Fin 1024 → EReal) (n : Fin 1024) :
    project h g (fun x => spread (w x) n) = spread (fun k => project h g fun x => w x k) n := by
  unfold spread
  by_cases hn : n.val % 128 < 64
  · simp only [dif_pos hn]
  · simp only [dif_neg hn]
    exact Finset.sum_eq_zero fun x _ => mul_zero _

namespace Ref
open Cert.ValuesRefIdeal Cert.ValuesRefIdeal.Gen

/-- The keys' and values' columns of all heads. -/
def proj (A : FVec Ideal S2x8448x2944 .f32) (C : FVec Ideal S1x256 .f32) (E : FVec Ideal S1x256x1024 .f32) : FVec Ideal S2x8448x1024 .f32 :=
  Host.dotGeneral dot_S2x8448x256_S256x1024_S2x8448x1024_2_0_01_1_n_n none (mulf (mulf (extractStridedSlice S2x8448x256 ![0, 0, 2560] A slices_S2x8448x2944_S2x8448x256_0_0_2560) (broadcastInDim S2x8448x256 ![0, 1, 2] bcast_S2x8448x1_S2x8448x256_0_1_2 (Host.rsqrt (addf (Host.divf (broadcastInDim S2x8448x1 ![0, 1] bcast_S2x8448_S2x8448x1_0_1 (Host.reduceAdd (mulf (extractStridedSlice S2x8448x256 ![0, 0, 2560] A slices_S2x8448x2944_S2x8448x256_0_0_2560) (extractStridedSlice S2x8448x256 ![0, 0, 2560] A slices_S2x8448x2944_S2x8448x256_0_0_2560)) (constant S_ .f32 0x00000000#32) reducesTo_S2x8448x256_S2x8448_d2 h_S_)) (broadcastInDim S2x8448x1 ![] bcast_S_S2x8448x1 (constant S_ .f32 0x43800000#32))) (broadcastInDim S2x8448x1 ![] bcast_S_S2x8448x1 (constant S_ .f32 0x358637BD#32)))))) (broadcastInDim S2x8448x256 ![0, 1, 2] bcast_S1x1x256_S2x8448x256_0_1_2 (broadcastInDim S1x1x256 ![2] bcast_S256_S1x1x256_2 (shapeCast _ C shapeCasts_S1x256_S256)))) (shapeCast _ E shapeCasts_S1x256x1024_S256x1024)

/-- The values' columns of each head before zeros. -/
def lanes (X : FVec Ideal S2x8448x1024 .f32) : FVec Ideal S2x8448x1024 .bf16 :=
  truncf .bf16 (shapeCast _ (pad S2x8448x8x128 ![0, 0, 0, 0] ![0, 0, 0, 64] ![0, 0, 0, 0] (extractStridedSlice S2x8448x8x64 ![0, 0, 0, 64] (shapeCast _ X shapeCasts_S2x8448x1024_S2x8448x8x128) slices_S2x8448x8x128_S2x8448x8x64_0_0_0_64) (sitofp .f32 (constantI S_ 32 0#32)) pads_S2x8448x8x64_S2x8448x8x128_000_000_000_0640 h_S_) shapeCasts_S2x8448x8x128_S2x8448x1024) bitsLt_bf16_f32

/-- The reference's result. -/
def out (A : FVec Ideal S2x8448x2944 .f32) (C : FVec Ideal S1x256 .f32) (E : FVec Ideal S1x256x1024 .f32) : FVec Ideal S2x8448x1024 .bf16 :=
  lanes (proj A C E)

theorem proj_at (A : FVec Ideal S2x8448x2944 .f32) (C : FVec Ideal S1x256 .f32) (E : FVec Ideal S1x256x1024 .f32) (b : Fin 2) (r : Fin 8448) (n : Fin 1024) :
    proj A C E (ix3 b r n) = project (fun x => A (ix3 b r ⟨2560 + x.val, by omega⟩)) (fun x => C (ix2 0 x)) (fun x => E (ix3 0 x n)) := by
  pointwise [proj, project, rms]

theorem zero_at : (FloatOps.sitofp FTy.f32 0#32 : Ideal .f32) = 0 := by
  show (((0#32 : BitVec 32).toInt : ℝ) : EReal) = 0
  simp

theorem lanes_at (X : FVec Ideal S2x8448x1024 .f32) (b : Fin 2) (r : Fin 8448) (n : Fin 1024) :
    lanes X (ix3 b r n) = spread (fun k => X (ix3 b r k)) n := by
  pointwise [lanes, spread]
  by_cases hn : n.val % 128 < 64
  · rw [dif_pos ⟨by omega, hn⟩, dif_pos hn]
  · rw [dif_neg fun h => hn h.2, dif_neg hn]
    exact zero_at

end Ref

namespace Ker
open Cert.ValuesIdeal Cert.ValuesIdeal.Gen

variable (m : (ℓ : Loc nD τ sig) → Buf (Elt Ideal) ℓ)

theorem pay_at (h : Vec Ideal S1x256x256 .f32) (g : Vec Ideal S1x256 .f32) (w : Vec Ideal S256x1024 .bf16) (a : Fin 256) (n : Fin 1024) :
    k0_pay2 (k0_pay4 h g) w (ix3 0 a n) = project (fun x => h (ix3 0 a x)) (fun x => g (ix2 0 x)) (fun x => w (ix2 x n)) := by
  pointwise [k0_pay2, k0_pay4, project, rms]

theorem idx : ∀ t : Fin cfg0.N, win0_0.index t = ![t.val / 33, t.val % 33, 0] ∧ win0_2.index t = ![0, 0] ∧ win0_6.index t = ![0, 0]
    ∧ win0_11.index t = ![t.val / 33, t.val % 33, 0] ∧ t.val / 33 < 2 :=
  (by decide +kernel : ∀ t : Fin grid0.N, _)

theorem out_at (i : grid0.Coords) (x0 : Vec Ideal S1x256x2944 .f32) (x1 : Vec Ideal S1x384 .f32) (x2 : Vec Ideal S1x256 .f32) (x3 x4 : Vec Ideal S384x1024 .bf16) (x5 x6 : Vec Ideal S256x1024 .bf16) (x7 x8 : Vec Ideal S128x1024 .f32) (a : Fin 256) (n : Fin 1024) :
    out0_11 i x0 x1 x2 x3 x4 x5 x6 x7 x8 (ix3 0 a n)
      = project (fun x => x0 (ix3 0 a ⟨2560 + x.val, by omega⟩)) (fun x => x2 (ix2 0 x)) (fun x => x6 (ix2 x n)) := by
  have hm : ∀ z : Fin 256, View.ld x0 r0_2 (ix3 0 a z) = x0 (ix3 0 a ⟨2560 + z.val, by omega⟩) :=
    fun z => View.ld_unit_apply_of _ _ _ _ _ _ fun b => by fin_cases b <;> simp_all
  have hg : ∀ z : Fin 256, View.ld x2 r0_3 (ix2 0 z) = x2 (ix2 0 z) :=
    fun z => View.ld_unit_apply_of _ _ _ _ _ _ fun b => by fin_cases b <;> simp_all
  have hw : ∀ z : Fin 256, View.ld x6 r0_7 (ix2 z n) = x6 (ix2 z n) :=
    fun z => View.ld_unit_apply_of _ _ _ _ _ _ fun b => by fin_cases b <;> simp_all
  unfold out0_11 k0_pay15
  frame_out
  rw [pay_at]
  simp only [hm]

/-- The gain as the call takes it. -/
theorem gain_at (c : Dev nD) (x : Fin 256) : (show FVec Ideal S1x256 .f32 from V m c main_v63) (ix2 0 x)
    = (show FVec Ideal S1x256 .f32 from m ((c : Thread nD τ).loc main_arg2)) (ix2 0 x) := by
  simp only [V, hostOps0, List.flatten_cons, List.flatten_nil, List.append_nil, List.cons_append, List.nil_append]
  entry_read
  pointwise

/-- The values' columns of the weights before columns of zeros. -/
def spreadW (E : FVec Ideal S1x256x1024 .f32) : FVec Ideal S256x1024 .f32 :=
  shapeCast S256x1024 (concatenate S256x8x128 2 [⟨S256x8x64, extractStridedSlice S256x8x64 ![0, 0, 64] (shapeCast S256x8x128 (shapeCast S256x1024 E shapeCasts_S1x256x1024_S256x1024) shapeCasts_S256x1024_S256x8x128) slices_S256x8x128_S256x8x64_0_0_64⟩,
    ⟨S256x8x64, broadcastInDim S256x8x64 ![] bcast_S_S256x8x64 (constant S_ .f32 0x00000000#32)⟩] concatenates_S256x8x64_S256x8x64_S256x8x128_d2) shapeCasts_S256x8x128_S256x1024

theorem spreadW_at (E : FVec Ideal S1x256x1024 .f32) (x : Fin 256) (n : Fin 1024) :
    spreadW E (ix2 x n) = spread (fun k => E (ix3 0 x k)) n := by
  pointwise [spreadW, spread]

theorem V_v61 (c : Dev nD) : V m c main_v61 = truncf .bf16 (spreadW (m ((c : Thread nD τ).loc main_arg4))) bitsLt_bf16_f32 := by
  simp only [V, hostOps0, List.flatten_cons, List.flatten_nil, List.append_nil, List.cons_append, List.nil_append]
  after_reads_simp
  rfl

/-- The weights as the call takes them. -/
theorem weight_at (c : Dev nD) (x : Fin 256) (n : Fin 1024) : (show FVec Ideal S256x1024 .bf16 from V m c main_v61) (ix2 x n)
    = spread (fun k => (show FVec Ideal S1x256x1024 .f32 from m ((c : Thread nD τ).loc main_arg4)) (ix3 0 x k)) n := by
  rw [V_v61]
  exact spreadW_at _ x n

theorem V_arg0 (c : Dev nD) : V m c main_arg0 = m ((c : Thread nD τ).loc main_arg0) := by
  simp only [V, hostOps0, List.flatten_cons, List.flatten_nil, List.append_nil, List.cons_append, List.nil_append]
  after_reads_simp

/-- What a grid point leaves of the values. -/
theorem block (c : Dev nD) (t : Fin cfg0.N) (ht : t.val / 33 < 2) (a : Fin 256) (n : Fin 1024) :
    out0_11 (grid0.coords t) (iblk m c 0 t) (iblk m c 1 t) (iblk m c 2 t) (iblk m c 3 t) (iblk m c 4 t) (iblk m c 5 t) (iblk m c 6 t) (iblk m c 7 t) (iblk m c 8 t) (ix3 0 a n)
      = Ref.out (m ((c : Thread nD τ).loc main_arg0)) (m ((c : Thread nD τ).loc main_arg2)) (m ((c : Thread nD τ).loc main_arg4))
        (ix3 (⟨t.val / 33, ht⟩ : Fin 2) (⟨t.val % 33 * 256 + a.val, by omega⟩ : Fin 8448) n) := by
  obtain ⟨e0, e2, e6, -⟩ := idx t
  have h0 : ∀ x : Fin 2944, (show FVec Ideal S1x256x2944 .f32 from iblk m c 0 t) (ix3 0 a x)
      = (show FVec Ideal S2x8448x2944 .f32 from m ((c : Thread nD τ).loc main_arg0)) (ix3 (⟨t.val / 33, ht⟩ : Fin 2) (⟨t.val % 33 * 256 + a.val, by omega⟩ : Fin 8448) x) := fun x => by
    refine Eq.trans ?_ (congrFun (V_arg0 m c) _)
    unfold iblk
    generalize V m c = W
    blk_ext [e0]
  have h2 : ∀ x : Fin 256, (show FVec Ideal S1x256 .f32 from iblk m c 2 t) (ix2 0 x)
      = (show FVec Ideal S1x256 .f32 from V m c main_v63) (ix2 0 x) := fun x => by
    unfold iblk
    generalize V m c = W
    blk_ext [e2]
  have h6 : ∀ x : Fin 256, (show FVec Ideal S256x1024 .bf16 from iblk m c 6 t) (ix2 x n)
      = (show FVec Ideal S256x1024 .bf16 from V m c main_v61) (ix2 x n) := fun x => by
    unfold iblk
    generalize V m c = W
    blk_ext [e6]
  have hr : Ref.out (m ((c : Thread nD τ).loc main_arg0)) (m ((c : Thread nD τ).loc main_arg2)) (m ((c : Thread nD τ).loc main_arg4))
        (ix3 (⟨t.val / 33, ht⟩ : Fin 2) (⟨t.val % 33 * 256 + a.val, by omega⟩ : Fin 8448) n)
      = spread (fun k => project (fun x => (show FVec Ideal S2x8448x2944 .f32 from m ((c : Thread nD τ).loc main_arg0)) (ix3 (⟨t.val / 33, ht⟩ : Fin 2) (⟨t.val % 33 * 256 + a.val, by omega⟩ : Fin 8448) ⟨2560 + x.val, by omega⟩))
          (fun x => (show FVec Ideal S1x256 .f32 from m ((c : Thread nD τ).loc main_arg2)) (ix2 0 x)) (fun x => (show FVec Ideal S1x256x1024 .f32 from m ((c : Thread nD τ).loc main_arg4)) (ix3 0 x k))) n :=
    (Ref.lanes_at _ _ _ n).trans (congrArg (fun f => spread f n) (funext fun k => Ref.proj_at _ _ _ _ _ k))
  refine (out_at _ _ _ _ _ _ _ _ _ _ a n).trans (Eq.trans ?_ hr.symm)
  refine Eq.trans ?_ (project_spread _ _ (fun x k => (show FVec Ideal S1x256x1024 .f32 from m ((c : Thread nD τ).loc main_arg4)) (ix3 0 x k)) n)
  exact congr (congr (congrArg project (funext fun x => h0 _)) (funext fun x => (h2 x).trans (gain_at m c x))) (funext fun x => (h6 x).trans (weight_at m c x n))

/-- THE VALUES after the run are the reference's. -/
theorem final (c : Dev nD) :
    (dats m 0 c).arrAt 11 (cfgs 0).N = Ref.out (m ((c : Thread nD τ).loc main_arg0)) (m ((c : Thread nD τ).loc main_arg2)) (m ((c : Thread nD τ).loc main_arg4)) := by
  refine (dats m 0 c).arrAt_eq_of_covers 11 _ (by decide +kernel) fun t _ y => ?_
  blk_simp
  rw [after0_11]
  have hy : y = ix3 0 (y 1) (y 2) := by blk_ext []
  rw [hy]
  obtain ⟨-, -, -, e11, e8⟩ := idx t
  have b1 : (y 1 : ℕ) < 256 := (y 1).isLt
  have b2 : (y 2 : ℕ) < 1024 := (y 2).isLt
  have he : (win0_11.blk t).view.emb (ix3 0 (y 1) (y 2)) = ix3 (⟨t.val / 33, e8⟩ : Fin 2) (⟨t.val % 33 * 256 + (y 1 : ℕ), by omega⟩ : Fin 8448)
      (⟨(y 2 : ℕ), b2⟩ : Fin 1024) := by blk_ext [e11]
  exact (block m c t e8 (y 1) (y 2)).trans (congrArg _ he).symm

end Ker
end Cert.Values

end
-- ==== Proof.lean ====
/-
  The claims: each call's frames, and that its results are its reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.EvenIn.Frame
public import proofs.«01_k».proof.Proof.Gen.EvenInIdeal.Value
public import proofs.«01_k».proof.Proof.Gen.EvenInRefIdeal.Run
public import proofs.«01_k».proof.Proof.Gen.OddIn.Frame
public import proofs.«01_k».proof.Proof.Gen.OddInIdeal.Value
public import proofs.«01_k».proof.Proof.Gen.OddInRefIdeal.Run
public import proofs.«01_k».proof.Proof.Gen.OddOut.Frame
public import proofs.«01_k».proof.Proof.Gen.OddOutIdeal.Value
public import proofs.«01_k».proof.Proof.Gen.OddOutRefIdeal.Run
public import proofs.«01_k».proof.Proof.Gen.EvenOut.Frame
public import proofs.«01_k».proof.Proof.Gen.EvenOutIdeal.Value
public import proofs.«01_k».proof.Proof.Gen.EvenOutRefIdeal.Run
public import proofs.«01_k».proof.Proof.Gen.Mod.Frame
public import proofs.«01_k».proof.Proof.Gen.ModIdeal.Value
public import proofs.«01_k».proof.Proof.Gen.ModRefIdeal.Run
public import proofs.«01_k».proof.Proof.Gen.EvenConv.Frame
public import proofs.«01_k».proof.Proof.Gen.EvenConvIdeal.Value
public import proofs.«01_k».proof.Proof.Gen.EvenConvRefIdeal.Run
public import proofs.«01_k».proof.Proof.Gen.OddConv.Frame
public import proofs.«01_k».proof.Proof.Gen.OddConvIdeal.Value
public import proofs.«01_k».proof.Proof.Gen.OddConvRefIdeal.Run
public import proofs.«01_k».proof.Proof.Gen.Values.Frame
public import proofs.«01_k».proof.Proof.Gen.ValuesIdeal.Value
public import proofs.«01_k».proof.Proof.Gen.ValuesRefIdeal.Run
public import proofs.«01_k».proof.Proof.Gen.Last.Frame
public import proofs.«01_k».proof.Proof.Gen.LastIdeal.Value
public import proofs.«01_k».proof.Proof.Gen.LastRefIdeal.Run
public import proofs.«01_k».proof.Proof.Block
public import proofs.«01_k».proof.Proof.EvenProj
public import proofs.«01_k».proof.Proof.OddProj
public import proofs.«01_k».proof.Proof.OddOut
public import proofs.«01_k».proof.Proof.EvenOut
public import proofs.«01_k».proof.Proof.LastNorm
public import proofs.«01_k».proof.Proof.Modulation
public import proofs.«01_k».proof.Proof.EvenConv
public import proofs.«01_k».proof.Proof.OddConv
public import proofs.«01_k».proof.Proof.Values
public import Idealize.ShloMosaic.Lib.Quiescent

@[expose] public section

noncomputable section

namespace Cert.Proof

open Idealize.ShloMosaic Idealize.ShloMosaic.TcCoe Idealize.SL.Sem

/-- The reference's arguments end unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where queries and keys are finite, the call's result is the reference's. -/
theorem attention : Cert.algebraic_KernelIdeal_ReferenceIdeal_pre_finite := by
  intro m g m' g' hpre hag
  have hQ := fun c i => (Attend.Finite.real_at _ _ _ (hpre c) i).1
  have hK := fun c i => (Attend.Finite.real_at _ _ _ (hpre c) i).2
  refine ⟨fun c => Attend.Ref.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run _ _ _).mono (fun r h c => ⟨(h c).1.trans (Attend.Ker.final m c (hQ c) (hK c)), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    rw [(hag c).1, (hag c).2.1, (hag c).2.2]
    rfl

/-- The even projection's reference leaves its arguments; it has no semaphore. -/
theorem frame_EvenIn : Cert.quiescent_EvenInRefIdeal := fun m ρ _ =>
  (θ_run Cert.EvenInRefIdeal.defs _ _).mono (fun r h => ⟨fun c => (h c).2, sem_eq_zero_of_no_sems (by decide) r.2⟩)
    (Cert.EvenInRefIdeal.Value.run (F := Ideal) m ρ)

/-- The odd projection's reference leaves its arguments; it has no semaphore. -/
theorem frame_OddIn : Cert.quiescent_OddInRefIdeal := fun m ρ _ =>
  (θ_run Cert.OddInRefIdeal.defs _ _).mono (fun r h => ⟨fun c => (h c).2.2, sem_eq_zero_of_no_sems (by decide) r.2⟩)
    (Cert.OddInRefIdeal.Value.run (F := Ideal) m ρ)

/-- The odd output projection's reference leaves its arguments; it has no semaphore. -/
theorem frame_OddOut : Cert.quiescent_OddOutRefIdeal := fun m ρ _ =>
  (θ_run Cert.OddOutRefIdeal.defs _ _).mono (fun r h => ⟨fun c => (h c).2.2, sem_eq_zero_of_no_sems (by decide) r.2⟩)
    (Cert.OddOutRefIdeal.Value.run (F := Ideal) m ρ)

/-- The last norm's reference leaves its arguments; it has no semaphore. -/
theorem frame_Last : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The even output projection's reference leaves its arguments; it has no semaphore. -/
theorem frame_EvenOut : Cert.quiescent_EvenOutRefIdeal := fun m ρ _ =>
  (θ_run Cert.EvenOutRefIdeal.defs _ _).mono (fun r h => ⟨fun c => (h c).2.2, sem_eq_zero_of_no_sems (by decide) r.2⟩)
    (Cert.EvenOutRefIdeal.Value.run (F := Ideal) m ρ)

/-- The modulation's reference leaves its arguments; it has no semaphore. -/
theorem frame_Mod : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The even convolution's reference leaves its arguments; it has no semaphore. -/
theorem frame_EvenConv : Cert.quiescent_EvenConvRefIdeal := fun m ρ _ =>
  (θ_run Cert.EvenConvRefIdeal.defs _ _).mono (fun r h => ⟨fun c => (h c).2, sem_eq_zero_of_no_sems (by decide) r.2⟩)
    (Cert.EvenConvRefIdeal.Value.run (F := Ideal) m ρ)

/-- The odd convolution's reference leaves its arguments; it has no semaphore. -/
theorem frame_OddConv : Cert.quiescent_OddConvRefIdeal := fun m ρ _ =>
  (θ_run Cert.OddConvRefIdeal.defs _ _).mono (fun r h => ⟨fun c => (h c).2, sem_eq_zero_of_no_sems (by decide) r.2⟩)
    (Cert.OddConvRefIdeal.Value.run (F := Ideal) m ρ)

/-- The even projection is the reference's. -/
theorem evenProjection : Cert.algebraic_EvenInIdeal_EvenInRefIdeal := by
  intro m g m' g' _ hag
  refine ⟨fun c => EvenProj.Ref.out (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)) (m ((c.tc : Thread Cert.EvenInIdeal.nD Cert.EvenInIdeal.τ).loc Cert.EvenInIdeal.main_arg4)), ?_, ?_⟩
  · exact (θ_run _ _ _).mono (fun r h c => ⟨(h c).1.trans (EvenProj.Ker.final m c), (h c).2⟩)
      (Cert.EvenInIdeal.Value.run_blocks (F := Ideal) m g)
  · refine (θ_run _ _ _).mono (fun r h c => ⟨(h c).1.trans ?_, (h c).2⟩) (Cert.EvenInRefIdeal.Value.run (F := Ideal) m' g')
    rw [(hag c).1, (hag c).2.1, (hag c).2.2.1, (hag c).2.2.2.1, (hag c).2.2.2.2]
    rfl

/-- The odd layer's stream and projection are the reference's. -/
theorem oddProjection : Cert.algebraic_OddInIdeal_OddInRefIdeal := by
  intro m g m' g' _ hag
  refine ⟨fun c => OddProj.Ref.stream (m ((c.tc : Thread Cert.OddInIdeal.nD Cert.OddInIdeal.τ).loc Cert.OddInIdeal.main_arg0)) (m ((c.tc : Thread Cert.OddInIdeal.nD Cert.OddInIdeal.τ).loc Cert.OddInIdeal.main_arg1)) (m ((c.tc : Thread Cert.OddInIdeal.nD Cert.OddInIdeal.τ).loc Cert.OddInIdeal.main_arg2)), fun c => OddProj.Ref.proj (m ((c.tc : Thread Cert.OddInIdeal.nD Cert.OddInIdeal.τ).loc Cert.OddInIdeal.main_arg0)) (m ((c.tc : Thread Cert.OddInIdeal.nD Cert.OddInIdeal.τ).loc Cert.OddInIdeal.main_arg1)) (m ((c.tc : Thread Cert.OddInIdeal.nD Cert.OddInIdeal.τ).loc Cert.OddInIdeal.main_arg2)) (m ((c.tc : Thread Cert.OddInIdeal.nD Cert.OddInIdeal.τ).loc Cert.OddInIdeal.main_arg3)) (m ((c.tc : Thread Cert.OddInIdeal.nD Cert.OddInIdeal.τ).loc Cert.OddInIdeal.main_arg4)), ?_, ?_⟩
  · exact (θ_run _ _ _).mono (fun r h c => ⟨(h c).1.trans (OddProj.Ker.final_stream m c), (h c).2.1.trans (OddProj.Ker.final_proj m c), (h c).2.2⟩)
      (Cert.OddInIdeal.Value.run_blocks (F := Ideal) m g)
  · refine (θ_run _ _ _).mono (fun r h c => ⟨(h c).1.trans ?_, (h c).2.1.trans ?_, (h c).2.2⟩) (Cert.OddInRefIdeal.Value.run (F := Ideal) m' g')
    · refine Eq.trans (b := OddProj.Ref.stream (m' ((c.tc : Thread Cert.OddInRefIdeal.nD Cert.OddInRefIdeal.τ).loc Cert.OddInRefIdeal.main_arg0)) (m' ((c.tc : Thread Cert.OddInRefIdeal.nD Cert.OddInRefIdeal.τ).loc Cert.OddInRefIdeal.main_arg1)) (m' ((c.tc : Thread Cert.OddInRefIdeal.nD Cert.OddInRefIdeal.τ).loc Cert.OddInRefIdeal.main_arg2))) rfl ?_
      rw [(hag c).1, (hag c).2.1, (hag c).2.2.1]
    · refine Eq.trans (b := OddProj.Ref.proj (m' ((c.tc : Thread Cert.OddInRefIdeal.nD Cert.OddInRefIdeal.τ).loc Cert.OddInRefIdeal.main_arg0)) (m' ((c.tc : Thread Cert.OddInRefIdeal.nD Cert.OddInRefIdeal.τ).loc Cert.OddInRefIdeal.main_arg1)) (m' ((c.tc : Thread Cert.OddInRefIdeal.nD Cert.OddInRefIdeal.τ).loc Cert.OddInRefIdeal.main_arg2)) (m' ((c.tc : Thread Cert.OddInRefIdeal.nD Cert.OddInRefIdeal.τ).loc Cert.OddInRefIdeal.main_arg3)) (m' ((c.tc : Thread Cert.OddInRefIdeal.nD Cert.OddInRefIdeal.τ).loc Cert.OddInRefIdeal.main_arg4))) rfl ?_
      rw [(hag c).1, (hag c).2.1, (hag c).2.2.1, (hag c).2.2.2.1, (hag c).2.2.2.2]

/-- The odd layer's output stream and its norm are the reference's. -/
theorem oddOutput : Cert.algebraic_OddOutIdeal_OddOutRefIdeal := by
  intro m g m' g' _ hag
  refine ⟨fun c => OddOut.Ref.stream (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg6)), fun c => OddOut.Ref.normedOf (OddOut.Ref.stream (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5)) (m ((c.tc : Thread Cert.OddOutIdeal.nD Cert.OddOutIdeal.τ).loc Cert.OddOutIdeal.main_arg6))) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg7)), ?_, ?_⟩
  · exact (θ_run _ _ _).mono (fun r h c => ⟨(h c).1.trans (OddOut.Ker.final_stream m c), (h c).2.1.trans (OddOut.Ker.final_norm m c), (h c).2.2⟩)
      (Cert.OddOutIdeal.Value.run_blocks (F := Ideal) m g)
  · refine (θ_run _ _ _).mono (fun r h c => ⟨(h c).1.trans ?_, (h c).2.1.trans ?_, (h c).2.2⟩) (Cert.OddOutRefIdeal.Value.run (F := Ideal) m' g')
    · refine Eq.trans (b := OddOut.Ref.stream (m' ((c.tc : Thread Cert.OddOutRefIdeal.nD Cert.OddOutRefIdeal.τ).loc Cert.OddOutRefIdeal.main_arg0)) (m' ((c.tc : Thread Cert.OddOutRefIdeal.nD Cert.OddOutRefIdeal.τ).loc Cert.OddOutRefIdeal.main_arg1)) (m' ((c.tc : Thread Cert.OddOutRefIdeal.nD Cert.OddOutRefIdeal.τ).loc Cert.OddOutRefIdeal.main_arg2)) (m' ((c.tc : Thread Cert.OddOutRefIdeal.nD Cert.OddOutRefIdeal.τ).loc Cert.OddOutRefIdeal.main_arg3)) (m' ((c.tc : Thread Cert.OddOutRefIdeal.nD Cert.OddOutRefIdeal.τ).loc Cert.OddOutRefIdeal.main_arg4)) (m' ((c.tc : Thread Cert.OddOutRefIdeal.nD Cert.OddOutRefIdeal.τ).loc Cert.OddOutRefIdeal.main_arg5)) (m' ((c.tc : Thread Cert.OddOutRefIdeal.nD Cert.OddOutRefIdeal.τ).loc Cert.OddOutRefIdeal.main_arg6))) rfl ?_
      rw [(hag c).1, (hag c).2.1, (hag c).2.2.1, (hag c).2.2.2.1, (hag c).2.2.2.2.1, (hag c).2.2.2.2.2.1, (hag c).2.2.2.2.2.2.1]
    · refine Eq.trans (b := OddOut.Ref.normedOf (OddOut.Ref.stream (m' ((c.tc : Thread Cert.OddOutRefIdeal.nD Cert.OddOutRefIdeal.τ).loc Cert.OddOutRefIdeal.main_arg0)) (m' ((c.tc : Thread Cert.OddOutRefIdeal.nD Cert.OddOutRefIdeal.τ).loc Cert.OddOutRefIdeal.main_arg1)) (m' ((c.tc : Thread Cert.OddOutRefIdeal.nD Cert.OddOutRefIdeal.τ).loc Cert.OddOutRefIdeal.main_arg2)) (m' ((c.tc : Thread Cert.OddOutRefIdeal.nD Cert.OddOutRefIdeal.τ).loc Cert.OddOutRefIdeal.main_arg3)) (m' ((c.tc : Thread Cert.OddOutRefIdeal.nD Cert.OddOutRefIdeal.τ).loc Cert.OddOutRefIdeal.main_arg4)) (m' ((c.tc : Thread Cert.OddOutRefIdeal.nD Cert.OddOutRefIdeal.τ).loc Cert.OddOutRefIdeal.main_arg5)) (m' ((c.tc : Thread Cert.OddOutRefIdeal.nD Cert.OddOutRefIdeal.τ).loc Cert.OddOutRefIdeal.main_arg6))) (m' ((c.tc : Thread Cert.OddOutRefIdeal.nD Cert.OddOutRefIdeal.τ).loc Cert.OddOutRefIdeal.main_arg4)) (m' ((c.tc : Thread Cert.OddOutRefIdeal.nD Cert.OddOutRefIdeal.τ).loc Cert.OddOutRefIdeal.main_arg7))) rfl ?_
      rw [(hag c).1, (hag c).2.1, (hag c).2.2.1, (hag c).2.2.2.1, (hag c).2.2.2.2.1, (hag c).2.2.2.2.2.1, (hag c).2.2.2.2.2.2.1, (hag c).2.2.2.2.2.2.2]

/-- The result of the whole is the reference's. -/
theorem lastNorm : Cert.algebraic_LastIdeal_LastRefIdeal := by
  intro m g m' g' _ hag
  refine ⟨fun c => LastNorm.Ref.norm (LastNorm.Ref.stream (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2))) (m ((c.tc : Thread Cert.LastIdeal.nD Cert.LastIdeal.τ).loc Cert.LastIdeal.main_arg3)), ?_, ?_⟩
  · exact (θ_run _ _ _).mono (fun r h c => ⟨(h c).1.trans (LastNorm.Ker.final m c), (h c).2⟩)
      (Cert.LastIdeal.Value.run_blocks (F := Ideal) m g)
  · refine (θ_run _ _ _).mono (fun r h c => ⟨(h c).1.trans ?_, (h c).2⟩) (Cert.LastRefIdeal.Value.run (F := Ideal) m' g')
    rw [(hag c).1, (hag c).2.1, (hag c).2.2.1, (hag c).2.2.2]
    rfl

/-- The even layer's output stream and its norm are the reference's. -/
theorem evenOutput : Cert.algebraic_EvenOutIdeal_EvenOutRefIdeal := by
  intro m g m' g' _ hag
  refine ⟨fun c => EvenOut.Ref.stream (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg6)) (m ((c.tc : Thread Cert.EvenOutIdeal.nD Cert.EvenOutIdeal.τ).loc Cert.EvenOutIdeal.main_arg7)) (m ((c.tc : Thread Cert.EvenOutIdeal.nD Cert.EvenOutIdeal.τ).loc Cert.EvenOutIdeal.main_arg8)) (m ((c.tc : Thread Cert.EvenOutIdeal.nD Cert.EvenOutIdeal.τ).loc Cert.EvenOutIdeal.main_arg9)) (m ((c.tc : Thread Cert.EvenOutIdeal.nD Cert.EvenOutIdeal.τ).loc Cert.EvenOutIdeal.main_arg11)) (m ((c.tc : Thread Cert.EvenOutIdeal.nD Cert.EvenOutIdeal.τ).loc Cert.EvenOutIdeal.main_arg12)), fun c => EvenOut.Ref.normed (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5)) (m ((c.tc : Thread Cert.EvenOutIdeal.nD Cert.EvenOutIdeal.τ).loc Cert.EvenOutIdeal.main_arg6)) (m ((c.tc : Thread Cert.EvenOutIdeal.nD Cert.EvenOutIdeal.τ).loc Cert.EvenOutIdeal.main_arg7)) (m ((c.tc : Thread Cert.EvenOutIdeal.nD Cert.EvenOutIdeal.τ).loc Cert.EvenOutIdeal.main_arg8)) (m ((c.tc : Thread Cert.EvenOutIdeal.nD Cert.EvenOutIdeal.τ).loc Cert.EvenOutIdeal.main_arg9)) (m ((c.tc : Thread Cert.EvenOutIdeal.nD Cert.EvenOutIdeal.τ).loc Cert.EvenOutIdeal.main_arg10)) (m ((c.tc : Thread Cert.EvenOutIdeal.nD Cert.EvenOutIdeal.τ).loc Cert.EvenOutIdeal.main_arg11)) (m ((c.tc : Thread Cert.EvenOutIdeal.nD Cert.EvenOutIdeal.τ).loc Cert.EvenOutIdeal.main_arg12)), ?_, ?_⟩
  · exact (θ_run _ _ _).mono (fun r h c => ⟨(h c).1.trans (EvenOut.Ker.final_stream m c), (h c).2.1.trans (EvenOut.Ker.final_norm m c), (h c).2.2⟩)
      (Cert.EvenOutIdeal.Value.run_blocks (F := Ideal) m g)
  · refine (θ_run _ _ _).mono (fun r h c => ⟨(h c).1.trans ?_, (h c).2.1.trans ?_, (h c).2.2⟩) (Cert.EvenOutRefIdeal.Value.run (F := Ideal) m' g')
    · refine Eq.trans (b := EvenOut.Ref.stream (m' ((c.tc : Thread Cert.EvenOutRefIdeal.nD Cert.EvenOutRefIdeal.τ).loc Cert.EvenOutRefIdeal.main_arg0)) (m' ((c.tc : Thread Cert.EvenOutRefIdeal.nD Cert.EvenOutRefIdeal.τ).loc Cert.EvenOutRefIdeal.main_arg1)) (m' ((c.tc : Thread Cert.EvenOutRefIdeal.nD Cert.EvenOutRefIdeal.τ).loc Cert.EvenOutRefIdeal.main_arg2)) (m' ((c.tc : Thread Cert.EvenOutRefIdeal.nD Cert.EvenOutRefIdeal.τ).loc Cert.EvenOutRefIdeal.main_arg3)) (m' ((c.tc : Thread Cert.EvenOutRefIdeal.nD Cert.EvenOutRefIdeal.τ).loc Cert.EvenOutRefIdeal.main_arg4)) (m' ((c.tc : Thread Cert.EvenOutRefIdeal.nD Cert.EvenOutRefIdeal.τ).loc Cert.EvenOutRefIdeal.main_arg5)) (m' ((c.tc : Thread Cert.EvenOutRefIdeal.nD Cert.EvenOutRefIdeal.τ).loc Cert.EvenOutRefIdeal.main_arg6)) (m' ((c.tc : Thread Cert.EvenOutRefIdeal.nD Cert.EvenOutRefIdeal.τ).loc Cert.EvenOutRefIdeal.main_arg7)) (m' ((c.tc : Thread Cert.EvenOutRefIdeal.nD Cert.EvenOutRefIdeal.τ).loc Cert.EvenOutRefIdeal.main_arg8)) (m' ((c.tc : Thread Cert.EvenOutRefIdeal.nD Cert.EvenOutRefIdeal.τ).loc Cert.EvenOutRefIdeal.main_arg9)) (m' ((c.tc : Thread Cert.EvenOutRefIdeal.nD Cert.EvenOutRefIdeal.τ).loc Cert.EvenOutRefIdeal.main_arg11)) (m' ((c.tc : Thread Cert.EvenOutRefIdeal.nD Cert.EvenOutRefIdeal.τ).loc Cert.EvenOutRefIdeal.main_arg12))) rfl ?_
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.2.1, (hag c).2.2.2.2.2.2.2.2.2.2.2.2]
    · refine Eq.trans (b := EvenOut.Ref.normed (m' ((c.tc : Thread Cert.EvenOutRefIdeal.nD Cert.EvenOutRefIdeal.τ).loc Cert.EvenOutRefIdeal.main_arg0)) (m' ((c.tc : Thread Cert.EvenOutRefIdeal.nD Cert.EvenOutRefIdeal.τ).loc Cert.EvenOutRefIdeal.main_arg1)) (m' ((c.tc : Thread Cert.EvenOutRefIdeal.nD Cert.EvenOutRefIdeal.τ).loc Cert.EvenOutRefIdeal.main_arg2)) (m' ((c.tc : Thread Cert.EvenOutRefIdeal.nD Cert.EvenOutRefIdeal.τ).loc Cert.EvenOutRefIdeal.main_arg3)) (m' ((c.tc : Thread Cert.EvenOutRefIdeal.nD Cert.EvenOutRefIdeal.τ).loc Cert.EvenOutRefIdeal.main_arg4)) (m' ((c.tc : Thread Cert.EvenOutRefIdeal.nD Cert.EvenOutRefIdeal.τ).loc Cert.EvenOutRefIdeal.main_arg5)) (m' ((c.tc : Thread Cert.EvenOutRefIdeal.nD Cert.EvenOutRefIdeal.τ).loc Cert.EvenOutRefIdeal.main_arg6)) (m' ((c.tc : Thread Cert.EvenOutRefIdeal.nD Cert.EvenOutRefIdeal.τ).loc Cert.EvenOutRefIdeal.main_arg7)) (m' ((c.tc : Thread Cert.EvenOutRefIdeal.nD Cert.EvenOutRefIdeal.τ).loc Cert.EvenOutRefIdeal.main_arg8)) (m' ((c.tc : Thread Cert.EvenOutRefIdeal.nD Cert.EvenOutRefIdeal.τ).loc Cert.EvenOutRefIdeal.main_arg9)) (m' ((c.tc : Thread Cert.EvenOutRefIdeal.nD Cert.EvenOutRefIdeal.τ).loc Cert.EvenOutRefIdeal.main_arg10)) (m' ((c.tc : Thread Cert.EvenOutRefIdeal.nD Cert.EvenOutRefIdeal.τ).loc Cert.EvenOutRefIdeal.main_arg11)) (m' ((c.tc : Thread Cert.EvenOutRefIdeal.nD Cert.EvenOutRefIdeal.τ).loc Cert.EvenOutRefIdeal.main_arg12))) rfl ?_
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]

/-- The modulation vectors are the reference's. -/
theorem modulation : Cert.algebraic_ModIdeal_ModRefIdeal := by
  intro m g m' g' _ hag
  refine ⟨fun c => Modulation.Ref.out (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)), ?_, ?_⟩
  · exact (θ_run _ _ _).mono (fun r h c => ⟨(h c).1.trans (Modulation.Ker.final m c), (h c).2⟩)
      (Cert.ModIdeal.Value.run_blocks (F := Ideal) m g)
  · refine (θ_run _ _ _).mono (fun r h c => ⟨(h c).1.trans ?_, (h c).2⟩) (Cert.ModRefIdeal.Value.run (F := Ideal) m' g')
    refine Eq.trans (b := Modulation.Ref.out (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) (m' ((c.tc : Thread Cert.ModRefIdeal.nD Cert.ModRefIdeal.τ).loc Cert.ModRefIdeal.main_arg3))) rfl ?_
    rw [(hag c).1, (hag c).2.1, (hag c).2.2.1, (hag c).2.2.2]

/-- The even layer's convolution is the reference's. -/
theorem evenConv : Cert.algebraic_EvenConvIdeal_EvenConvRefIdeal := by
  intro m g m' g' _ hag
  refine ⟨fun c => EvenConv.Ref.out (m ((c.tc : Thread Cert.EvenConvIdeal.nD Cert.EvenConvIdeal.τ).loc Cert.EvenConvIdeal.main_arg0)) (m ((c.tc : Thread Cert.EvenConvIdeal.nD Cert.EvenConvIdeal.τ).loc Cert.EvenConvIdeal.main_arg1)) (m ((c.tc : Thread Cert.EvenConvIdeal.nD Cert.EvenConvIdeal.τ).loc Cert.EvenConvIdeal.main_arg2)), ?_, ?_⟩
  · exact (θ_run _ _ _).mono (fun r h c => ⟨(h c).1.trans (EvenConv.Ker.final m c), (h c).2⟩)
      (Cert.EvenConvIdeal.Value.run_blocks (F := Ideal) m g)
  · refine (θ_run _ _ _).mono (fun r h c => ⟨(h c).1.trans ?_, (h c).2⟩) (Cert.EvenConvRefIdeal.Value.run (F := Ideal) m' g')
    refine Eq.trans (b := EvenConv.Ref.out (m' ((c.tc : Thread Cert.EvenConvRefIdeal.nD Cert.EvenConvRefIdeal.τ).loc Cert.EvenConvRefIdeal.main_arg0)) (m' ((c.tc : Thread Cert.EvenConvRefIdeal.nD Cert.EvenConvRefIdeal.τ).loc Cert.EvenConvRefIdeal.main_arg1)) (m' ((c.tc : Thread Cert.EvenConvRefIdeal.nD Cert.EvenConvRefIdeal.τ).loc Cert.EvenConvRefIdeal.main_arg2))) rfl ?_
    rw [(hag c).1, (hag c).2.1, (hag c).2.2]

/-- The odd layer's convolution is the reference's. -/
theorem oddConv : Cert.algebraic_OddConvIdeal_OddConvRefIdeal := by
  intro m g m' g' _ hag
  refine ⟨fun c => OddConv.Ref.out (m ((c.tc : Thread Cert.OddConvIdeal.nD Cert.OddConvIdeal.τ).loc Cert.OddConvIdeal.main_arg0)) (m ((c.tc : Thread Cert.OddConvIdeal.nD Cert.OddConvIdeal.τ).loc Cert.OddConvIdeal.main_arg1)) (m ((c.tc : Thread Cert.OddConvIdeal.nD Cert.OddConvIdeal.τ).loc Cert.OddConvIdeal.main_arg2)), ?_, ?_⟩
  · exact (θ_run _ _ _).mono (fun r h c => ⟨(h c).1.trans (OddConv.Ker.final m c), (h c).2⟩)
      (Cert.OddConvIdeal.Value.run_blocks (F := Ideal) m g)
  · refine (θ_run _ _ _).mono (fun r h c => ⟨(h c).1.trans ?_, (h c).2⟩) (Cert.OddConvRefIdeal.Value.run (F := Ideal) m' g')
    refine Eq.trans (b := OddConv.Ref.out (m' ((c.tc : Thread Cert.OddConvRefIdeal.nD Cert.OddConvRefIdeal.τ).loc Cert.OddConvRefIdeal.main_arg0)) (m' ((c.tc : Thread Cert.OddConvRefIdeal.nD Cert.OddConvRefIdeal.τ).loc Cert.OddConvRefIdeal.main_arg1)) (m' ((c.tc : Thread Cert.OddConvRefIdeal.nD Cert.OddConvRefIdeal.τ).loc Cert.OddConvRefIdeal.main_arg2))) rfl ?_
    rw [(hag c).1, (hag c).2.1, (hag c).2.2]

/-- The values' reference leaves its arguments; it has no semaphore. -/
theorem frame_Values : Cert.quiescent_ValuesRefIdeal := fun m ρ _ =>
  (θ_run Cert.ValuesRefIdeal.defs _ _).mono (fun r h => ⟨fun c => (h c).2, sem_eq_zero_of_no_sems (by decide) r.2⟩)
    (Cert.ValuesRefIdeal.Value.run (F := Ideal) m ρ)

/-- The attention's values are the reference's. -/
theorem values : Cert.algebraic_ValuesIdeal_ValuesRefIdeal := by
  intro m g m' g' _ hag
  refine ⟨fun c => Values.Ref.out (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg4)), ?_, ?_⟩
  · exact (θ_run _ _ _).mono (fun r h c => ⟨(h c).2.2.1.trans (Values.Ker.final m c), (h c).2.2.2⟩)
      (Cert.ValuesIdeal.Value.run_blocks (F := Ideal) m g)
  · refine (θ_run _ _ _).mono (fun r h c => ⟨(h c).1.trans ?_, (h c).2⟩) (Cert.ValuesRefIdeal.Value.run (F := Ideal) m' g')
    refine Eq.trans (b := Values.Ref.out (m' ((c.tc : Thread Cert.ValuesRefIdeal.nD Cert.ValuesRefIdeal.τ).loc Cert.ValuesRefIdeal.main_arg0)) (m' ((c.tc : Thread Cert.ValuesRefIdeal.nD Cert.ValuesRefIdeal.τ).loc Cert.ValuesRefIdeal.main_arg2)) (m' ((c.tc : Thread Cert.ValuesRefIdeal.nD Cert.ValuesRefIdeal.τ).loc Cert.ValuesRefIdeal.main_arg4))) rfl ?_
    rw [(hag c).1, (hag c).2.2.1, (hag c).2.2.2.2]

theorem claim : Cert.Claim :=
  ⟨Cert.Kernel.Gen.facts, Cert.KernelIdeal.Gen.facts, Cert.ReferenceIdeal.Gen.facts,
    Cert.EvenIn.Gen.facts, Cert.EvenInIdeal.Gen.facts, Cert.EvenInRefIdeal.Gen.facts,
    Cert.OddIn.Gen.facts, Cert.OddInIdeal.Gen.facts, Cert.OddInRefIdeal.Gen.facts,
    Cert.OddOut.Gen.facts, Cert.OddOutIdeal.Gen.facts, Cert.OddOutRefIdeal.Gen.facts,
    Cert.Last.Gen.facts, Cert.LastIdeal.Gen.facts, Cert.LastRefIdeal.Gen.facts,
    Cert.EvenOut.Gen.facts, Cert.EvenOutIdeal.Gen.facts, Cert.EvenOutRefIdeal.Gen.facts,
    Cert.Mod.Gen.facts, Cert.ModIdeal.Gen.facts, Cert.ModRefIdeal.Gen.facts,
    Cert.EvenConv.Gen.facts, Cert.EvenConvIdeal.Gen.facts, Cert.EvenConvRefIdeal.Gen.facts,
    Cert.OddConv.Gen.facts, Cert.OddConvIdeal.Gen.facts, Cert.OddConvRefIdeal.Gen.facts,
    Cert.Values.Gen.facts, Cert.ValuesIdeal.Gen.facts, Cert.ValuesRefIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.EvenIn.Gen.frame m ρ, fun m ρ _ => Cert.EvenInIdeal.Gen.frame m ρ, frame_EvenIn,
    fun m ρ _ => Cert.OddIn.Gen.frame m ρ, fun m ρ _ => Cert.OddInIdeal.Gen.frame m ρ, frame_OddIn,
    fun m ρ _ => Cert.OddOut.Gen.frame m ρ, fun m ρ _ => Cert.OddOutIdeal.Gen.frame m ρ, frame_OddOut,
    fun m ρ _ => Cert.Last.Gen.frame m ρ, fun m ρ _ => Cert.LastIdeal.Gen.frame m ρ, frame_Last,
    fun m ρ _ => Cert.EvenOut.Gen.frame m ρ, fun m ρ _ => Cert.EvenOutIdeal.Gen.frame m ρ, frame_EvenOut,
    fun m ρ _ => Cert.Mod.Gen.frame m ρ, fun m ρ _ => Cert.ModIdeal.Gen.frame m ρ, frame_Mod,
    fun m ρ _ => Cert.EvenConv.Gen.frame m ρ, fun m ρ _ => Cert.EvenConvIdeal.Gen.frame m ρ, frame_EvenConv,
    fun m ρ _ => Cert.OddConv.Gen.frame m ρ, fun m ρ _ => Cert.OddConvIdeal.Gen.frame m ρ, frame_OddConv,
    fun m ρ _ => Cert.Values.Gen.frame m ρ, fun m ρ _ => Cert.ValuesIdeal.Gen.frame m ρ, frame_Values,
    trivial, attention, trivial, evenProjection, trivial, oddProjection, trivial, oddOutput, trivial, lastNorm, trivial, evenOutput,
    trivial, modulation, trivial, evenConv, trivial, oddConv, trivial, values⟩

end Cert.Proof

end
